-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
-- ==== Pre_finite_scores.lean ====
abbrev S8x4096x3072 : Shape := ⟨3, ![8, 4096, 3072]⟩
abbrev S16x15x31 : Shape := ⟨3, ![16, 15, 31]⟩
abbrev S8x4096x2048 : Shape := ⟨3, ![8, 4096, 2048]⟩
abbrev S_ : Shape := ⟨0, ![]⟩

class Facts : Prop where
  slices_S8x4096x3072_S8x4096x2048_0_0_0 : S8x4096x3072.Slices ![0, 0, 0] S8x4096x2048
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S16x15x31 : S_.BroadcastsInDim S16x15x31 (![] : Fin 0 → Fin S16x15x31.rank)
  reducesTo_S16x15x31_S_d0_1_2 : S16x15x31.ReducesTo [0, 1, 2] S_

variable [Facts]

def fn {F : FTy → Type} [FloatOps F] (main_arg0 : FVec F S8x4096x3072 .f32) (main_arg1 : FVec F S16x15x31 .f32) : IVec S_ 1 :=
  let main_v0 : FVec F S8x4096x2048 .f32 := (extractStridedSlice S8x4096x2048 ![0, 0, 0] · slices_S8x4096x3072_S8x4096x2048_0_0_0) main_arg0
  let main_v1 : FVec F S8x4096x2048 .f32 := Host.absf main_v0
  let main_cst : FVec F S_ .f32 := constant S_ .f32 0x7F800000#32
  let main_v2 : FVec F S8x4096x2048 .f32 := broadcastInDim S8x4096x2048 ![] bcast_S_S8x4096x2048 main_cst
  let main_v3 : IVec S8x4096x2048 1 := cmpf .olt main_v1 main_v2
  let main_c : IVec S_ 1 := constantI S_ 1 1#1
  let main_v4 : IVec S_ 1 := (fun x v => Host.reduce IntOp.andi x v reducesTo_S8x4096x2048_S_d0_1_2 h_S_) main_v3 main_c
  let main_v5 : FVec F S16x15x31 .f32 := Host.absf main_arg1
  let main_cst_0 : FVec F S_ .f32 := constant S_ .f32 0x7F800000#32
  let main_v6 : FVec F S16x15x31 .f32 := broadcastInDim S16x15x31 ![] bcast_S_S16x15x31 main_cst_0
  let main_v7 : IVec S16x15x31 1 := cmpf .olt main_v5 main_v6
  let main_c_1 : IVec S_ 1 := constantI S_ 1 1#1
  let main_v8 : IVec S_ 1 := (fun x v => Host.reduce IntOp.andi x v reducesTo_S16x15x31_S_d0_1_2 h_S_) main_v7 main_c_1
  let main_v9 : IVec S_ 1 := andi main_v4 main_v8
  main_v9
-- ==== Kernel.lean ====
abbrev S8x4096x3072 : Shape := ⟨3, ![8, 4096, 3072]⟩
abbrev S16x15x31 : Shape := ⟨3, ![16, 15, 31]⟩
abbrev S8x4096x1024 : Shape := ⟨3, ![8, 4096, 1024]⟩
abbrev S_ : Shape := ⟨0, ![]⟩
abbrev S8x4096x4096 : Shape := ⟨3, ![8, 4096, 4096]⟩
abbrev S8x4096x11264 : Shape := ⟨3, ![8, 4096, 11264]⟩
abbrev S14x64x128 : Shape := ⟨3, ![14, 64, 128]⟩
abbrev S16x465 : Shape := ⟨2, ![16, 465]⟩
abbrev S14x64x128x1 : Shape := ⟨4, ![14, 64, 128, 1]⟩
abbrev S16x14x64x128 : Shape := ⟨4, ![16, 14, 64, 128]⟩
abbrev S8x2x14x64x128 : Shape := ⟨5, ![8, 2, 14, 64, 128]⟩
abbrev S1x4096x128 : Shape := ⟨3, ![1, 4096, 128]⟩
abbrev S1x2x14x64x128 : Shape := ⟨5, ![1, 2, 14, 64, 128]⟩
abbrev S2x128x512 : Shape := ⟨3, ![2, 128, 512]⟩
abbrev S128x128 : Shape := ⟨2, ![128, 128]⟩
abbrev S64x128 : Shape := ⟨2, ![64, 128]⟩
abbrev S1x64x128 : Shape := ⟨3, ![1, 64, 128]⟩
abbrev S1x512x128 : Shape := ⟨3, ![1, 512, 128]⟩
abbrev S512x128 : Shape := ⟨2, ![512, 128]⟩
abbrev S128x512 : Shape := ⟨2, ![128, 512]⟩
abbrev S1x128x512 : Shape := ⟨3, ![1, 128, 512]⟩
abbrev S1x1x1x64x128 : Shape := ⟨5, ![1, 1, 1, 64, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 54
  | .vmem => 12
  | .smem => 0
  | _ => 0

abbrev bufTy : (tb : Table) → Fin (tcTables nBuf tb) → BufTy
  | .hbm, ⟨0, _⟩ => ⟨S8x4096x3072, .f32⟩
  | .hbm, ⟨1, _⟩ => ⟨S16x15x31, .f32⟩
  | .hbm, ⟨2, _⟩ => ⟨S8x4096x1024, .f32⟩
  | .hbm, ⟨3, _⟩ => ⟨S8x4096x1024, .f32⟩
  | .hbm, ⟨4, _⟩ => ⟨S8x4096x1024, .f32⟩
  | .hbm, ⟨5, _⟩ => ⟨S_, .f32⟩
  | .hbm, ⟨6, _⟩ => ⟨S8x4096x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x4096x1024, .f32⟩
  | .hbm, ⟨14, _⟩ => ⟨S8x4096x1024, .f32⟩
  | .hbm, ⟨15, _⟩ => ⟨S_, .f32⟩
  | .hbm, ⟨16, _⟩ => ⟨S8x4096x4096, .f32⟩
  | .hbm, ⟨17, _⟩ => ⟨S8x4096x11264, .f32⟩
  | .hbm, ⟨18, _⟩ => ⟨S8x4096x11264, .bf16⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16x15x31, .f32⟩
  | .hbm, ⟨24, _⟩ => ⟨S16x15x31, .f32⟩
  | .hbm, ⟨25, _⟩ => ⟨S14x64x128, .i32⟩
  | .hbm, ⟨26, _⟩ => ⟨S14x64x128, .i32⟩
  | .hbm, ⟨27, _⟩ => ⟨S14x64x128, .i32⟩
  | .hbm, ⟨28, _⟩ => ⟨S_, .i32⟩
  | .hbm, ⟨29, _⟩ => ⟨S14x64x128, .i32⟩
  | .hbm, ⟨30, _⟩ => ⟨S14x64x128, .i32⟩
  | .hbm, ⟨31, _⟩ => ⟨S14x64x128, .i32⟩
  | .hbm, ⟨32, _⟩ => ⟨S_, .i32⟩
  | .hbm, ⟨33, _⟩ => ⟨S14x64x128, .i32⟩
  | .hbm, ⟨34, _⟩ => ⟨S14x64x128, .i32⟩
  | .hbm, ⟨35, _⟩ => ⟨S_, .i32⟩
  | .hbm, ⟨36, _⟩ => ⟨S14x64x128, .i32⟩
  | .hbm, ⟨37, _⟩ => ⟨S14x64x128, .i32⟩
  | .hbm, ⟨38, _⟩ => ⟨S_, .i32⟩
  | .hbm, ⟨39, _⟩ => ⟨S14x64x128, .i32⟩
  | .hbm, ⟨40, _⟩ => ⟨S14x64x128, .i32⟩
  | .hbm, ⟨41, _⟩ => ⟨S_, .i32⟩
  | .hbm, ⟨42, _⟩ => ⟨S14x64x128, .i32⟩
  | .hbm, ⟨43, _⟩ => ⟨S14x64x128, .i32⟩
  | .hbm, ⟨44, _⟩ => ⟨S14x64x128, .i32⟩
  | .hbm, ⟨45, _⟩ => ⟨S_, .i32⟩
  | .hbm, ⟨46, _⟩ => ⟨S14x64x128, .i32⟩
  | .hbm, ⟨47, _⟩ => ⟨S14x64x128, .i32⟩
  | .hbm, ⟨48, _⟩ => ⟨S14x64x128, .i32⟩
  | .hbm, ⟨49, _⟩ => ⟨S16x465, .f32⟩
  | .hbm, ⟨50, _⟩ => ⟨S14x64x128x1, .i32⟩
  | .hbm, ⟨51, _⟩ => ⟨S16x14x64x128, .f32⟩
  | .hbm, ⟨52, _⟩ => ⟨S8x2x14x64x128, .f32⟩
  | .hbm, ⟨53, _⟩ => ⟨S8x4096x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x2x14x64x128, .f32⟩
  | .local _ .vmem, ⟨7, _⟩ => ⟨S1x2x14x64x128, .f32⟩
  | .local _ .vmem, ⟨8, _⟩ => ⟨S1x4096x128, .bf16⟩
  | .local _ .vmem, ⟨9, _⟩ => ⟨S1x4096x128, .bf16⟩
  | .local _ .vmem, ⟨10, _⟩ => ⟨S2x128x512, .f32⟩
  | .local _ .vmem, ⟨11, _⟩ => ⟨S2x128x512, .f32⟩
  | _, _ => ⟨S8x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_6 : Ref sig .tc := ⟨.hbm, 32, rfl⟩
abbrev main_v22 : Ref sig .tc := ⟨.hbm, 33, rfl⟩
abbrev main_v23 : Ref sig .tc := ⟨.hbm, 34, rfl⟩
abbrev main_c_7 : Ref sig .tc := ⟨.hbm, 35, rfl⟩
abbrev main_v24 : Ref sig .tc := ⟨.hbm, 36, rfl⟩
abbrev main_v25 : Ref sig .tc := ⟨.hbm, 37, rfl⟩
abbrev main_c_8 : Ref sig .tc := ⟨.hbm, 38, rfl⟩
abbrev main_v26 : Ref sig .tc := ⟨.hbm, 39, rfl⟩
abbrev main_v27 : Ref sig .tc := ⟨.hbm, 40, rfl⟩
abbrev main_c_9 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_10 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call0_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg1.toNat, c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x14x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x3072 : Shape := ⟨3, ![8, 4096, 3072]⟩
abbrev S16x15x31 : Shape := ⟨3, ![16, 15, 31]⟩
abbrev S8x4096x3x16x64 : Shape := ⟨5, ![8, 4096, 3, 16, 64]⟩
abbrev S8x4096x1x16x64 : Shape := ⟨5, ![8, 4096, 1, 16, 64]⟩
abbrev S8x4096x16x64 : Shape := ⟨4, ![8, 4096, 16, 64]⟩
abbrev S_ : Shape := ⟨0, ![]⟩
abbrev S64x64 : Shape := ⟨2, ![64, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x465 : Shape := ⟨2, ![16, 465]⟩
abbrev S4096x4096x1 : Shape := ⟨3, ![4096, 4096, 1]⟩
abbrev S16x4096x4096 : Shape := ⟨3, ![16, 4096, 4096]⟩
abbrev S8x16x4096x4096 : Shape := ⟨4, ![8, 16, 4096, 4096]⟩
abbrev S1x16x4096x4096 : Shape := ⟨4, ![1, 16, 4096, 4096]⟩
abbrev S8x16x4096 : Shape := ⟨3, ![8, 16, 4096]⟩
abbrev S8x16x4096x1 : Shape := ⟨4, ![8, 16, 4096, 1]⟩
abbrev S8x16x64x4096 : Shape := ⟨4, ![8, 16, 64, 4096]⟩
abbrev S8x4096x1024 : Shape := ⟨3, ![8, 4096, 1024]⟩

abbrev nBuf : Space → Nat
  | .hbm => 117
  | .vmem => 0
  | .smem => 0
  | _ => 0

abbrev bufTy : (tb : Table) → Fin (tcTables nBuf tb) → BufTy
  | .hbm, ⟨0, _⟩ => ⟨S8x4096x3072, .f32⟩
  | .hbm, ⟨1, _⟩ => ⟨S16x15x31, .f32⟩
  | .hbm, ⟨2, _⟩ => ⟨S8x4096x3x16x64, .f32⟩
  | .hbm, ⟨3, _⟩ => ⟨S8x4096x1x16x64, .f32⟩
  | .hbm, ⟨4, _⟩ => ⟨S8x4096x16x64, .f32⟩
  | .hbm, ⟨5, _⟩ => ⟨S_, .f32⟩
  | .hbm, ⟨6, _⟩ => ⟨S8x4096x16x64, .f32⟩
  | .hbm, ⟨7, _⟩ => ⟨S8x4096x16x64, .f32⟩
  | .hbm, ⟨8, _⟩ => ⟨S8x4096x1x16x64, .f32⟩
  | .hbm, ⟨9, _⟩ => ⟨S8x4096x16x64, .f32⟩
  | .hbm, ⟨10, _⟩ => ⟨S8x4096x1x16x64, .f32⟩
  | .hbm, ⟨11, _⟩ => ⟨S8x4096x16x64, .f32⟩
  | .hbm, ⟨12, _⟩ => ⟨S64x64, .i32⟩
  | .hbm, ⟨13, _⟩ => ⟨S4096, .i32⟩
  | .hbm, ⟨14, _⟩ => ⟨S64x64, .i32⟩
  | .hbm, ⟨15, _⟩ => ⟨S4096, .i32⟩
  | .hbm, ⟨16, _⟩ => ⟨S4096x1, .i32⟩
  | .hbm, ⟨17, _⟩ => ⟨S4096x1, .i32⟩
  | .hbm, ⟨18, _⟩ => ⟨S1x4096, .i32⟩
  | .hbm, ⟨19, _⟩ => ⟨S1x4096, .i32⟩
  | .hbm, ⟨20, _⟩ => ⟨S_, .i32⟩
  | .hbm, ⟨21, _⟩ => ⟨S4096x1, .i32⟩
  | .hbm, ⟨22, _⟩ => ⟨S4096x1, .i32⟩
  | .hbm, ⟨23, _⟩ => ⟨S_, .i32⟩
  | .hbm, ⟨24, _⟩ => ⟨S4096x1, .i32⟩
  | .hbm, ⟨25, _⟩ => ⟨S4096x1, .i32⟩
  | .hbm, ⟨26, _⟩ => ⟨S_, .i32⟩
  | .hbm, ⟨27, _⟩ => ⟨S4096x1, .i32⟩
  | .hbm, ⟨28, _⟩ => ⟨S4096x1, .i32⟩
  | .hbm, ⟨29, _⟩ => ⟨S_, .i32⟩
  | .hbm, ⟨30, _⟩ => ⟨S4096x1, .i32⟩
  | .hbm, ⟨31, _⟩ => ⟨S4096x1, .i32⟩
  | .hbm, ⟨32, _⟩ => ⟨S_, .i32⟩
  | .hbm, ⟨33, _⟩ => ⟨S4096x1, .i32⟩
  | .hbm, ⟨34, _⟩ => ⟨S4096x1, .i32⟩
  | .hbm, ⟨35, _⟩ => ⟨S_, .i32⟩
  | .hbm, ⟨36, _⟩ => ⟨S4096x1, .i32⟩
  | .hbm, ⟨37, _⟩ => ⟨S4096x1, .i32⟩
  | .hbm, ⟨38, _⟩ => ⟨S4096x4096, .i32⟩
  | .hbm, ⟨39, _⟩ => ⟨S4096x4096, .i32⟩
  | .hbm, ⟨40, _⟩ => ⟨S4096x4096, .i1⟩
  | .hbm, ⟨41, _⟩ => ⟨S_, .i32⟩
  | .hbm, ⟨42, _⟩ => ⟨S4096x1, .i32⟩
  | .hbm, ⟨43, _⟩ => ⟨S4096x1, .i32⟩
  | .hbm, ⟨44, _⟩ => ⟨S4096x4096, .i32⟩
  | .hbm, ⟨45, _⟩ => ⟨S4096x4096, .i32⟩
  | .hbm, ⟨46, _⟩ => ⟨S4096x4096, .i1⟩
  | .hbm, ⟨47, _⟩ => ⟨S4096x4096, .i1⟩
  | .hbm, ⟨48, _⟩ => ⟨S4096x4096, .i32⟩
  | .hbm, ⟨49, _⟩ => ⟨S4096x4096, .i32⟩
  | .hbm, ⟨50, _⟩ => ⟨S4096x4096, .i1⟩
  | .hbm, ⟨51, _⟩ => ⟨S4096x4096, .i1⟩
  | .hbm, ⟨52, _⟩ => ⟨S_, .i32⟩
  | .hbm, ⟨53, _⟩ => ⟨S4096x1, .i32⟩
  | .hbm, ⟨54, _⟩ => ⟨S4096x1, .i32⟩
  | .hbm, ⟨55, _⟩ => ⟨S4096x4096, .i32⟩
  | .hbm, ⟨56, _⟩ => ⟨S4096x4096, .i32⟩
  | .hbm, ⟨57, _⟩ => ⟨S4096x4096, .i1⟩
  | .hbm, ⟨58, _⟩ => ⟨S4096x4096, .i1⟩
  | .hbm, ⟨59, _⟩ => ⟨S4096x4096, .i32⟩
  | .hbm, ⟨60, _⟩ => ⟨S4096x4096, .i32⟩
  | .hbm, ⟨61, _⟩ => ⟨S4096x4096, .i32⟩
  | .hbm, ⟨62, _⟩ => ⟨S_, .i32⟩
  | .hbm, ⟨63, _⟩ => ⟨S4096x4096, .i32⟩
  | .hbm, ⟨64, _⟩ => ⟨S4096x4096, .i32⟩
  | .hbm, ⟨65, _⟩ => ⟨S_, .i32⟩
  | .hbm, ⟨66, _⟩ => ⟨S4096x4096, .i32⟩
  | .hbm, ⟨67, _⟩ => ⟨S4096x4096, .i32⟩
  | .hbm, ⟨68, _⟩ => ⟨S_, .i32⟩
  | .hbm, ⟨69, _⟩ => ⟨S4096x4096, .i32⟩
  | .hbm, ⟨70, _⟩ => ⟨S4096x4096, .i32⟩
  | .hbm, ⟨71, _⟩ => ⟨S4096x4096, .i32⟩
  | .hbm, ⟨72, _⟩ => ⟨S4096x4096, .i32⟩
  | .hbm, ⟨73, _⟩ => ⟨S4096x4096, .i32⟩
  | .hbm, ⟨74, _⟩ => ⟨S_, .i32⟩
  | .hbm, ⟨75, _⟩ => ⟨S4096x4096, .i32⟩
  | .hbm, ⟨76, _⟩ => ⟨S4096x4096, .i32⟩
  | .hbm, ⟨77, _⟩ => ⟨S_, .i32⟩
  | .hbm, ⟨78, _⟩ => ⟨S4096x4096, .i32⟩
  | .hbm, ⟨79, _⟩ => ⟨S4096x4096, .i32⟩
  | .hbm, ⟨80, _⟩ => ⟨S_, .i32⟩
  | .hbm, ⟨81, _⟩ => ⟨S4096x4096, .i32⟩
  | .hbm, ⟨82, _⟩ => ⟨S4096x4096, .i32⟩
  | .hbm, ⟨83, _⟩ => ⟨S16x465, .f32⟩
  | .hbm, ⟨84, _⟩ => ⟨S_, .i32⟩
  | .hbm, ⟨85, _⟩ => ⟨S4096x4096, .i32⟩
  | .hbm, ⟨86, _⟩ => ⟨S4096x4096, .i32⟩
  | .hbm, ⟨87, _⟩ => ⟨S4096x4096, .i32⟩
  | .hbm, ⟨88, _⟩ => ⟨S4096x4096x1, .i32⟩
  | .hbm, ⟨89, _⟩ => ⟨S16x4096x4096, .f32⟩
  | .hbm, ⟨90, _⟩ => ⟨S8x16x4096x4096, .f32⟩
  | .hbm, ⟨91, _⟩ => ⟨S1x16x4096x4096, .f32⟩
  | .hbm, ⟨92, _⟩ => ⟨S8x16x4096x4096, .f32⟩
  | .hbm, ⟨93, _⟩ => ⟨S8x16x4096x4096, .f32⟩
  | .hbm, ⟨94, _⟩ => ⟨S_, .f32⟩
  | .hbm, ⟨95, _⟩ => ⟨S_, .f32⟩
  | .hbm, ⟨96, _⟩ => ⟨S8x16x4096x4096, .i1⟩
  | .hbm, ⟨97, _⟩ => ⟨S8x16x4096x4096, .f32⟩
  | .hbm, ⟨98, _⟩ => ⟨S8x16x4096x4096, .f32⟩
  | .hbm, ⟨99, _⟩ => ⟨S_, .f32⟩
  | .hbm, ⟨100, _⟩ => ⟨S8x16x4096, .f32⟩
  | .hbm, ⟨101, _⟩ => ⟨S_, .f32⟩
  | .hbm, ⟨102, _⟩ => ⟨S8x16x4096, .f32⟩
  | .hbm, ⟨103, _⟩ => ⟨S8x16x4096, .f32⟩
  | .hbm, ⟨104, _⟩ => ⟨S8x16x4096x1, .f32⟩
  | .hbm, ⟨105, _⟩ => ⟨S8x16x4096x4096, .f32⟩
  | .hbm, ⟨106, _⟩ => ⟨S8x16x4096x4096, .f32⟩
  | .hbm, ⟨107, _⟩ => ⟨S8x16x4096x4096, .f32⟩
  | .hbm, ⟨108, _⟩ => ⟨S_, .f32⟩
  | .hbm, ⟨109, _⟩ => ⟨S8x16x4096, .f32⟩
  | .hbm, ⟨110, _⟩ => ⟨S8x16x4096x1, .f32⟩
  | .hbm, ⟨111, _⟩ => ⟨S8x16x4096x4096, .f32⟩
  | .hbm, ⟨112, _⟩ => ⟨S8x16x4096x4096, .f32⟩
  | .hbm, ⟨113, _⟩ => ⟨S8x16x64x4096, .f32⟩
  | .hbm, ⟨114, _⟩ => ⟨S8x4096x16x64, .f32⟩
  | .hbm, ⟨115, _⟩ => ⟨S8x4096x1024, .f32⟩
  | .hbm, ⟨116, _⟩ => ⟨S8x4096x1024, .bf16⟩
  | _, _ => ⟨S8x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c : Ref sig .tc := ⟨.hbm, 20, rfl⟩
abbrev main_v17 : Ref sig .tc := ⟨.hbm, 21, rfl⟩
abbrev main_v18 : Ref sig .tc := ⟨.hbm, 22, rfl⟩
abbrev main_c_0 : Ref sig .tc := ⟨.hbm, 23, rfl⟩
abbrev main_v19 : Ref sig .tc := ⟨.hbm, 24, rfl⟩
abbrev main_v20 : Ref sig .tc := ⟨.hbm, 25, rfl⟩
abbrev main_c_1 : Ref sig .tc := ⟨.hbm, 26, rfl⟩
abbrev main_v21 : Ref sig .tc := ⟨.hbm, 27, rfl⟩
abbrev main_v22 : Ref sig .tc := ⟨.hbm, 28, rfl⟩
abbrev main_c_2 : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_v25 : Ref sig .tc := ⟨.hbm, 33, rfl⟩
abbrev main_v26 : Ref sig .tc := ⟨.hbm, 34, rfl⟩
abbrev main_c_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_6 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_c_7 : Ref sig .tc := ⟨.hbm, 62, rfl⟩
abbrev main_v51 : Ref sig .tc := ⟨.hbm, 63, rfl⟩
abbrev main_v52 : Ref sig .tc := ⟨.hbm, 64, rfl⟩
abbrev main_c_8 : Ref sig .tc := ⟨.hbm, 65, rfl⟩
abbrev main_v53 : Ref sig .tc := ⟨.hbm, 66, rfl⟩
abbrev main_v54 : Ref sig .tc := ⟨.hbm, 67, rfl⟩
abbrev main_c_9 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_c_10 : Ref sig .tc := ⟨.hbm, 74, rfl⟩
abbrev main_v60 : Ref sig .tc := ⟨.hbm, 75, rfl⟩
abbrev main_v61 : Ref sig .tc := ⟨.hbm, 76, rfl⟩
abbrev main_c_11 : Ref sig .tc := ⟨.hbm, 77, rfl⟩
abbrev main_v62 : Ref sig .tc := ⟨.hbm, 78, rfl⟩
abbrev main_v63 : Ref sig .tc := ⟨.hbm, 79, rfl⟩
abbrev main_c_12 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_c_13 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_call0_v0 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_14 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v75 : Ref sig .tc := ⟨.hbm, 98, rfl⟩
abbrev main_cst_15 : Ref sig .tc := ⟨.hbm, 99, rfl⟩
abbrev main_v76 : Ref sig .tc := ⟨.hbm, 100, rfl⟩
abbrev main_cst_16 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_17 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩

abbrev nD : Nat := 1
abbrev τ : Topo := Topo.v7x

variable {F : FTy → Type} [FloatOps F]
-- ==== Kernel2.lean ====
abbrev S8x4096x2048 : Shape := ⟨3, ![8, 4096, 2048]⟩
abbrev S2048x11008 : Shape := ⟨2, ![2048, 11008]⟩
abbrev S3x5504 : Shape := ⟨2, ![3, 5504]⟩
abbrev S5504 : Shape := ⟨1, ![5504]⟩
abbrev S5504x2048 : Shape := ⟨2, ![5504, 2048]⟩
abbrev S2048 : Shape := ⟨1, ![2048]⟩
abbrev S2048x5504 : Shape := ⟨2, ![2048, 5504]⟩
abbrev S_ : Shape := ⟨0, ![]⟩
abbrev S2048x5632 : Shape := ⟨2, ![2048, 5632]⟩
abbrev S3x5632 : Shape := ⟨2, ![3, 5632]⟩
abbrev S1x5504 : Shape := ⟨2, ![1, 5504]⟩
abbrev S1x5632 : Shape := ⟨2, ![1, 5632]⟩
abbrev S32768x2048 : Shape := ⟨2, ![32768, 2048]⟩
abbrev S1x2048 : Shape := ⟨2, ![1, 2048]⟩
abbrev S1024x2048 : Shape := ⟨2, ![1024, 2048]⟩
abbrev S16x2048 : Shape := ⟨2, ![16, 2048]⟩
abbrev S2048x512 : Shape := ⟨2, ![2048, 512]⟩
abbrev S512x2048 : Shape := ⟨2, ![512, 2048]⟩
abbrev S3x512 : Shape := ⟨2, ![3, 512]⟩
abbrev S1x512 : Shape := ⟨2, ![1, 512]⟩
abbrev S1056x2048 : Shape := ⟨2, ![1056, 2048]⟩
abbrev S1056x512 : Shape := ⟨2, ![1056, 512]⟩
abbrev S1024x512 : Shape := ⟨2, ![1024, 512]⟩
abbrev S2048x384 : Shape := ⟨2, ![2048, 384]⟩
abbrev S1056x384 : Shape := ⟨2, ![1056, 384]⟩
abbrev S1024x384 : Shape := ⟨2, ![1024, 384]⟩
abbrev S1x384 : Shape := ⟨2, ![1, 384]⟩
abbrev S256x2048 : Shape := ⟨2, ![256, 2048]⟩
abbrev S256x384 : Shape := ⟨2, ![256, 384]⟩
abbrev S384x2048 : Shape := ⟨2, ![384, 2048]⟩
abbrev S256 : Shape := ⟨1, ![256]⟩
abbrev S256x1 : Shape := ⟨2, ![256, 1]⟩

abbrev nBuf : Space → Nat
  | .hbm => 29
  | .vmem => 21
  | .smem => 0
  | _ => 0

abbrev bufTy : (tb : Table) → Fin (tcTables nBuf tb) → BufTy
  | .hbm, ⟨0, _⟩ => ⟨S8x4096x2048, .f32⟩
  | .hbm, ⟨1, _⟩ => ⟨S2048x11008, .f32⟩
  | .hbm, ⟨2, _⟩ => ⟨S3x5504, .f32⟩
  | .hbm, ⟨3, _⟩ => ⟨S5504, .f32⟩
  | .hbm, ⟨4, _⟩ => ⟨S5504x2048, .f32⟩
  | .hbm, ⟨5, _⟩ => ⟨S2048, .f32⟩
  | .hbm, ⟨6, _⟩ => ⟨S2048, .f32⟩
  | .hbm, ⟨7, _⟩ => ⟨S2048x5504, .f32⟩
  | .hbm, ⟨8, _⟩ => ⟨S_, .i32⟩
  | .hbm, ⟨9, _⟩ => ⟨S_, .f32⟩
  | .hbm, ⟨10, _⟩ => ⟨S2048x5632, .f32⟩
  | .hbm, ⟨11, _⟩ => ⟨S2048x5632, .bf16⟩
  | .hbm, ⟨12, _⟩ => ⟨S2048x5504, .f32⟩
  | .hbm, ⟨13, _⟩ => ⟨S_, .i32⟩
  | .hbm, ⟨14, _⟩ => ⟨S_, .f32⟩
  | .hbm, ⟨15, _⟩ => ⟨S2048x5632, .f32⟩
  | .hbm, ⟨16, _⟩ => ⟨S2048x5632, .bf16⟩
  | .hbm, ⟨17, _⟩ => ⟨S5504x2048, .bf16⟩
  | .hbm, ⟨18, _⟩ => ⟨S_, .i32⟩
  | .hbm, ⟨19, _⟩ => ⟨S_, .f32⟩
  | .hbm, ⟨20, _⟩ => ⟨S3x5632, .f32⟩
  | .hbm, ⟨21, _⟩ => ⟨S1x5504, .f32⟩
  | .hbm, ⟨22, _⟩ => ⟨S_, .i32⟩
  | .hbm, ⟨23, _⟩ => ⟨S_, .f32⟩
  | .hbm, ⟨24, _⟩ => ⟨S1x5632, .f32⟩
  | .hbm, ⟨25, _⟩ => ⟨S32768x2048, .f32⟩
  | .hbm, ⟨26, _⟩ => ⟨S1x2048, .f32⟩
  | .hbm, ⟨27, _⟩ => ⟨S1x2048, .f32⟩
  | .hbm, ⟨28, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S3x512, .f32⟩
  | .local _ .vmem, ⟨13, _⟩ => ⟨S3x512, .f32⟩
  | .local _ .vmem, ⟨14, _⟩ => ⟨S1x512, .f32⟩
  | .local _ .vmem, ⟨15, _⟩ => ⟨S1x512, .f32⟩
  | .local _ .vmem, ⟨16, _⟩ => ⟨S1x2048, .f32⟩
  | .local _ .vmem, ⟨17, _⟩ => ⟨S1x2048, .f32⟩
  | .local _ .vmem, ⟨18, _⟩ => ⟨S1024x2048, .f32⟩
  | .local _ .vmem, ⟨19, _⟩ => ⟨S1024x2048, .f32⟩
  | .local _ .vmem, ⟨20, _⟩ => ⟨S1056x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call2_v0 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_call3_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference2Ideal.lean ====
abbrev S8x4096x2048 : Shape := ⟨3, ![8, 4096, 2048]⟩
abbrev S2048x11008 : Shape := ⟨2, ![2048, 11008]⟩
abbrev S3x5504 : Shape := ⟨2, ![3, 5504]⟩
abbrev S5504 : Shape := ⟨1, ![5504]⟩
abbrev S5504x2048 : Shape := ⟨2, ![5504, 2048]⟩
abbrev S2048 : Shape := ⟨1, ![2048]⟩
abbrev S8x4096x11008 : Shape := ⟨3, ![8, 4096, 11008]⟩
abbrev S8x4096x5504 : Shape := ⟨3, ![8, 4096, 5504]⟩
abbrev S_ : Shape := ⟨0, ![]⟩
abbrev S8x4098x5504 : Shape := ⟨3, ![8, 4098, 5504]⟩
abbrev S1x5504 : Shape := ⟨2, ![1, 5504]⟩
abbrev S1x1x5504 : Shape := ⟨3, ![1, 1, 5504]⟩
abbrev S8x4096 : Shape := ⟨2, ![8, 4096]⟩
abbrev S8x4096x1 : Shape := ⟨3, ![8, 4096, 1]⟩
abbrev S1x1x2048 : Shape := ⟨3, ![1, 1, 2048]⟩
abbrev S32768x2048 : Shape := ⟨2, ![32768, 2048]⟩

abbrev nBuf : Space → Nat
  | .hbm => 81
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048x11008, .f32⟩
  | .hbm, ⟨2, _⟩ => ⟨S3x5504, .f32⟩
  | .hbm, ⟨3, _⟩ => ⟨S5504, .f32⟩
  | .hbm, ⟨4, _⟩ => ⟨S5504x2048, .f32⟩
  | .hbm, ⟨5, _⟩ => ⟨S2048, .f32⟩
  | .hbm, ⟨6, _⟩ => ⟨S2048, .f32⟩
  | .hbm, ⟨7, _⟩ => ⟨S8x4096x11008, .f32⟩
  | .hbm, ⟨8, _⟩ => ⟨S8x4096x5504, .f32⟩
  | .hbm, ⟨9, _⟩ => ⟨S8x4096x5504, .f32⟩
  | .hbm, ⟨10, _⟩ => ⟨S_, .i32⟩
  | .hbm, ⟨11, _⟩ => ⟨S_, .f32⟩
  | .hbm, ⟨12, _⟩ => ⟨S8x4098x5504, .f32⟩
  | .hbm, ⟨13, _⟩ => ⟨S8x4096x5504, .f32⟩
  | .hbm, ⟨14, _⟩ => ⟨S1x5504, .f32⟩
  | .hbm, ⟨15, _⟩ => ⟨S5504, .f32⟩
  | .hbm, ⟨16, _⟩ => ⟨S1x1x5504, .f32⟩
  | .hbm, ⟨17, _⟩ => ⟨S8x4096x5504, .f32⟩
  | .hbm, ⟨18, _⟩ => ⟨S8x4096x5504, .f32⟩
  | .hbm, ⟨19, _⟩ => ⟨S8x4096x5504, .f32⟩
  | .hbm, ⟨20, _⟩ => ⟨S1x5504, .f32⟩
  | .hbm, ⟨21, _⟩ => ⟨S5504, .f32⟩
  | .hbm, ⟨22, _⟩ => ⟨S1x1x5504, .f32⟩
  | .hbm, ⟨23, _⟩ => ⟨S8x4096x5504, .f32⟩
  | .hbm, ⟨24, _⟩ => ⟨S8x4096x5504, .f32⟩
  | .hbm, ⟨25, _⟩ => ⟨S8x4096x5504, .f32⟩
  | .hbm, ⟨26, _⟩ => ⟨S8x4096x5504, .f32⟩
  | .hbm, ⟨27, _⟩ => ⟨S1x5504, .f32⟩
  | .hbm, ⟨28, _⟩ => ⟨S5504, .f32⟩
  | .hbm, ⟨29, _⟩ => ⟨S1x1x5504, .f32⟩
  | .hbm, ⟨30, _⟩ => ⟨S8x4096x5504, .f32⟩
  | .hbm, ⟨31, _⟩ => ⟨S8x4096x5504, .f32⟩
  | .hbm, ⟨32, _⟩ => ⟨S8x4096x5504, .f32⟩
  | .hbm, ⟨33, _⟩ => ⟨S1x1x5504, .f32⟩
  | .hbm, ⟨34, _⟩ => ⟨S8x4096x5504, .f32⟩
  | .hbm, ⟨35, _⟩ => ⟨S8x4096x5504, .f32⟩
  | .hbm, ⟨36, _⟩ => ⟨S_, .f32⟩
  | .hbm, ⟨37, _⟩ => ⟨S8x4096x5504, .f32⟩
  | .hbm, ⟨38, _⟩ => ⟨S8x4096x5504, .f32⟩
  | .hbm, ⟨39, _⟩ => ⟨S8x4096x5504, .f32⟩
  | .hbm, ⟨40, _⟩ => ⟨S_, .f32⟩
  | .hbm, ⟨41, _⟩ => ⟨S8x4096x5504, .f32⟩
  | .hbm, ⟨42, _⟩ => ⟨S8x4096x5504, .f32⟩
  | .hbm, ⟨43, _⟩ => ⟨S8x4096x5504, .f32⟩
  | .hbm, ⟨44, _⟩ => ⟨S8x4096x5504, .f32⟩
  | .hbm, ⟨45, _⟩ => ⟨S_, .f32⟩
  | .hbm, ⟨46, _⟩ => ⟨S8x4096x2048, .f32⟩
  | .hbm, ⟨47, _⟩ => ⟨S8x4096x2048, .f32⟩
  | .hbm, ⟨48, _⟩ => ⟨S8x4096x5504, .f32⟩
  | .hbm, ⟨49, _⟩ => ⟨S8x4096x2048, .f32⟩
  | .hbm, ⟨50, _⟩ => ⟨S8x4096x2048, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S_, .f32⟩
  | .hbm, ⟨55, _⟩ => ⟨S8x4096x1, .f32⟩
  | .hbm, ⟨56, _⟩ => ⟨S8x4096x1, .f32⟩
  | .hbm, ⟨57, _⟩ => ⟨S8x4096x2048, .f32⟩
  | .hbm, ⟨58, _⟩ => ⟨S8x4096x2048, .f32⟩
  | .hbm, ⟨59, _⟩ => ⟨S8x4096x2048, .f32⟩
  | .hbm, ⟨60, _⟩ => ⟨S_, .f32⟩
  | .hbm, ⟨61, _⟩ => ⟨S8x4096, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S8x4096x2048, .f32⟩
  | .hbm, ⟨67, _⟩ => ⟨S8x4096x2048, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S8x4096x1, .f32⟩
  | .hbm, ⟨72, _⟩ => ⟨S8x4096x2048, .f32⟩
  | .hbm, ⟨73, _⟩ => ⟨S8x4096x2048, .f32⟩
  | .hbm, ⟨74, _⟩ => ⟨S1x1x2048, .f32⟩
  | .hbm, ⟨75, _⟩ => ⟨S8x4096x2048, .f32⟩
  | .hbm, ⟨76, _⟩ => ⟨S8x4096x2048, .f32⟩
  | .hbm, ⟨77, _⟩ => ⟨S1x1x2048, .f32⟩
  | .hbm, ⟨78, _⟩ => ⟨S8x4096x2048, .f32⟩
  | .hbm, ⟨79, _⟩ => ⟨S8x4096x2048, .f32⟩
  | .hbm, ⟨80, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_1 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== Proof.Rows.lean ====
/- What the attention kernel leaves in its output block, row by row of the token grid: each of the 64 stores is one
   function of the query rows, the key and value rows of the window, and the two heads' bias rows. -/
module

public import proofs.«01_k».proof.Proof.Gen.KernelIdeal.Value
public import Idealize.ShloMosaic.Lib.ValueIdxCore
public import Idealize.ShloMosaic.Lib.Pipeline.ReadBack
public import Idealize.ShloMosaic.Lib.WholeRead

@[expose] public section

set_option maxRecDepth 100000

noncomputable section

namespace Cert.KernelIdeal.Rows

open Cert.KernelIdeal Cert.KernelIdeal.Gen Idealize.ShloMosaic Idealize.ShloMosaic.TcCoe Idealize.ShloMosaic.ValueIdx

variable {F : FTy → Type} [FloatOps F] [Named F]

/-- The index of a rank-3 array with leading axis one. -/
abbrev at3 {n k : ℕ} (i : Fin n) (j : Fin k) : (⟨3, ![1, n, k]⟩ : Shape).Idx :=
  ix3 0 i j

/-- `n` rows of a block of 4096 rows, from row `o` on. -/
def rowsAt {e : EltTy} (n : ℕ) (x : Vec F S1x4096x128 e) (o : ℕ) : Vec F ⟨3, ![1, n, 128]⟩ e :=
  fun i => x (at3 (Fin.ofNat 4096 (o + (i 1).val)) (i 2))

/-- One head's bias rows for a row offset. -/
def biasAt (x : Vec F S1x2x14x64x128 .f32) (a : Fin 2) (o : ℕ) : Vec F S1x1x1x64x128 .f32 :=
  fun i => x (ix5 0 a (Fin.ofNat 14 o) (i 3) (i 4))

/-- The scores of 64 queries of two heads (stacked) against 512 keys. -/
def scores (q : Vec F S1x64x128 .bf16) (k : Vec F S1x512x128 .bf16) : FVec F S128x512 .f32 :=
  matmul dot_S128x128_S512x128_S128x512_1_1_0_0_n_n none
    (concatenate S128x128 0
      [⟨S64x128, select k0_pay3 (shapeCast S64x128 q shapeCasts_S1x64x128_S64x128) (broadcast S64x128 (Scalar.ofBits .bf16 0x0000#16))⟩,
       ⟨S64x128, select k0_pay3 (broadcast S64x128 (Scalar.ofBits .bf16 0x0000#16)) (shapeCast S64x128 q shapeCasts_S1x64x128_S64x128)⟩]
      concatenates_S64x128_S64x128_S128x128_d0)
    (shapeCast S512x128 k shapeCasts_S1x512x128_S512x128) (constant S128x512 .f32 0x00000000#32)

/-- The scores, with the unit axis they are stored with. -/
def storedScores (q : Vec F S1x64x128 .bf16) (k : Vec F S1x512x128 .bf16) : FVec F S1x128x512 .f32 :=
  shapeCast S1x128x512 (scores q k) shapeCasts_S128x512_S1x128x512

/-- 128 columns of the stored scores, from column `o` on. -/
def colsAt (s : FVec F S1x128x512 .f32) (o : ℕ) : Vec F S1x128x128 .f32 :=
  fun i => s (at3 (i 1) (Fin.ofNat 512 (o + (i 2).val)))

/-- A quarter of the window: the scores with the bias added where the key is in the window, the mask elsewhere. -/
def quarter (b₀ b₁ : Vec F S1x1x1x64x128 .f32) (s : Vec F S1x128x128 .f32) : FVec F S128x128 .f32 :=
  select k0_pay2
    (addf (shapeCast S128x128 s shapeCasts_S1x128x128_S128x128)
      (concatenate S128x128 0 [⟨S64x128, shapeCast S64x128 b₀ shapeCasts_S1x1x1x64x128_S64x128⟩, ⟨S64x128, shapeCast S64x128 b₁ shapeCasts_S1x1x1x64x128_S64x128⟩]
        concatenates_S64x128_S64x128_S128x128_d0))
    (broadcast S128x128 (Named.named κ "mask" 0xF149F2CA#32))

/-- The softmax average of the values over the four quarters. -/
def average (c₀ c₁ c₂ c₃ : FVec F S128x128 .f32) (v : Vec F S1x512x128 .bf16) : FVec F S1x64x128 .bf16 :=
  k0_pay1 k0_pay3 c₀ c₁ c₂ c₃ (maximumf (maximumf c₀ c₁) (maximumf c₂ c₃)) v

/-- One row of the grid: its 64 queries' results, from the row, the first key row (in tokens) and the bias row offset. -/
def row (x₀ x₁ x₂ : Vec F S1x4096x128 .bf16) (x₃ : Vec F S1x2x14x64x128 .f32) (qo ko bo : ℕ) : FVec F S1x64x128 .bf16 :=
  let s := storedScores (rowsAt 64 x₀ qo) (rowsAt 512 x₁ ko)
  average (quarter (biasAt x₃ 0 bo) (biasAt x₃ 1 bo) (colsAt s 0)) (quarter (biasAt x₃ 0 (bo + 2)) (biasAt x₃ 1 (bo + 2)) (colsAt s 128))
    (quarter (biasAt x₃ 0 (bo + 4)) (biasAt x₃ 1 (bo + 4)) (colsAt s 256)) (quarter (biasAt x₃ 0 (bo + 6)) (biasAt x₃ 1 (bo + 6)) (colsAt s 384))
    (rowsAt 512 x₂ ko)

/-- The first token of the window of grid row `r`. -/
def keyBase (r : ℕ) : ℕ := 64 * min (r - 4) 56
/-- The first row offset of the window of grid row `r`. -/
def offBase (r : ℕ) : ℕ := min (r - 4) 56 + 7 - r

/-- The whole output block. -/
def block (x₀ x₁ x₂ : Vec F S1x4096x128 .bf16) (x₃ : Vec F S1x2x14x64x128 .f32) : Vec F S1x4096x128 .bf16 :=
  fun i => row x₀ x₁ x₂ x₃ (64 * ((i 1).val / 64)) (keyBase ((i 1).val / 64)) (offBase ((i 1).val / 64)) (at3 (Fin.ofNat 64 (i 1).val) (i 2))

/-! ## Loads -/

/-- Rows loaded from a whole block. -/
theorem load_rows {e : EltTy} {n : ℕ} {M : Memref sig .tc .vmem S1x4096x128 e} (h : M.IsWhole) (x : Vec F S1x4096x128 e) (o : ℕ)
    (inb : ∀ a, (![0, o, 0] : Fin 3 → ℕ) a + (![1, n, 128] : Fin 3 → ℕ) a ≤ S1x4096x128.size a) :
    View.readAt (Elt F) M.view (Rect.unit (s := S1x4096x128) ![0, o, 0] ![1, n, 128] inb).toLoadRect (h.unread x) = rowsAt n x o := by
  funext i
  rw [Memref.IsWhole.readAt_unread h]
  refine congrArg x (funext fun a => Fin.ext ?_)
  have h1 := inb 1
  have hi := (i 1).isLt
  match a with
  | 0 => exact Nat.lt_one_iff.mp (show _ < 1 from Fin.isLt _)
  | 1 =>
    show o + 1 * (i 1).val = (o + (i 1).val) % 4096
    change o + n ≤ 4096 at h1
    change (i 1).val < n at hi
    rw [Nat.mod_eq_of_lt (by omega)]; omega
  | 2 => show 0 + 1 * (i 2).val = (i 2).val; omega

/-- Bias rows loaded from the whole bias block. -/
theorem load_bias {M : Memref sig .tc .vmem S1x2x14x64x128 .f32} (h : M.IsWhole) (x : Vec F S1x2x14x64x128 .f32) (a : Fin 2) (o : ℕ)
    (inb : ∀ b, (![0, a.val, o, 0, 0] : Fin 5 → ℕ) b + S1x1x1x64x128.size b ≤ S1x2x14x64x128.size b) :
    View.readAt (Elt F) M.view (Rect.unit (s := S1x2x14x64x128) ![0, a.val, o, 0, 0] S1x1x1x64x128.size inb).toLoadRect (h.unread x) = biasAt x a o := by
  funext i
  rw [Memref.IsWhole.readAt_unread h]
  refine congrArg x (funext fun b => Fin.ext ?_)
  have h2 : o + 1 ≤ 14 := inb 2
  match b with
  | 0 => exact Nat.lt_one_iff.mp (show _ < 1 from Fin.isLt _)
  | 1 =>
    have : (i 1).val < 1 := (i 1).isLt
    show a.val + 1 * (i 1).val = a.val; omega
  | 2 =>
    have : (i 2).val < 1 := (i 2).isLt
    show o + 1 * (i 2).val = o % 14
    rw [Nat.mod_eq_of_lt (by omega)]; omega
  | 3 => show 0 + 1 * (i 3).val = (i 3).val; omega
  | 4 => show 0 + 1 * (i 4).val = (i 4).val; omega

/-- The first head's bias rows. -/
theorem load_bias0 {M : Memref sig .tc .vmem S1x2x14x64x128 .f32} (h : M.IsWhole) (x : Vec F S1x2x14x64x128 .f32) (o : ℕ)
    (inb : ∀ b, (![0, 0, o, 0, 0] : Fin 5 → ℕ) b + S1x1x1x64x128.size b ≤ S1x2x14x64x128.size b) :
    View.readAt (Elt F) M.view (Rect.unit (s := S1x2x14x64x128) ![0, 0, o, 0, 0] S1x1x1x64x128.size inb).toLoadRect (h.unread x) = biasAt x 0 o :=
  load_bias h x 0 o inb

/-- The second head's bias rows. -/
theorem load_bias1 {M : Memref sig .tc .vmem S1x2x14x64x128 .f32} (h : M.IsWhole) (x : Vec F S1x2x14x64x128 .f32) (o : ℕ)
    (inb : ∀ b, (![0, 1, o, 0, 0] : Fin 5 → ℕ) b + S1x1x1x64x128.size b ≤ S1x2x14x64x128.size b) :
    View.readAt (Elt F) M.view (Rect.unit (s := S1x2x14x64x128) ![0, 1, o, 0, 0] S1x1x1x64x128.size inb).toLoadRect (h.unread x) = biasAt x 1 o :=
  load_bias h x 1 o inb

/-- Columns loaded from a page of the score buffer, right after the page was stored. -/
theorem load_cols (v : View sig .tc .vmem S2x128x512 .f32) (u o : ℕ) (w : Vec F S1x128x512 .f32) (L : List (View.Piece (Elt F) S2x128x512 .f32))
    (inb : ∀ a, (![u, 0, 0] : Fin 3 → ℕ) a + S1x128x512.size a ≤ S2x128x512.size a)
    (inb' : ∀ a, (![u, 0, o] : Fin 3 → ℕ) a + S1x128x128.size a ≤ S2x128x512.size a) :
    v.readCov (⟨Rect.unit (s := S2x128x512) ![u, 0, 0] S1x128x512.size inb, w⟩ :: L) (Rect.unit (s := S2x128x512) ![u, 0, o] S1x128x128.size inb').toLoadRect = colsAt w o := by
  rw [View.readCov_eq_canon']
  funext i
  have ho : o + 128 ≤ 512 := inb' 2
  have hi : (i 2).val < 128 := (i 2).isLt
  have e : (Rect.unit (s := S2x128x512) ![u, 0, o] S1x128x128.size inb').toLoadRect.idx i
      = (Rect.unit (s := S2x128x512) ![u, 0, 0] S1x128x512.size inb).emb (at3 (i 1) (Fin.ofNat 512 (o + (i 2).val)) : S1x128x512.Idx) := by
    refine funext fun a => Fin.ext ?_
    match a with
    | 0 =>
      have : (i 0).val < 1 := (i 0).isLt
      show u + 1 * (i 0).val = u + 1 * 0; omega
    | 1 => rfl
    | 2 =>
      show o + 1 * (i 2).val = 0 + 1 * ((o + (i 2).val) % 512)
      rw [Nat.mod_eq_of_lt (by omega)]; omega
  rw [e]
  exact View.canon_cons_emb _ _ _ _

/-- Page 0, where page 1 was stored after it. -/
theorem load_cols_skip (v : View sig .tc .vmem S2x128x512 .f32) (o : ℕ) (w w' : Vec F S1x128x512 .f32) (L : List (View.Piece (Elt F) S2x128x512 .f32))
    (inb₁ : ∀ a, (![1, 0, 0] : Fin 3 → ℕ) a + S1x128x512.size a ≤ S2x128x512.size a)
    (inb : ∀ a, (![0, 0, 0] : Fin 3 → ℕ) a + S1x128x512.size a ≤ S2x128x512.size a)
    (inb' : ∀ a, (![0, 0, o] : Fin 3 → ℕ) a + S1x128x128.size a ≤ S2x128x512.size a) :
    v.readCov (⟨Rect.unit (s := S2x128x512) ![1, 0, 0] S1x128x512.size inb₁, w'⟩ :: ⟨Rect.unit (s := S2x128x512) ![0, 0, 0] S1x128x512.size inb, w⟩ :: L)
      (Rect.unit (s := S2x128x512) ![0, 0, o] S1x128x128.size inb').toLoadRect = colsAt w o := by
  rw [← load_cols v 0 o w L inb inb', View.readCov_eq_canon', View.readCov_eq_canon']
  funext i
  refine View.canon_cons_of_not_mem _ _ fun hm => ?_
  obtain ⟨z, hz⟩ := (Rect.unit (s := S2x128x512) ![1, 0, 0] S1x128x512.size inb₁).exists_idx_of_mem hm
  have h0 : (i 0).val < 1 := (i 0).isLt
  have := congrArg (fun y : S2x128x512.Idx => (y 0).val) hz
  change 1 + 1 * (z 0).val = 0 + 1 * (i 0).val at this
  omega

/-- The block at an index of row `r` is the row's value. -/
theorem block_row (r : ℕ) (hr : r < 64) (x₀ x₁ x₂ : Vec F S1x4096x128 .bf16) (x₃ : Vec F S1x2x14x64x128 .f32)
    (iq : ∀ a, (![0, 64 * r, 0] : Fin 3 → ℕ) a + S1x64x128.size a ≤ S1x4096x128.size a) (x : S1x64x128.Idx) :
    row x₀ x₁ x₂ x₃ (64 * r) (keyBase r) (offBase r) x = block x₀ x₁ x₂ x₃ ((Rect.unit (s := S1x4096x128) ![0, 64 * r, 0] S1x64x128.size iq).emb x) := by
  have h1 : (x 1).val < 64 := (x 1).isLt
  have h0 : (x 0).val < 1 := (x 0).isLt
  have e1 : (((Rect.unit (s := S1x4096x128) ![0, 64 * r, 0] S1x64x128.size iq).emb x) 1).val = 64 * r + 1 * (x 1).val := rfl
  have e2 : (((Rect.unit (s := S1x4096x128) ![0, 64 * r, 0] S1x64x128.size iq).emb x) 2).val = 0 + 1 * (x 2).val := rfl
  have hd : (64 * r + 1 * (x 1).val) / 64 = r := by omega
  unfold block
  rw [e1, hd]
  refine congrArg _ (funext fun a => Fin.ext ?_)
  match a with
  | 0 => show (x 0).val = 0; omega
  | 1 => show (x 1).val = (64 * r + 1 * (x 1).val) % 64; omega
  | 2 => show (x 2).val = _; rw [show (at3 _ _ : (⟨3, ![1, 64, 128]⟩ : Shape).Idx) 2 = ((Rect.unit (s := S1x4096x128) ![0, 64 * r, 0] S1x64x128.size iq).emb x) 2 from rfl, e2]; omega

/-- The payload of the store of a row whose scores lie on page 0 of the score buffer, as a function of the input blocks. -/
theorem row_page0 (r : ℕ) (hr : r < 64)
    {A2 : Memref sig .tc .vmem S1x4096x128 .bf16} (h2 : A2.IsWhole) {A3 : Memref sig .tc .vmem S1x4096x128 .bf16} (h3 : A3.IsWhole)
    {A4 : Memref sig .tc .vmem S1x4096x128 .bf16} (h4 : A4.IsWhole) {A5 : Memref sig .tc .vmem S1x2x14x64x128 .f32} (h5 : A5.IsWhole)
    (v : View sig .tc .vmem S2x128x512 .f32)
    (x₀ x₁ x₂ : Vec F S1x4096x128 .bf16) (x₃ : Vec F S1x2x14x64x128 .f32)
    (L : List (View.Piece (Elt F) S2x128x512 .f32)) (w' : Vec F S1x128x512 .f32)
    (i₁ : ∀ a, (![1, 0, 0] : Fin 3 → ℕ) a + S1x128x512.size a ≤ S2x128x512.size a)
    (i₀ : ∀ a, (![0, 0, 0] : Fin 3 → ℕ) a + S1x128x512.size a ≤ S2x128x512.size a)
    (c0 : ∀ a, (![0, 0, 0] : Fin 3 → ℕ) a + S1x128x128.size a ≤ S2x128x512.size a)
    (c1 : ∀ a, (![0, 0, 128] : Fin 3 → ℕ) a + S1x128x128.size a ≤ S2x128x512.size a)
    (c2 : ∀ a, (![0, 0, 256] : Fin 3 → ℕ) a + S1x128x128.size a ≤ S2x128x512.size a)
    (c3 : ∀ a, (![0, 0, 384] : Fin 3 → ℕ) a + S1x128x128.size a ≤ S2x128x512.size a)
    (b00 : ∀ b, (![0, 0, offBase r + 0, 0, 0] : Fin 5 → ℕ) b + S1x1x1x64x128.size b ≤ S1x2x14x64x128.size b)
    (b01 : ∀ b, (![0, 1, offBase r + 0, 0, 0] : Fin 5 → ℕ) b + S1x1x1x64x128.size b ≤ S1x2x14x64x128.size b)
    (b10 : ∀ b, (![0, 0, offBase r + 2, 0, 0] : Fin 5 → ℕ) b + S1x1x1x64x128.size b ≤ S1x2x14x64x128.size b)
    (b11 : ∀ b, (![0, 1, offBase r + 2, 0, 0] : Fin 5 → ℕ) b + S1x1x1x64x128.size b ≤ S1x2x14x64x128.size b)
    (b20 : ∀ b, (![0, 0, offBase r + 4, 0, 0] : Fin 5 → ℕ) b + S1x1x1x64x128.size b ≤ S1x2x14x64x128.size b)
    (b21 : ∀ b, (![0, 1, offBase r + 4, 0, 0] : Fin 5 → ℕ) b + S1x1x1x64x128.size b ≤ S1x2x14x64x128.size b)
    (b30 : ∀ b, (![0, 0, offBase r + 6, 0, 0] : Fin 5 → ℕ) b + S1x1x1x64x128.size b ≤ S1x2x14x64x128.size b)
    (b31 : ∀ b, (![0, 1, offBase r + 6, 0, 0] : Fin 5 → ℕ) b + S1x1x1x64x128.size b ≤ S1x2x14x64x128.size b)
    (iq : ∀ a, (![0, 64 * r, 0] : Fin 3 → ℕ) a + S1x64x128.size a ≤ S1x4096x128.size a)
    (ik : ∀ a, (![0, keyBase r, 0] : Fin 3 → ℕ) a + S1x512x128.size a ≤ S1x4096x128.size a)
    (x : S1x64x128.Idx) :
    average
      (quarter (View.readAt (Elt F) A5.view (Rect.unit (s := S1x2x14x64x128) ![0, 0, offBase r + 0, 0, 0] S1x1x1x64x128.size b00).toLoadRect (h5.unread x₃)) (View.readAt (Elt F) A5.view (Rect.unit (s := S1x2x14x64x128) ![0, 1, offBase r + 0, 0, 0] S1x1x1x64x128.size b01).toLoadRect (h5.unread x₃))
        (v.readCov (⟨Rect.unit (s := S2x128x512) ![1, 0, 0] S1x128x512.size i₁, w'⟩ :: ⟨Rect.unit (s := S2x128x512) ![0, 0, 0] S1x128x512.size i₀, (storedScores (View.readAt (Elt F) A2.view (Rect.unit (s := S1x4096x128) ![0, 64 * r, 0] S1x64x128.size iq).toLoadRect (h2.unread x₀))
          (View.readAt (Elt F) A3.view (Rect.unit (s := S1x4096x128) ![0, keyBase r, 0] S1x512x128.size ik).toLoadRect (h3.unread x₁)))⟩ :: L)
          (Rect.unit (s := S2x128x512) ![0, 0, 0] S1x128x128.size c0).toLoadRect))
      (quarter (View.readAt (Elt F) A5.view (Rect.unit (s := S1x2x14x64x128) ![0, 0, offBase r + 2, 0, 0] S1x1x1x64x128.size b10).toLoadRect (h5.unread x₃)) (View.readAt (Elt F) A5.view (Rect.unit (s := S1x2x14x64x128) ![0, 1, offBase r + 2, 0, 0] S1x1x1x64x128.size b11).toLoadRect (h5.unread x₃))
        (v.readCov (⟨Rect.unit (s := S2x128x512) ![1, 0, 0] S1x128x512.size i₁, w'⟩ :: ⟨Rect.unit (s := S2x128x512) ![0, 0, 0] S1x128x512.size i₀, (storedScores (View.readAt (Elt F) A2.view (Rect.unit (s := S1x4096x128) ![0, 64 * r, 0] S1x64x128.size iq).toLoadRect (h2.unread x₀))
          (View.readAt (Elt F) A3.view (Rect.unit (s := S1x4096x128) ![0, keyBase r, 0] S1x512x128.size ik).toLoadRect (h3.unread x₁)))⟩ :: L)
          (Rect.unit (s := S2x128x512) ![0, 0, 128] S1x128x128.size c1).toLoadRect))
      (quarter (View.readAt (Elt F) A5.view (Rect.unit (s := S1x2x14x64x128) ![0, 0, offBase r + 4, 0, 0] S1x1x1x64x128.size b20).toLoadRect (h5.unread x₃)) (View.readAt (Elt F) A5.view (Rect.unit (s := S1x2x14x64x128) ![0, 1, offBase r + 4, 0, 0] S1x1x1x64x128.size b21).toLoadRect (h5.unread x₃))
        (v.readCov (⟨Rect.unit (s := S2x128x512) ![1, 0, 0] S1x128x512.size i₁, w'⟩ :: ⟨Rect.unit (s := S2x128x512) ![0, 0, 0] S1x128x512.size i₀, (storedScores (View.readAt (Elt F) A2.view (Rect.unit (s := S1x4096x128) ![0, 64 * r, 0] S1x64x128.size iq).toLoadRect (h2.unread x₀))
          (View.readAt (Elt F) A3.view (Rect.unit (s := S1x4096x128) ![0, keyBase r, 0] S1x512x128.size ik).toLoadRect (h3.unread x₁)))⟩ :: L)
          (Rect.unit (s := S2x128x512) ![0, 0, 256] S1x128x128.size c2).toLoadRect))
      (quarter (View.readAt (Elt F) A5.view (Rect.unit (s := S1x2x14x64x128) ![0, 0, offBase r + 6, 0, 0] S1x1x1x64x128.size b30).toLoadRect (h5.unread x₃)) (View.readAt (Elt F) A5.view (Rect.unit (s := S1x2x14x64x128) ![0, 1, offBase r + 6, 0, 0] S1x1x1x64x128.size b31).toLoadRect (h5.unread x₃))
        (v.readCov (⟨Rect.unit (s := S2x128x512) ![1, 0, 0] S1x128x512.size i₁, w'⟩ :: ⟨Rect.unit (s := S2x128x512) ![0, 0, 0] S1x128x512.size i₀, (storedScores (View.readAt (Elt F) A2.view (Rect.unit (s := S1x4096x128) ![0, 64 * r, 0] S1x64x128.size iq).toLoadRect (h2.unread x₀))
          (View.readAt (Elt F) A3.view (Rect.unit (s := S1x4096x128) ![0, keyBase r, 0] S1x512x128.size ik).toLoadRect (h3.unread x₁)))⟩ :: L)
          (Rect.unit (s := S2x128x512) ![0, 0, 384] S1x128x128.size c3).toLoadRect))
      (View.readAt (Elt F) A4.view (Rect.unit (s := S1x4096x128) ![0, keyBase r, 0] S1x512x128.size ik).toLoadRect (h4.unread x₂)) x
    = block x₀ x₁ x₂ x₃ ((Rect.unit (s := S1x4096x128) ![0, 64 * r, 0] S1x64x128.size iq).emb x) := by
  rw [load_rows h2, load_rows h3, load_rows h4, load_bias0 h5 x₃ _ b00, load_bias1 h5 x₃ _ b01, load_bias0 h5 x₃ _ b10, load_bias1 h5 x₃ _ b11, load_bias0 h5 x₃ _ b20, load_bias1 h5 x₃ _ b21, load_bias0 h5 x₃ _ b30, load_bias1 h5 x₃ _ b31, load_cols_skip v 0, load_cols_skip v 128, load_cols_skip v 256, load_cols_skip v 384]
  exact block_row r hr x₀ x₁ x₂ x₃ iq x

/-- The payload of the store of a row whose scores lie on page 1 of the score buffer, as a function of the input blocks. -/
theorem row_page1 (r : ℕ) (hr : r < 64)
    {A2 : Memref sig .tc .vmem S1x4096x128 .bf16} (h2 : A2.IsWhole) {A3 : Memref sig .tc .vmem S1x4096x128 .bf16} (h3 : A3.IsWhole)
    {A4 : Memref sig .tc .vmem S1x4096x128 .bf16} (h4 : A4.IsWhole) {A5 : Memref sig .tc .vmem S1x2x14x64x128 .f32} (h5 : A5.IsWhole)
    (v : View sig .tc .vmem S2x128x512 .f32)
    (x₀ x₁ x₂ : Vec F S1x4096x128 .bf16) (x₃ : Vec F S1x2x14x64x128 .f32)
    (L : List (View.Piece (Elt F) S2x128x512 .f32))
    (i₀ : ∀ a, (![1, 0, 0] : Fin 3 → ℕ) a + S1x128x512.size a ≤ S2x128x512.size a)
    (c0 : ∀ a, (![1, 0, 0] : Fin 3 → ℕ) a + S1x128x128.size a ≤ S2x128x512.size a)
    (c1 : ∀ a, (![1, 0, 128] : Fin 3 → ℕ) a + S1x128x128.size a ≤ S2x128x512.size a)
    (c2 : ∀ a, (![1, 0, 256] : Fin 3 → ℕ) a + S1x128x128.size a ≤ S2x128x512.size a)
    (c3 : ∀ a, (![1, 0, 384] : Fin 3 → ℕ) a + S1x128x128.size a ≤ S2x128x512.size a)
    (b00 : ∀ b, (![0, 0, offBase r + 0, 0, 0] : Fin 5 → ℕ) b + S1x1x1x64x128.size b ≤ S1x2x14x64x128.size b)
    (b01 : ∀ b, (![0, 1, offBase r + 0, 0, 0] : Fin 5 → ℕ) b + S1x1x1x64x128.size b ≤ S1x2x14x64x128.size b)
    (b10 : ∀ b, (![0, 0, offBase r + 2, 0, 0] : Fin 5 → ℕ) b + S1x1x1x64x128.size b ≤ S1x2x14x64x128.size b)
    (b11 : ∀ b, (![0, 1, offBase r + 2, 0, 0] : Fin 5 → ℕ) b + S1x1x1x64x128.size b ≤ S1x2x14x64x128.size b)
    (b20 : ∀ b, (![0, 0, offBase r + 4, 0, 0] : Fin 5 → ℕ) b + S1x1x1x64x128.size b ≤ S1x2x14x64x128.size b)
    (b21 : ∀ b, (![0, 1, offBase r + 4, 0, 0] : Fin 5 → ℕ) b + S1x1x1x64x128.size b ≤ S1x2x14x64x128.size b)
    (b30 : ∀ b, (![0, 0, offBase r + 6, 0, 0] : Fin 5 → ℕ) b + S1x1x1x64x128.size b ≤ S1x2x14x64x128.size b)
    (b31 : ∀ b, (![0, 1, offBase r + 6, 0, 0] : Fin 5 → ℕ) b + S1x1x1x64x128.size b ≤ S1x2x14x64x128.size b)
    (iq : ∀ a, (![0, 64 * r, 0] : Fin 3 → ℕ) a + S1x64x128.size a ≤ S1x4096x128.size a)
    (ik : ∀ a, (![0, keyBase r, 0] : Fin 3 → ℕ) a + S1x512x128.size a ≤ S1x4096x128.size a)
    (x : S1x64x128.Idx) :
    average
      (quarter (View.readAt (Elt F) A5.view (Rect.unit (s := S1x2x14x64x128) ![0, 0, offBase r + 0, 0, 0] S1x1x1x64x128.size b00).toLoadRect (h5.unread x₃)) (View.readAt (Elt F) A5.view (Rect.unit (s := S1x2x14x64x128) ![0, 1, offBase r + 0, 0, 0] S1x1x1x64x128.size b01).toLoadRect (h5.unread x₃))
        (v.readCov (⟨Rect.unit (s := S2x128x512) ![1, 0, 0] S1x128x512.size i₀, (storedScores (View.readAt (Elt F) A2.view (Rect.unit (s := S1x4096x128) ![0, 64 * r, 0] S1x64x128.size iq).toLoadRect (h2.unread x₀))
          (View.readAt (Elt F) A3.view (Rect.unit (s := S1x4096x128) ![0, keyBase r, 0] S1x512x128.size ik).toLoadRect (h3.unread x₁)))⟩ :: L)
          (Rect.unit (s := S2x128x512) ![1, 0, 0] S1x128x128.size c0).toLoadRect))
      (quarter (View.readAt (Elt F) A5.view (Rect.unit (s := S1x2x14x64x128) ![0, 0, offBase r + 2, 0, 0] S1x1x1x64x128.size b10).toLoadRect (h5.unread x₃)) (View.readAt (Elt F) A5.view (Rect.unit (s := S1x2x14x64x128) ![0, 1, offBase r + 2, 0, 0] S1x1x1x64x128.size b11).toLoadRect (h5.unread x₃))
        (v.readCov (⟨Rect.unit (s := S2x128x512) ![1, 0, 0] S1x128x512.size i₀, (storedScores (View.readAt (Elt F) A2.view (Rect.unit (s := S1x4096x128) ![0, 64 * r, 0] S1x64x128.size iq).toLoadRect (h2.unread x₀))
          (View.readAt (Elt F) A3.view (Rect.unit (s := S1x4096x128) ![0, keyBase r, 0] S1x512x128.size ik).toLoadRect (h3.unread x₁)))⟩ :: L)
          (Rect.unit (s := S2x128x512) ![1, 0, 128] S1x128x128.size c1).toLoadRect))
      (quarter (View.readAt (Elt F) A5.view (Rect.unit (s := S1x2x14x64x128) ![0, 0, offBase r + 4, 0, 0] S1x1x1x64x128.size b20).toLoadRect (h5.unread x₃)) (View.readAt (Elt F) A5.view (Rect.unit (s := S1x2x14x64x128) ![0, 1, offBase r + 4, 0, 0] S1x1x1x64x128.size b21).toLoadRect (h5.unread x₃))
        (v.readCov (⟨Rect.unit (s := S2x128x512) ![1, 0, 0] S1x128x512.size i₀, (storedScores (View.readAt (Elt F) A2.view (Rect.unit (s := S1x4096x128) ![0, 64 * r, 0] S1x64x128.size iq).toLoadRect (h2.unread x₀))
          (View.readAt (Elt F) A3.view (Rect.unit (s := S1x4096x128) ![0, keyBase r, 0] S1x512x128.size ik).toLoadRect (h3.unread x₁)))⟩ :: L)
          (Rect.unit (s := S2x128x512) ![1, 0, 256] S1x128x128.size c2).toLoadRect))
      (quarter (View.readAt (Elt F) A5.view (Rect.unit (s := S1x2x14x64x128) ![0, 0, offBase r + 6, 0, 0] S1x1x1x64x128.size b30).toLoadRect (h5.unread x₃)) (View.readAt (Elt F) A5.view (Rect.unit (s := S1x2x14x64x128) ![0, 1, offBase r + 6, 0, 0] S1x1x1x64x128.size b31).toLoadRect (h5.unread x₃))
        (v.readCov (⟨Rect.unit (s := S2x128x512) ![1, 0, 0] S1x128x512.size i₀, (storedScores (View.readAt (Elt F) A2.view (Rect.unit (s := S1x4096x128) ![0, 64 * r, 0] S1x64x128.size iq).toLoadRect (h2.unread x₀))
          (View.readAt (Elt F) A3.view (Rect.unit (s := S1x4096x128) ![0, keyBase r, 0] S1x512x128.size ik).toLoadRect (h3.unread x₁)))⟩ :: L)
          (Rect.unit (s := S2x128x512) ![1, 0, 384] S1x128x128.size c3).toLoadRect))
      (View.readAt (Elt F) A4.view (Rect.unit (s := S1x4096x128) ![0, keyBase r, 0] S1x512x128.size ik).toLoadRect (h4.unread x₂)) x
    = block x₀ x₁ x₂ x₃ ((Rect.unit (s := S1x4096x128) ![0, 64 * r, 0] S1x64x128.size iq).emb x) := by
  rw [load_rows h2, load_rows h3, load_rows h4, load_bias0 h5 x₃ _ b00, load_bias1 h5 x₃ _ b01, load_bias0 h5 x₃ _ b10, load_bias1 h5 x₃ _ b11, load_bias0 h5 x₃ _ b20, load_bias1 h5 x₃ _ b21, load_bias0 h5 x₃ _ b30, load_bias1 h5 x₃ _ b31, load_cols v 1 0, load_cols v 1 128, load_cols v 1 256, load_cols v 1 384]
  exact block_row r hr x₀ x₁ x₂ x₃ iq x

set_option maxHeartbeats 4000000 in
/-- Every store of the body is the block's value on its rows. -/
theorem pieces (c : Dev nD) (i : grid0.Coords) (arg2 : Memref sig .tc .vmem S1x4096x128 .bf16) (harg2 : arg2.IsWhole)
    (arg3 : Memref sig .tc .vmem S1x4096x128 .bf16) (harg3 : arg3.IsWhole) (arg4 : Memref sig .tc .vmem S1x4096x128 .bf16) (harg4 : arg4.IsWhole)
    (arg5 : Memref sig .tc .vmem S1x2x14x64x128 .f32) (harg5 : arg5.IsWhole) (arg6 : Memref sig .tc .vmem S1x4096x128 .bf16) (harg6 : arg6.IsWhole)
    (arg7 : Memref sig .tc .vmem S2x128x512 .f32) (harg7 : arg7.IsWhole) (arg8 : Memref sig .tc .vmem S2x128x512 .f32) (harg8 : arg8.IsWhole)
    (x₀ x₁ x₂ : Vec F S1x4096x128 .bf16) (x₃ : Vec F S1x2x14x64x128 .f32) :
    View.PiecesOf (block x₀ x₁ x₂ x₃) (kernelRun0_A c i arg2 harg2 arg3 harg3 arg4 harg4 arg5 harg5 arg6 harg6 arg7 harg7 arg8 harg8 x₀ x₁ x₂ x₃).1 :=
  ⟨fun x => row_page1 63 (by decide) harg2 harg3 harg4 harg5 _ x₀ x₁ x₂ x₃ _ _ _ _ _ _ _ _ _ _ _ _ _ _ _ _ x,
   fun x => row_page0 62 (by decide) harg2 harg3 harg4 harg5 _ x₀ x₁ x₂ x₃ _ _ _ _ _ _ _ _ _ _ _ _ _ _ _ _ _ _ x,
   fun x => row_page1 61 (by decide) harg2 harg3 harg4 harg5 _ x₀ x₁ x₂ x₃ _ _ _ _ _ _ _ _ _ _ _ _ _ _ _ _ x,
   fun x => row_page0 60 (by decide) harg2 harg3 harg4 harg5 _ x₀ x₁ x₂ x₃ _ _ _ _ _ _ _ _ _ _ _ _ _ _ _ _ _ _ x,
   fun x => row_page1 59 (by decide) harg2 harg3 harg4 harg5 _ x₀ x₁ x₂ x₃ _ _ _ _ _ _ _ _ _ _ _ _ _ _ _ _ x,
   fun x => row_page0 58 (by decide) harg2 harg3 harg4 harg5 _ x₀ x₁ x₂ x₃ _ _ _ _ _ _ _ _ _ _ _ _ _ _ _ _ _ _ x,
   fun x => row_page1 57 (by decide) harg2 harg3 harg4 harg5 _ x₀ x₁ x₂ x₃ _ _ _ _ _ _ _ _ _ _ _ _ _ _ _ _ x,
   fun x => row_page0 56 (by decide) harg2 harg3 harg4 harg5 _ x₀ x₁ x₂ x₃ _ _ _ _ _ _ _ _ _ _ _ _ _ _ _ _ _ _ x,
   fun x => row_page1 55 (by decide) harg2 harg3 harg4 harg5 _ x₀ x₁ x₂ x₃ _ _ _ _ _ _ _ _ _ _ _ _ _ _ _ _ x,
   fun x => row_page0 54 (by decide) harg2 harg3 harg4 harg5 _ x₀ x₁ x₂ x₃ _ _ _ _ _ _ _ _ _ _ _ _ _ _ _ _ _ _ x,
   fun x => row_page1 53 (by decide) harg2 harg3 harg4 harg5 _ x₀ x₁ x₂ x₃ _ _ _ _ _ _ _ _ _ _ _ _ _ _ _ _ x,
   fun x => row_page0 52 (by decide) harg2 harg3 harg4 harg5 _ x₀ x₁ x₂ x₃ _ _ _ _ _ _ _ _ _ _ _ _ _ _ _ _ _ _ x,
   fun x => row_page1 51 (by decide) harg2 harg3 harg4 harg5 _ x₀ x₁ x₂ x₃ _ _ _ _ _ _ _ _ _ _ _ _ _ _ _ _ x,
   fun x => row_page0 50 (by decide) harg2 harg3 harg4 harg5 _ x₀ x₁ x₂ x₃ _ _ _ _ _ _ _ _ _ _ _ _ _ _ _ _ _ _ x,
   fun x => row_page1 49 (by decide) harg2 harg3 harg4 harg5 _ x₀ x₁ x₂ x₃ _ _ _ _ _ _ _ _ _ _ _ _ _ _ _ _ x,
   fun x => row_page0 48 (by decide) harg2 harg3 harg4 harg5 _ x₀ x₁ x₂ x₃ _ _ _ _ _ _ _ _ _ _ _ _ _ _ _ _ _ _ x,
   fun x => row_page1 47 (by decide) harg2 harg3 harg4 harg5 _ x₀ x₁ x₂ x₃ _ _ _ _ _ _ _ _ _ _ _ _ _ _ _ _ x,
   fun x => row_page0 46 (by decide) harg2 harg3 harg4 harg5 _ x₀ x₁ x₂ x₃ _ _ _ _ _ _ _ _ _ _ _ _ _ _ _ _ _ _ x,
   fun x => row_page1 45 (by decide) harg2 harg3 harg4 harg5 _ x₀ x₁ x₂ x₃ _ _ _ _ _ _ _ _ _ _ _ _ _ _ _ _ x,
   fun x => row_page0 44 (by decide) harg2 harg3 harg4 harg5 _ x₀ x₁ x₂ x₃ _ _ _ _ _ _ _ _ _ _ _ _ _ _ _ _ _ _ x,
   fun x => row_page1 43 (by decide) harg2 harg3 harg4 harg5 _ x₀ x₁ x₂ x₃ _ _ _ _ _ _ _ _ _ _ _ _ _ _ _ _ x,
   fun x => row_page0 42 (by decide) harg2 harg3 harg4 harg5 _ x₀ x₁ x₂ x₃ _ _ _ _ _ _ _ _ _ _ _ _ _ _ _ _ _ _ x,
   fun x => row_page1 41 (by decide) harg2 harg3 harg4 harg5 _ x₀ x₁ x₂ x₃ _ _ _ _ _ _ _ _ _ _ _ _ _ _ _ _ x,
   fun x => row_page0 40 (by decide) harg2 harg3 harg4 harg5 _ x₀ x₁ x₂ x₃ _ _ _ _ _ _ _ _ _ _ _ _ _ _ _ _ _ _ x,
   fun x => row_page1 39 (by decide) harg2 harg3 harg4 harg5 _ x₀ x₁ x₂ x₃ _ _ _ _ _ _ _ _ _ _ _ _ _ _ _ _ x,
   fun x => row_page0 38 (by decide) harg2 harg3 harg4 harg5 _ x₀ x₁ x₂ x₃ _ _ _ _ _ _ _ _ _ _ _ _ _ _ _ _ _ _ x,
   fun x => row_page1 37 (by decide) harg2 harg3 harg4 harg5 _ x₀ x₁ x₂ x₃ _ _ _ _ _ _ _ _ _ _ _ _ _ _ _ _ x,
   fun x => row_page0 36 (by decide) harg2 harg3 harg4 harg5 _ x₀ x₁ x₂ x₃ _ _ _ _ _ _ _ _ _ _ _ _ _ _ _ _ _ _ x,
   fun x => row_page1 35 (by decide) harg2 harg3 harg4 harg5 _ x₀ x₁ x₂ x₃ _ _ _ _ _ _ _ _ _ _ _ _ _ _ _ _ x,
   fun x => row_page0 34 (by decide) harg2 harg3 harg4 harg5 _ x₀ x₁ x₂ x₃ _ _ _ _ _ _ _ _ _ _ _ _ _ _ _ _ _ _ x,
   fun x => row_page1 33 (by decide) harg2 harg3 harg4 harg5 _ x₀ x₁ x₂ x₃ _ _ _ _ _ _ _ _ _ _ _ _ _ _ _ _ x,
   fun x => row_page0 32 (by decide) harg2 harg3 harg4 harg5 _ x₀ x₁ x₂ x₃ _ _ _ _ _ _ _ _ _ _ _ _ _ _ _ _ _ _ x,
   fun x => row_page1 31 (by decide) harg2 harg3 harg4 harg5 _ x₀ x₁ x₂ x₃ _ _ _ _ _ _ _ _ _ _ _ _ _ _ _ _ x,
   fun x => row_page0 30 (by decide) harg2 harg3 harg4 harg5 _ x₀ x₁ x₂ x₃ _ _ _ _ _ _ _ _ _ _ _ _ _ _ _ _ _ _ x,
   fun x => row_page1 29 (by decide) harg2 harg3 harg4 harg5 _ x₀ x₁ x₂ x₃ _ _ _ _ _ _ _ _ _ _ _ _ _ _ _ _ x,
   fun x => row_page0 28 (by decide) harg2 harg3 harg4 harg5 _ x₀ x₁ x₂ x₃ _ _ _ _ _ _ _ _ _ _ _ _ _ _ _ _ _ _ x,
   fun x => row_page1 27 (by decide) harg2 harg3 harg4 harg5 _ x₀ x₁ x₂ x₃ _ _ _ _ _ _ _ _ _ _ _ _ _ _ _ _ x,
   fun x => row_page0 26 (by decide) harg2 harg3 harg4 harg5 _ x₀ x₁ x₂ x₃ _ _ _ _ _ _ _ _ _ _ _ _ _ _ _ _ _ _ x,
   fun x => row_page1 25 (by decide) harg2 harg3 harg4 harg5 _ x₀ x₁ x₂ x₃ _ _ _ _ _ _ _ _ _ _ _ _ _ _ _ _ x,
   fun x => row_page0 24 (by decide) harg2 harg3 harg4 harg5 _ x₀ x₁ x₂ x₃ _ _ _ _ _ _ _ _ _ _ _ _ _ _ _ _ _ _ x,
   fun x => row_page1 23 (by decide) harg2 harg3 harg4 harg5 _ x₀ x₁ x₂ x₃ _ _ _ _ _ _ _ _ _ _ _ _ _ _ _ _ x,
   fun x => row_page0 22 (by decide) harg2 harg3 harg4 harg5 _ x₀ x₁ x₂ x₃ _ _ _ _ _ _ _ _ _ _ _ _ _ _ _ _ _ _ x,
   fun x => row_page1 21 (by decide) harg2 harg3 harg4 harg5 _ x₀ x₁ x₂ x₃ _ _ _ _ _ _ _ _ _ _ _ _ _ _ _ _ x,
   fun x => row_page0 20 (by decide) harg2 harg3 harg4 harg5 _ x₀ x₁ x₂ x₃ _ _ _ _ _ _ _ _ _ _ _ _ _ _ _ _ _ _ x,
   fun x => row_page1 19 (by decide) harg2 harg3 harg4 harg5 _ x₀ x₁ x₂ x₃ _ _ _ _ _ _ _ _ _ _ _ _ _ _ _ _ x,
   fun x => row_page0 18 (by decide) harg2 harg3 harg4 harg5 _ x₀ x₁ x₂ x₃ _ _ _ _ _ _ _ _ _ _ _ _ _ _ _ _ _ _ x,
   fun x => row_page1 17 (by decide) harg2 harg3 harg4 harg5 _ x₀ x₁ x₂ x₃ _ _ _ _ _ _ _ _ _ _ _ _ _ _ _ _ x,
   fun x => row_page0 16 (by decide) harg2 harg3 harg4 harg5 _ x₀ x₁ x₂ x₃ _ _ _ _ _ _ _ _ _ _ _ _ _ _ _ _ _ _ x,
   fun x => row_page1 15 (by decide) harg2 harg3 harg4 harg5 _ x₀ x₁ x₂ x₃ _ _ _ _ _ _ _ _ _ _ _ _ _ _ _ _ x,
   fun x => row_page0 14 (by decide) harg2 harg3 harg4 harg5 _ x₀ x₁ x₂ x₃ _ _ _ _ _ _ _ _ _ _ _ _ _ _ _ _ _ _ x,
   fun x => row_page1 13 (by decide) harg2 harg3 harg4 harg5 _ x₀ x₁ x₂ x₃ _ _ _ _ _ _ _ _ _ _ _ _ _ _ _ _ x,
   fun x => row_page0 12 (by decide) harg2 harg3 harg4 harg5 _ x₀ x₁ x₂ x₃ _ _ _ _ _ _ _ _ _ _ _ _ _ _ _ _ _ _ x,
   fun x => row_page1 11 (by decide) harg2 harg3 harg4 harg5 _ x₀ x₁ x₂ x₃ _ _ _ _ _ _ _ _ _ _ _ _ _ _ _ _ x,
   fun x => row_page0 10 (by decide) harg2 harg3 harg4 harg5 _ x₀ x₁ x₂ x₃ _ _ _ _ _ _ _ _ _ _ _ _ _ _ _ _ _ _ x,
   fun x => row_page1 9 (by decide) harg2 harg3 harg4 harg5 _ x₀ x₁ x₂ x₃ _ _ _ _ _ _ _ _ _ _ _ _ _ _ _ _ x,
   fun x => row_page0 8 (by decide) harg2 harg3 harg4 harg5 _ x₀ x₁ x₂ x₃ _ _ _ _ _ _ _ _ _ _ _ _ _ _ _ _ _ _ x,
   fun x => row_page1 7 (by decide) harg2 harg3 harg4 harg5 _ x₀ x₁ x₂ x₃ _ _ _ _ _ _ _ _ _ _ _ _ _ _ _ _ x,
   fun x => row_page0 6 (by decide) harg2 harg3 harg4 harg5 _ x₀ x₁ x₂ x₃ _ _ _ _ _ _ _ _ _ _ _ _ _ _ _ _ _ _ x,
   fun x => row_page1 5 (by decide) harg2 harg3 harg4 harg5 _ x₀ x₁ x₂ x₃ _ _ _ _ _ _ _ _ _ _ _ _ _ _ _ _ x,
   fun x => row_page0 4 (by decide) harg2 harg3 harg4 harg5 _ x₀ x₁ x₂ x₃ _ _ _ _ _ _ _ _ _ _ _ _ _ _ _ _ _ _ x,
   fun x => row_page1 3 (by decide) harg2 harg3 harg4 harg5 _ x₀ x₁ x₂ x₃ _ _ _ _ _ _ _ _ _ _ _ _ _ _ _ _ x,
   fun x => row_page0 2 (by decide) harg2 harg3 harg4 harg5 _ x₀ x₁ x₂ x₃ _ _ _ _ _ _ _ _ _ _ _ _ _ _ _ _ _ _ x,
   fun x => row_page1 1 (by decide) harg2 harg3 harg4 harg5 _ x₀ x₁ x₂ x₃ _ _ _ _ _ _ _ _ _ _ _ _ _ _ _ _ x,
   fun x => row_page0 0 (by decide) harg2 harg3 harg4 harg5 _ x₀ x₁ x₂ x₃ _ _ _ _ _ _ _ _ _ _ _ _ _ _ _ _ _ _ x,
   trivial⟩

/-- What the body leaves in the output block. -/
theorem block_out (c : Dev nD) (i : grid0.Coords) (arg2 : Memref sig .tc .vmem S1x4096x128 .bf16) (harg2 : arg2.IsWhole)
    (arg3 : Memref sig .tc .vmem S1x4096x128 .bf16) (harg3 : arg3.IsWhole) (arg4 : Memref sig .tc .vmem S1x4096x128 .bf16) (harg4 : arg4.IsWhole)
    (arg5 : Memref sig .tc .vmem S1x2x14x64x128 .f32) (harg5 : arg5.IsWhole) (arg6 : Memref sig .tc .vmem S1x4096x128 .bf16) (harg6 : arg6.IsWhole)
    (arg7 : Memref sig .tc .vmem S2x128x512 .f32) (harg7 : arg7.IsWhole) (arg8 : Memref sig .tc .vmem S2x128x512 .f32) (harg8 : arg8.IsWhole)
    (x₀ x₁ x₂ : Vec F S1x4096x128 .bf16) (x₃ : Vec F S1x2x14x64x128 .f32) :
    out0_A_4 c i arg2 harg2 arg3 harg3 arg4 harg4 arg5 harg5 arg6 harg6 arg7 harg7 arg8 harg8 x₀ x₁ x₂ x₃ = block x₀ x₁ x₂ x₃ := by
  unfold out0_A_4
  rw [View.read_writes_eq_canon _ _ _ (cover0_A_4 c i arg2 harg2 arg3 harg3 arg4 harg4 arg5 harg5 arg6 harg6 arg7 harg7 arg8 harg8 x₀ x₁ x₂ x₃)]
  funext y
  exact View.canon_append_of_piecesOf _ [] _ (pieces c i arg2 harg2 arg3 harg3 arg4 harg4 arg5 harg5 arg6 harg6 arg7 harg7 arg8 harg8 x₀ x₁ x₂ x₃) y (cover0_A_4 c i arg2 harg2 arg3 harg3 arg4 harg4 arg5 harg5 arg6 harg6 arg7 harg7 arg8 harg8 x₀ x₁ x₂ x₃ y)

end Cert.KernelIdeal.Rows

end
-- ==== Proof.Spec.lean ====
/- Neighbourhood attention on a 64 × 64 grid of tokens, as mathematics over the extended reals: which keys a query
   attends to, the bias between two tokens, the masked scores, and the attention's result. Also the small facts on
   32-bit words by which a program computes rows, columns and window bounds. -/
module

public import Idealize.ShloMosaic.Lib.ValueIdxCore
public import Idealize.ShloMosaic.PureOps.Ideal
public import Idealize.ShloMosaic.PureOps.Ideal.Laws

@[expose] public section

noncomputable section

namespace Cert.Spec

open Idealize.ShloMosaic Idealize.ShloMosaic.ValueIdx

/-- The packed queries, keys and values: batch, token, channel. -/
abbrev Qkv : Type := (⟨3, ![8, 4096, 3072]⟩ : Shape).Idx → EReal
/-- The relative position bias: head, row offset, column offset. -/
abbrev Rpb : Type := (⟨3, ![16, 15, 31]⟩ : Shape).Idx → EReal

/-- First row of the window of a query in grid row `r`. -/
def rowStart (r : ℕ) : ℕ := min (r - 4) 56
/-- First column of the window of a query in grid column `c`. -/
def colStart (c : ℕ) : ℕ := min (c - 8) 48

/-- Token `j` lies in the window of token `i`. -/
def Near (i j : ℕ) : Prop :=
  (rowStart (i / 64) ≤ j / 64 ∧ j / 64 < rowStart (i / 64) + 8) ∧ (colStart (i % 64) ≤ j % 64 ∧ j % 64 < colStart (i % 64) + 16)

instance (i j : ℕ) : Decidable (Near i j) := by unfold Near; infer_instance

/-- The row offset of key row `k` from query row `q`, kept inside the bias table. -/
def rowOff (q k : ℕ) : ℕ := min (k + 7 - q) 14
/-- The column offset of key column `k` from query column `q`, kept inside the bias table. -/
def colOff (q k : ℕ) : ℕ := min (k + 15 - q) 30

/-- The bias between tokens `i` and `j` at head `h`. -/
def bias (B : Rpb) (h : Fin 16) (i j : ℕ) : EReal :=
  B (ix3 h ⟨rowOff (i / 64) (j / 64), by unfold rowOff; omega⟩ ⟨colOff (i % 64) (j % 64), by unfold colOff; omega⟩)

/-- Channel `d` of head `h` in part `p` (queries, keys, values) of the packed array. -/
def chan (p : Fin 3) (h : Fin 16) (d : Fin 64) : Fin 3072 := ⟨1024 * p.val + (64 * h.val + d.val), by omega⟩

/-- The score of key `j` for query `i`, without the bias. -/
def score (A : Qkv) (b : Fin 8) (h : Fin 16) (i j : Fin 4096) : EReal :=
  ∑ d : Fin 64, A (ix3 b i (chan 0 h d)) * ((1 / 8 : ℝ) : EReal) * A (ix3 b j (chan 1 h d))

/-- The masked score: the biased score inside the window, −∞ outside it. -/
def masked (A : Qkv) (B : Rpb) (b : Fin 8) (h : Fin 16) (i j : Fin 4096) : EReal :=
  if Near i.val j.val then score A b h i j + bias B h i.val j.val else ⊥

/-- The attention's result at batch `b`, token `i`, head `h`, channel `d`: the softmax average of the values. -/
def out (A : Qkv) (B : Rpb) (b : Fin 8) (i : Fin 4096) (h : Fin 16) (d : Fin 64) : EReal :=
  ∑ j : Fin 4096, A (ix3 b j (chan 2 h d)) *
    Ideal.div (Ideal.exp (masked A B b h i j - Finset.univ.fold max ⊥ (masked A B b h i)))
      (∑ j : Fin 4096, Ideal.exp (masked A B b h i j - Finset.univ.fold max ⊥ (masked A B b h i)))

/-! ## Words -/

/-- The window's first row, as words. -/
theorem rowStart_word : ∀ r : Fin 64,
    IntOp.minsi (IntOp.maxsi (IntOp.subi (BitVec.ofNat 32 r.val) 4#32) 0#32) 56#32 = BitVec.ofNat 32 (rowStart r.val) := by
  decide +kernel

/-- The window's first column, as words. -/
theorem colStart_word : ∀ c : Fin 64,
    IntOp.minsi (IntOp.maxsi (IntOp.subi (BitVec.ofNat 32 c.val) 8#32) 0#32) 48#32 = BitVec.ofNat 32 (colStart c.val) := by
  decide +kernel

/-- The row offset, as words. -/
theorem rowOff_word : ∀ q k : Fin 64,
    IntOp.minsi (IntOp.maxsi (IntOp.addi (IntOp.subi (BitVec.ofNat 32 k.val) (BitVec.ofNat 32 q.val)) 7#32) 0#32) 14#32
      = BitVec.ofNat 32 (rowOff q.val k.val) := by
  decide +kernel

/-- The column offset, as words. -/
theorem colOff_word : ∀ q k : Fin 64,
    IntOp.minsi (IntOp.maxsi (IntOp.addi (IntOp.subi (BitVec.ofNat 32 k.val) (BitVec.ofNat 32 q.val)) 15#32) 0#32) 30#32
      = BitVec.ofNat 32 (colOff q.val k.val) := by
  decide +kernel

/-- Whether key row `k` lies in the window of query row `q`, as one bit. -/
theorem rowNear_word : ∀ q k : Fin 64,
    IntOp.andi (IntOp.cmpi .sge (BitVec.ofNat 32 k.val) (BitVec.ofNat 32 (rowStart q.val)))
      (IntOp.cmpi .slt (BitVec.ofNat 32 k.val) (IntOp.addi (BitVec.ofNat 32 (rowStart q.val)) 8#32))
      = if rowStart q.val ≤ k.val ∧ k.val < rowStart q.val + 8 then 1#1 else 0#1 := by
  decide +kernel

/-- Whether key column `k` is not left of the window of query column `q`, as one bit. -/
theorem colNear_word₁ : ∀ q k : Fin 64,
    IntOp.cmpi .sge (BitVec.ofNat 32 k.val) (BitVec.ofNat 32 (colStart q.val))
      = if colStart q.val ≤ k.val then 1#1 else 0#1 := by
  decide +kernel

/-- Whether key column `k` is not right of the window of query column `q`, as one bit. -/
theorem colNear_word₂ : ∀ q k : Fin 64,
    IntOp.cmpi .slt (BitVec.ofNat 32 k.val) (IntOp.addi (BitVec.ofNat 32 (colStart q.val)) 16#32)
      = if k.val < colStart q.val + 16 then 1#1 else 0#1 := by
  decide +kernel

/-- The table index `31 · row offset + column offset`, as words. -/
theorem index_word : ∀ (a : Fin 15) (c : Fin 31),
    IntOp.addi (IntOp.muli (BitVec.ofNat 32 a.val) 31#32) (BitVec.ofNat 32 c.val) = BitVec.ofNat 32 (a.val * 31 + c.val) := by
  decide +kernel

end Cert.Spec

end
-- ==== Proof.Softmax.lean ====
/- The softmax of a masked row of scores, over the extended reals: the dense form over all keys, masked with −∞,
   equals the form over a window that holds every unmasked key, taken in base two with the weights normalised last.
   Pure mathematics: nothing here names a printed program. -/
module

public import Idealize.ShloMosaic.PureOps.Ideal
public import Idealize.ShloMosaic.PureOps.Ideal.Laws

@[expose] public section

noncomputable section

namespace Cert.Softmax

open Idealize.ShloMosaic

/-- A real factor that is not negative distributes over a finite sum of extended reals. -/
theorem sum_mul_coe {T : Type} (s : Finset T) (f : T → EReal) {r : ℝ} (hr : 0 ≤ r) :
    (∑ t ∈ s, f t) * (r : EReal) = ∑ t ∈ s, f t * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The cast of a finite sum of reals is the sum of the casts. -/
theorem coe_sum {T : Type} (s : Finset T) (f : T → ℝ) : ((∑ t ∈ s, f t : ℝ) : EReal) = ∑ t ∈ s, (f t : EReal) := by
  classical
  induction s using Finset.induction_on with
  | empty => simp
  | insert a s ha ih => rw [Finset.sum_insert ha, Finset.sum_insert ha, EReal.coe_add, ih]

/-- The greatest of a masked row: the value at the unmasked place that no other exceeds. -/
theorem fold_max_masked {T : Type} [Fintype T] (on : T → Prop) [DecidablePred on] (w : T → ℝ) (y : T → EReal)
    (hy : ∀ t, y t = if on t then (w t : EReal) else ⊥) (t₁ : T) (h₁ : on t₁) (hmax : ∀ t, on t → w t ≤ w t₁) :
    Finset.univ.fold max (⊥ : EReal) y = (w t₁ : EReal) := by
  apply le_antisymm
  · refine (Finset.fold_max_le _).2 ⟨bot_le, fun t _ => ?_⟩
    rw [hy t]
    by_cases h : on t
    · rw [if_pos h]; exact_mod_cast hmax t h
    · rw [if_neg h]; exact bot_le
  · refine (Finset.le_fold_max _).2 (Or.inr ⟨t₁, Finset.mem_univ _, ?_⟩)
    rw [hy t₁, if_pos h₁]

/-- A sum that vanishes off the image of an injection is the sum along it. -/
theorem sum_along {J T M : Type} [Fintype J] [Fintype T] [AddCommMonoid M] (e : T → J) (he : Function.Injective e)
    (f : J → M) (h0 : ∀ j, (¬ ∃ t, e t = j) → f j = 0) : ∑ j, f j = ∑ t, f (e t) := by
  classical
  rw [← Finset.sum_image (f := f) (s := Finset.univ) (g := e) (fun a _ b _ h => he h)]
  refine (Finset.sum_subset (Finset.subset_univ _) fun j _ hj => h0 j fun ⟨t, ht⟩ => hj ?_).symm
  exact Finset.mem_image.2 ⟨t, Finset.mem_univ _, ht⟩

/-- In base two: `2 ^ ((a - b) / log 2) = e ^ (a - b)`. -/
theorem rpow_two_div_log (a b : ℝ) : Real.rpow 2 (a / Real.log 2 - b / Real.log 2) = Real.exp (a - b) := by
  have h2 : Real.log 2 ≠ 0 := (Real.log_pos (by norm_num)).ne'
  show (2 : ℝ) ^ (a / Real.log 2 - b / Real.log 2) = _
  rw [Real.rpow_def_of_pos (by norm_num)]
  congr 1
  field_simp

/-- The masked softmax average over all keys is the one over a window holding every unmasked key, in base two,
    normalised after the sum. -/
theorem softmax_window {J T : Type} [Fintype J] [Fintype T] (e : T → J) (he : Function.Injective e)
    (near : J → Prop) [DecidablePred near] (hcov : ∀ j, near j → ∃ t, e t = j) (j₀ : J) (hj₀ : near j₀)
    (w : J → ℝ) (v : J → EReal) (x : J → EReal) (hx : ∀ j, x j = if near j then (w j : EReal) else ⊥)
    (y : T → EReal) (hy : ∀ t, y t = if near (e t) then ((w (e t) / Real.log 2 : ℝ) : EReal) else ⊥) :
    ∑ j, v j * Ideal.div (Ideal.exp (x j - Finset.univ.fold max ⊥ x)) (∑ j, Ideal.exp (x j - Finset.univ.fold max ⊥ x))
      = Ideal.div (∑ t, Ideal.exp2 (y t - Finset.univ.fold max ⊥ y) * v (e t)) (∑ t, Ideal.exp2 (y t - Finset.univ.fold max ⊥ y)) := by
  classical
  have hlog : 0 < Real.log 2 := Real.log_pos (by norm_num)
  obtain ⟨j₁, hj₁, hmax⟩ := Finset.exists_max_image (Finset.univ.filter near) w ⟨j₀, by simp [hj₀]⟩
  have hn₁ : near j₁ := (Finset.mem_filter.1 hj₁).2
  have hle : ∀ j, near j → w j ≤ w j₁ := fun j h => hmax j (by simp [h])
  obtain ⟨t₁, rfl⟩ := hcov j₁ hn₁
  have hX : Finset.univ.fold max ⊥ x = (w (e t₁) : EReal) := fold_max_masked near w x hx (e t₁) hn₁ hle
  have hY : Finset.univ.fold max ⊥ y = ((w (e t₁) / Real.log 2 : ℝ) : EReal) :=
    fold_max_masked (fun t => near (e t)) (fun t => w (e t) / Real.log 2) y hy t₁ hn₁
      fun t h => div_le_div_of_nonneg_right (hle _ h) hlog.le
  set E : J → ℝ := fun j => if near j then Real.exp (w j - w (e t₁)) else 0 with hE
  have hex : ∀ j, Ideal.exp (x j - (w (e t₁) : EReal)) = (E j : EReal) := by
    intro j
    rw [hx j]
    by_cases h : near j
    · rw [if_pos h, ← EReal.coe_sub]; simp only [hE, if_pos h]; rfl
    · rw [if_neg h, EReal.bot_sub]; simp only [hE, if_neg h]; rfl
  have hey : ∀ t, Ideal.exp2 (y t - ((w (e t₁) / Real.log 2 : ℝ) : EReal)) = (E (e t) : EReal) := by
    intro t
    rw [hy t]
    by_cases h : near (e t)
    · rw [if_pos h, ← EReal.coe_sub]; simp only [hE, if_pos h]
      show ((Real.rpow 2 _ : ℝ) : EReal) = _
      rw [rpow_two_div_log]
    · rw [if_neg h, EReal.bot_sub]; simp only [hE, if_neg h]; rfl
  rw [hX, hY]
  simp only [hex, hey]
  have hoff : ∀ j, (¬ ∃ t, e t = j) → E j = 0 := fun j h => if_neg fun hn => h (hcov j hn)
  set L : ℝ := ∑ t, E (e t) with hL
  have hpos : 0 < L := by
    refine lt_of_lt_of_le (?_ : 0 < E (e t₁)) (Finset.single_le_sum (f := fun t => E (e t)) (fun t _ => ?_) (Finset.mem_univ t₁))
    · simp only [hE, if_pos hn₁]; exact Real.exp_pos _
    · simp only [hE]; split_ifs; exacts [(Real.exp_pos _).le, le_rfl]
  have hl₁ : ∑ j, (E j : EReal) = (L : EReal) := by rw [← coe_sum, sum_along e he E hoff]
  have hl₂ : ∑ t, (E (e t) : EReal) = (L : EReal) := by rw [← coe_sum]
  rw [hl₁, hl₂, Ideal.div_coe hpos.ne', sum_mul_coe _ _ (by positivity)]
  rw [sum_along e he (fun j => v j * Ideal.div (E j : EReal) (L : EReal))]
  · refine Finset.sum_congr rfl fun t _ => ?_
    rw [Ideal.div_coe hpos.ne', ← mul_assoc, mul_comm (v (e t))]
  · intro j h
    rw [hoff j h, Ideal.div_coe hpos.ne']; simp

/-- The product of four factors' sum by a positive real constant inside one factor. -/
theorem sum_scaled {T : Type} (s : Finset T) (a b : T → EReal) {r : ℝ} (hr : 0 ≤ r) :
    ∑ t ∈ s, a t * (r : EReal) * b t = (∑ t ∈ s, a t * b t) * (r : EReal) := by
  rw [sum_mul_coe s _ hr]
  exact Finset.sum_congr rfl fun t _ => by rw [mul_assoc, mul_comm (r : EReal), mul_assoc]

/-- The four lane chunks added in pairs, summed along the lanes, are the sum over all 512 places. -/
theorem sum_chunks (f : Fin 512 → EReal) :
    ∑ l : Fin 128, ((f ⟨l.val, by omega⟩ + f ⟨128 + l.val, by omega⟩) + (f ⟨256 + l.val, by omega⟩ + f ⟨384 + l.val, by omega⟩))
      = ∑ t, f t := by
  have h := (finProdFinEquiv (m := 4) (n := 128)).sum_comp f
  rw [Fintype.sum_prod_type, Fin.sum_univ_four] at h
  rw [← h]
  simp only [Finset.sum_add_distrib, ← add_assoc]
  refine congrArg₂ (· + ·) (congrArg₂ (· + ·) (congrArg₂ (· + ·) ?_ ?_) ?_) ?_
  all_goals refine Finset.sum_congr rfl fun l _ => congrArg f (Fin.ext ?_)
  · show l.val = l.val + 128 * 0; omega
  · show 128 + l.val = l.val + 128 * 1; omega
  · show 256 + l.val = l.val + 128 * 2; omega
  · show 384 + l.val = l.val + 128 * 3; omega

/-- The four lane chunks compared in pairs, then along the lanes, give the greatest over all 512 places. -/
theorem max_chunks (f : Fin 512 → EReal) :
    Finset.univ.fold max (⊥ : EReal) (fun l : Fin 128 => max (max (f ⟨l.val, by omega⟩) (f ⟨128 + l.val, by omega⟩))
        (max (f ⟨256 + l.val, by omega⟩) (f ⟨384 + l.val, by omega⟩)))
      = Finset.univ.fold max ⊥ f := by
  apply le_antisymm
  · refine (Finset.fold_max_le _).2 ⟨bot_le, fun l _ => ?_⟩
    have k : ∀ t, f t ≤ Finset.univ.fold max ⊥ f := fun t => (Finset.le_fold_max _).2 (Or.inr ⟨t, Finset.mem_univ _, le_rfl⟩)
    exact max_le (max_le (k _) (k _)) (max_le (k _) (k _))
  · refine (Finset.fold_max_le _).2 ⟨bot_le, fun t _ => ?_⟩
    refine (Finset.le_fold_max _).2 (Or.inr ⟨⟨t.val % 128, by omega⟩, Finset.mem_univ _, ?_⟩)
    have ht := t.isLt
    rcases (by omega : t.val / 128 = 0 ∨ t.val / 128 = 1 ∨ t.val / 128 = 2 ∨ t.val / 128 = 3) with h | h | h | h
    · exact le_max_of_le_left (le_max_of_le_left (le_of_eq (congrArg f (Fin.ext (by show t.val = t.val % 128; omega)))))
    · exact le_max_of_le_left (le_max_of_le_right (le_of_eq (congrArg f (Fin.ext (by show t.val = 128 + t.val % 128; omega)))))
    · exact le_max_of_le_right (le_max_of_le_left (le_of_eq (congrArg f (Fin.ext (by show t.val = 256 + t.val % 128; omega)))))
    · exact le_max_of_le_right (le_max_of_le_right (le_of_eq (congrArg f (Fin.ext (by show t.val = 384 + t.val % 128; omega)))))

end Cert.Softmax

end
-- ==== Proof.RowValue.lean ====
/- The attention kernel's output block over the extended reals, at an index: the base-two softmax average of the value rows
   over the 512 keys of the window's eight rows. -/
module

public import proofs.«01_k».proof.Proof.Rows
public import proofs.«01_k».proof.Proof.Spec
public import proofs.«01_k».proof.Proof.Softmax

@[expose] public section

set_option maxRecDepth 10000

noncomputable section

namespace Cert.KernelIdeal.RowValue

open Cert.KernelIdeal Cert.KernelIdeal.Gen Cert.KernelIdeal.Rows Idealize.ShloMosaic Idealize.ShloMosaic.TcCoe Idealize.ShloMosaic.ValueIdx

/-! ## Masks -/

theorem lane_word : ∀ l : Fin 128, IntOp.cmpi .slt (BitVec.ofNat 32 l.val) 64#32 = if l.val < 64 then 1#1 else 0#1 := by
  decide +kernel

theorem and_word : ∀ l : Fin 128, IntOp.andi (BitVec.ofNat 32 l.val) 63#32 = BitVec.ofNat 32 (l.val % 64) := by
  decide +kernel

theorem start_word : ∀ c : Fin 64,
    IntOp.minsi 48#32 (IntOp.maxsi 0#32 (IntOp.subi (BitVec.ofNat 32 c.val) 8#32)) = BitVec.ofNat 32 (Spec.colStart c.val) := by
  decide +kernel

/-- The first head's lanes. -/
theorem first_head (c : Fin 64) (l : Fin 128) : k0_pay3 (ix2 c l) = if l.val < 64 then 1#1 else 0#1 := by
  rw [← lane_word l]
  show IntOp.cmpi .slt (iota .tc S64x128 32 [1] iota_S64x128_d1_w32 (ix2 c l)) 64#32 = _
  rw [iota_single_apply]

/-- The window's columns. -/
theorem valid_apply (n l : Fin 128) :
    k0_pay2 (ix2 n l) = if Spec.colStart (n.val % 64) ≤ l.val % 64 ∧ l.val % 64 < Spec.colStart (n.val % 64) + 16 then 1#1 else 0#1 := by
  have i₀ : iota .tc S128x128 32 [0] iota_S128x128_d0_w32 (ix2 n l) = BitVec.ofNat 32 n.val := iota_single_apply _ _ _ _ _ _
  have i₁ : iota .tc S128x128 32 [1] iota_S128x128_d1_w32 (ix2 n l) = BitVec.ofNat 32 l.val := iota_single_apply _ _ _ _ _ _
  have e : k0_pay2 (ix2 n l) = IntOp.andi
      (IntOp.cmpi .sge (IntOp.andi (BitVec.ofNat 32 l.val) 63#32)
        (IntOp.minsi 48#32 (IntOp.maxsi 0#32 (IntOp.subi (IntOp.andi (BitVec.ofNat 32 n.val) 63#32) 8#32))))
      (IntOp.cmpi .slt (IntOp.andi (BitVec.ofNat 32 l.val) 63#32)
        (IntOp.addi (IntOp.minsi 48#32 (IntOp.maxsi 0#32 (IntOp.subi (IntOp.andi (BitVec.ofNat 32 n.val) 63#32) 8#32))) 16#32)) := by
    rw [← i₀, ← i₁]; rfl
  have s := start_word ⟨n.val % 64, by omega⟩
  have w₁ := Spec.colNear_word₁ ⟨n.val % 64, by omega⟩ ⟨l.val % 64, by omega⟩
  have w₂ := Spec.colNear_word₂ ⟨n.val % 64, by omega⟩ ⟨l.val % 64, by omega⟩
  rw [e, and_word l, and_word n, s, w₁, w₂]
  by_cases h1 : Spec.colStart (n.val % 64) ≤ l.val % 64 <;> by_cases h2 : l.val % 64 < Spec.colStart (n.val % 64) + 16 <;>
    simp [h1, h2, IntOp.andi]

/-! ## Scores -/

/-- Rows of the two heads stacked: the upper half reads the first piece, the lower half the second. -/
theorem stack_apply {α : Type} (x₁ x₂ : S64x128.Idx → α) (n l : Fin 128) :
    concatenate S128x128 0 [⟨S64x128, x₁⟩, ⟨S64x128, x₂⟩] concatenates_S64x128_S64x128_S128x128_d0 (ix2 n l)
      = if n.val < 64 then x₁ (ix2 ⟨n.val % 64, by omega⟩ l) else x₂ (ix2 ⟨n.val % 64, by omega⟩ l) := by
  have hn := n.isLt
  by_cases h : n.val < 64
  · rw [if_pos h]
    refine concatenate_pair_apply_left (t := S128x128) (0 : Fin 2) x₁ x₂ _ _ rfl _ fun b => ?_
    match b with
    | ⟨0, _⟩ => show n.val % 64 = n.val; omega
    | ⟨1, _⟩ => rfl
  · rw [if_neg h]
    refine concatenate_pair_apply_right (t := S128x128) (0 : Fin 2) x₁ x₂ _ _ rfl rfl _ (fun b hb => ?_) ?_
    · match b with
      | ⟨0, _⟩ => exact absurd rfl hb
      | ⟨1, _⟩ => rfl
    · show n.val % 64 + 64 = n.val; omega

/-- Dropping the unit axis of a block of rows. -/
theorem cast_rows {α : Type} {n k : ℕ} (x : (⟨3, ![1, n, k]⟩ : Shape).Idx → α) (h : (⟨3, ![1, n, k]⟩ : Shape).ShapeCasts ⟨2, ![n, k]⟩) (i : Fin n) (j : Fin k) :
    shapeCast ⟨2, ![n, k]⟩ x h (ix2 i j) = x (at3 i j) :=
  shapeCast_apply x h _ _ (by
    rw [Shape.rowMajor_val_three, Shape.rowMajor_val_two]
    show (0 * n + i.val) * k + j.val = i.val * k + j.val
    rw [Nat.zero_mul, Nat.zero_add])

/-- Adding a unit axis. -/
theorem cast_page {α : Type} {n k : ℕ} (x : (⟨2, ![n, k]⟩ : Shape).Idx → α) (h : (⟨2, ![n, k]⟩ : Shape).ShapeCasts ⟨3, ![1, n, k]⟩) (i : Fin n) (j : Fin k) :
    shapeCast ⟨3, ![1, n, k]⟩ x h (at3 i j) = x (ix2 i j) :=
  shapeCast_apply x h _ _ (by
    rw [Shape.rowMajor_val_three, Shape.rowMajor_val_two]
    show i.val * k + j.val = (0 * n + i.val) * k + j.val
    rw [Nat.zero_mul, Nat.zero_add])

/-- Dropping the three unit axes of a bias row. -/
theorem cast_bias {α : Type} (x : S1x1x1x64x128.Idx → α) (i : Fin 64) (j : Fin 128) :
    shapeCast S64x128 x shapeCasts_S1x1x1x64x128_S64x128 (ix2 i j) = x (ix5 0 0 0 i j) :=
  shapeCast_apply x _ _ _ (by
    rw [Shape.rowMajor_val_five, Shape.rowMajor_val_two]
    show (((0 * 1 + 0) * 1 + 0) * 64 + i.val) * 128 + j.val = i.val * 128 + j.val
    omega)

/-- A lane of the head `a`: its channel `d`. -/
abbrev lane (a : Fin 2) (d : Fin 64) : Fin 128 := ⟨64 * a.val + d.val, by omega⟩

/-- A sum over the lanes that keeps one head's lanes is the sum over the head's channels. -/
theorem sum_head (a : Fin 2) (f : Fin 128 → EReal) (h0 : ∀ l : Fin 128, l.val / 64 ≠ a.val → f l = 0) :
    ∑ l, f l = ∑ d : Fin 64, f (lane a d) := by
  refine Softmax.sum_along (fun d => lane a d) (fun d d' h => Fin.ext ?_) f fun l hl => h0 l fun hla => hl ⟨⟨l.val % 64, by omega⟩, Fin.ext ?_⟩
  · have := congrArg Fin.val h
    change 64 * a.val + d.val = 64 * a.val + d'.val at this
    omega
  · show 64 * a.val + l.val % 64 = l.val; omega

/-- The scores at a stacked query and a key. -/
theorem scores_apply (q : Vec Ideal S1x64x128 .bf16) (k : Vec Ideal S1x512x128 .bf16) (a : Fin 2) (n : Fin 128) (hn : n.val / 64 = a.val) (t : Fin 512) :
    scores (F := Ideal) q k (ix2 n t) = ∑ d : Fin 64, q (at3 (⟨n.val % 64, by omega⟩ : Fin 64) (lane a d)) * k (at3 t (lane a d)) := by
  unfold scores
  refine (Ideal.matmul_constant_zero_apply _ none _ _ _).trans ?_
  rw [← (contrEquiv1 dot_S128x128_S512x128_S128x512_1_1_0_0_n_n 128 rfl rfl).symm.sum_comp]
  have hl : ∀ l : Fin 128, dot_S128x128_S512x128_S128x512_1_1_0_0_n_n.lhsIdx (ix2 n t) ((contrEquiv1 dot_S128x128_S512x128_S128x512_1_1_0_0_n_n 128 rfl rfl).symm l) = ix2 n l :=
    fun l => funext fun b => match b with | ⟨0, _⟩ => rfl | ⟨1, _⟩ => rfl
  have hr : ∀ l : Fin 128, dot_S128x128_S512x128_S128x512_1_1_0_0_n_n.rhsIdx (ix2 n t) ((contrEquiv1 dot_S128x128_S512x128_S128x512_1_1_0_0_n_n 128 rfl rfl).symm l) = ix2 t l :=
    fun l => funext fun b => match b with | ⟨0, _⟩ => rfl | ⟨1, _⟩ => rfl
  have hf : ∀ l : Fin 128, concatenate S128x128 0
      [⟨S64x128, select k0_pay3 (shapeCast S64x128 q shapeCasts_S1x64x128_S64x128) (broadcast S64x128 (Scalar.ofBits (F := Ideal) .bf16 0x0000#16))⟩,
       ⟨S64x128, select k0_pay3 (broadcast S64x128 (Scalar.ofBits (F := Ideal) .bf16 0x0000#16)) (shapeCast S64x128 q shapeCasts_S1x64x128_S64x128)⟩]
      concatenates_S64x128_S64x128_S128x128_d0 (ix2 n l)
        = if l.val / 64 = a.val then q (at3 (⟨n.val % 64, by omega⟩ : Fin 64) l) else (0 : EReal) := by
    intro l
    have z : Scalar.ofBits (F := Ideal) .bf16 0x0000#16 = (0 : EReal) := by
      show Ideal.ofBits .bf16 0x0000#16 = 0
      simp [Ideal.ofBits, Ideal.ieee]
    rw [stack_apply]
    have hnn := n.isLt
    have hll := l.isLt
    rw [select_apply, select_apply, first_head, cast_rows, broadcast_apply, z]
    by_cases h : n.val < 64 <;> by_cases h' : l.val < 64
    · rw [if_pos h, if_pos h', select_one, if_pos (by omega)]
    · rw [if_pos h, if_neg h', select_zero, if_neg (by omega)]
    · rw [if_neg h, if_pos h', select_one, if_neg (by omega)]
    · rw [if_neg h, if_neg h', select_zero, if_pos (by omega)]
  simp only [hl, hr, hf]
  rw [sum_head a _ fun l hla => by rw [if_neg hla, zero_mul]]
  refine Finset.sum_congr rfl fun d _ => ?_
  rw [if_pos (show (64 * a.val + d.val) / 64 = a.val by omega), cast_rows]

/-- A quarter's entry. -/
theorem quarter_apply (b₀ b₁ : Vec Ideal S1x1x1x64x128 .f32) (s : Vec Ideal S1x128x128 .f32) (n l : Fin 128) :
    quarter (F := Ideal) b₀ b₁ s (ix2 n l)
      = if Spec.colStart (n.val % 64) ≤ l.val % 64 ∧ l.val % 64 < Spec.colStart (n.val % 64) + 16 then
          s (at3 n l) + (if n.val < 64 then b₀ (ix5 0 0 0 ⟨n.val % 64, by omega⟩ l) else b₁ (ix5 0 0 0 ⟨n.val % 64, by omega⟩ l))
        else (⊥ : EReal) := by
  have m : Named.named (F := Ideal) (φ := .f32) κ "mask" 0xF149F2CA#32 = (⊥ : EReal) := rfl
  unfold quarter
  rw [select_apply, valid_apply, broadcast_apply, m]
  by_cases h : Spec.colStart (n.val % 64) ≤ l.val % 64 ∧ l.val % 64 < Spec.colStart (n.val % 64) + 16
  · rw [if_pos h, if_pos h, select_one]
    show shapeCast S128x128 s shapeCasts_S1x128x128_S128x128 (ix2 n l) + concatenate S128x128 0 _ _ (ix2 n l) = _
    rw [stack_apply, cast_rows, cast_bias, cast_bias]
  · rw [if_neg h, if_neg h, select_zero]

/-! ## The average -/

/-- Four quarters side by side. -/
theorem quarters_apply {α : Type} (x₀ x₁ x₂ x₃ : S128x128.Idx → α) (n : Fin 128) (y : Fin 512 → α)
    (h₀ : ∀ l : Fin 128, x₀ (ix2 n l) = y ⟨l.val, by omega⟩) (h₁ : ∀ l : Fin 128, x₁ (ix2 n l) = y ⟨128 + l.val, by omega⟩)
    (h₂ : ∀ l : Fin 128, x₂ (ix2 n l) = y ⟨256 + l.val, by omega⟩) (h₃ : ∀ l : Fin 128, x₃ (ix2 n l) = y ⟨384 + l.val, by omega⟩) (t : Fin 512) :
    concatenate S128x512 1 [⟨S128x128, x₀⟩, ⟨S128x128, x₁⟩, ⟨S128x128, x₂⟩, ⟨S128x128, x₃⟩] concatenates_S128x128_S128x128_S128x128_S128x128_S128x512_d1 (ix2 n t) = y t := by
  have key : ∀ (p : ℕ) (hp : p < 4) (x : S128x128.Idx → α)
      (_ : [(⟨S128x128, x₀⟩ : (s : Shape) × (s.Idx → α)), ⟨S128x128, x₁⟩, ⟨S128x128, x₂⟩, ⟨S128x128, x₃⟩][p] = ⟨S128x128, x⟩)
      (_ : ((([(⟨S128x128, x₀⟩ : (s : Shape) × (s.Idx → α)), ⟨S128x128, x₁⟩, ⟨S128x128, x₂⟩, ⟨S128x128, x₃⟩].take p).map (·.1)).map fun s => if h : s.rank = S128x512.rank then s.size ((1 : Fin 2).cast h.symm) else 0).sum = 128 * p)
      (l : Fin 128), 128 * p + l.val = t.val →
      concatenate S128x512 1 [⟨S128x128, x₀⟩, ⟨S128x128, x₁⟩, ⟨S128x128, x₂⟩, ⟨S128x128, x₃⟩] concatenates_S128x128_S128x128_S128x128_S128x128_S128x512_d1 (ix2 n t) = x (ix2 n l) := by
    intro p hp x hx hs l hl
    refine concatenate_apply_piece (t := S128x512) (1 : Fin 2) [⟨S128x128, x₀⟩, ⟨S128x128, x₁⟩, ⟨S128x128, x₂⟩, ⟨S128x128, x₃⟩] _ _ p hp S128x128 x hx rfl (128 * p) hs (ix2 n l) (fun b hb => ?_) hl
    match b with
    | ⟨0, _⟩ => rfl
    | ⟨1, _⟩ => exact absurd rfl hb
  have ht := t.isLt
  rcases (by omega : t.val / 128 = 0 ∨ t.val / 128 = 1 ∨ t.val / 128 = 2 ∨ t.val / 128 = 3) with h | h | h | h
  · rw [key 0 (by omega) x₀ rfl rfl ⟨t.val % 128, by omega⟩ (by show 128 * 0 + t.val % 128 = t.val; omega), h₀]
    exact congrArg y (Fin.ext (by show t.val % 128 = t.val; omega))
  · rw [key 1 (by omega) x₁ rfl rfl ⟨t.val % 128, by omega⟩ (by show 128 * 1 + t.val % 128 = t.val; omega), h₁]
    exact congrArg y (Fin.ext (by show 128 + t.val % 128 = t.val; omega))
  · rw [key 2 (by omega) x₂ rfl rfl ⟨t.val % 128, by omega⟩ (by show 128 * 2 + t.val % 128 = t.val; omega), h₂]
    exact congrArg y (Fin.ext (by show 256 + t.val % 128 = t.val; omega))
  · rw [key 3 (by omega) x₃ rfl rfl ⟨t.val % 128, by omega⟩ (by show 128 * 3 + t.val % 128 = t.val; omega), h₃]
    exact congrArg y (Fin.ext (by show 384 + t.val % 128 = t.val; omega))

/-- A column of row values, spread over the lanes. -/
theorem spread_apply {α : Type} (x : S128.Idx → α) (n l : Fin 128) :
    broadcastTo S128x128 (shapeCast S128x1 x shapeCasts_S128_S128x1) broadcasts_S128x1_S128x128 (ix2 n l) = x (ix1 n) := by
  rw [broadcastTo_apply _ _ _ (ix2 n 0) fun b => match b with | ⟨0, _⟩ => rfl | ⟨1, _⟩ => rfl]
  exact shapeCast_apply x _ _ _ (by
    rw [Shape.rowMajor_val_one, Shape.rowMajor_val_two]
    show n.val = n.val * 1 + 0
    omega)

/-- A row's greatest entry. -/
theorem rowMax_apply (x : FVec Ideal S128x128 .f32) (n : Fin 128) :
    multiReduction .maximumf [1] S128 x 0xFF800000#32 reduces_S128x128_S128 (.inl rfl) rfl (ix1 n)
      = Finset.univ.fold max (⊥ : EReal) (fun l : Fin 128 => x (ix2 n l)) := by
  refine (Ideal.multiReduction_maximumf_single x 0xFF800000#32 reduces_S128x128_S128 (.inl rfl) rfl (ix1 n)).trans ?_
  have z : FloatOps.ofBits (F := Ideal) .f32 0xFF800000#32 = (⊥ : EReal) := by
    show Ideal.ofBits .f32 0xFF800000#32 = ⊥
    simp [Ideal.ofBits, Ideal.ieee]
  rw [z]
  refine congrArg (Finset.fold max (⊥ : EReal) · Finset.univ) (funext fun l => congrArg x (funext fun b => ?_))
  match b with
  | ⟨0, _⟩ => rfl
  | ⟨1, _⟩ => rfl

/-- A row's sum. -/
theorem rowSum_apply (x : FVec Ideal S128x128 .f32) (n : Fin 128) :
    multiReduction .add [1] S128 x 0x00000000#32 reduces_S128x128_S128 (.inl rfl) rfl (ix1 n) = ∑ l : Fin 128, x (ix2 n l) := by
  refine (Ideal.multiReduction_add_single x 0x00000000#32 reduces_S128x128_S128 (.inl rfl) rfl (ix1 n)).trans ?_
  refine Finset.sum_congr rfl fun l _ => congrArg x (funext fun b => ?_)
  match b with
  | ⟨0, _⟩ => rfl
  | ⟨1, _⟩ => rfl

/-- The weights times the values. -/
theorem weighted_apply (p : FVec Ideal S128x512 .bf16) (v : Vec Ideal S1x512x128 .bf16) (n l : Fin 128) :
    matmul dot_S128x512_S512x128_S128x128_1_0_0_1_n_n none p (shapeCast S512x128 v shapeCasts_S1x512x128_S512x128 : FVec Ideal S512x128 .bf16) (constant S128x128 .f32 0x00000000#32) (ix2 n l)
      = ∑ t : Fin 512, p (ix2 n t) * v (at3 t l) := by
  refine (Ideal.matmul_constant_zero_apply _ none _ _ _).trans ?_
  rw [← (contrEquiv1 dot_S128x512_S512x128_S128x128_1_0_0_1_n_n 512 rfl rfl).symm.sum_comp]
  refine Finset.sum_congr rfl fun t _ => congrArg₂ (· * ·) (congrArg p ?_) ((congrArg _ ?_).trans (cast_rows v _ t l))
  · exact funext fun b => match b with | ⟨0, _⟩ => rfl | ⟨1, _⟩ => rfl
  · exact funext fun b => match b with | ⟨0, _⟩ => rfl | ⟨1, _⟩ => rfl

/-- The stacked row that a query's lane belongs to. -/
abbrev stacked (c : Fin 64) (l : Fin 128) : Fin 128 := ⟨64 * (l.val / 64) + c.val, by omega⟩

/-- The two heads' results put side by side. -/
theorem unstack_apply (x : FVec Ideal S128x128 .f32) (c : Fin 64) (l : Fin 128) :
    select k0_pay3 (extractStridedSlice S64x128 ![0, 0] x slices_S128x128_o0_0_S64x128) (extractStridedSlice S64x128 ![64, 0] x slices_S128x128_o64_0_S64x128) (ix2 c l)
      = x (ix2 (stacked c l) l) := by
  rw [select_apply, first_head,
    extractStridedSlice_apply ![0, 0] x _ (ix2 c l) (ix2 ⟨c.val, by omega⟩ l) fun b => match b with
      | ⟨0, _⟩ => (Nat.zero_add _).symm | ⟨1, _⟩ => (Nat.zero_add _).symm,
    extractStridedSlice_apply ![64, 0] x _ (ix2 c l) (ix2 ⟨64 + c.val, by omega⟩ l) fun b => match b with
      | ⟨0, _⟩ => rfl | ⟨1, _⟩ => (Nat.zero_add _).symm]
  have hl := l.isLt
  by_cases h : l.val < 64
  · rw [if_pos h, select_one]
    exact congrArg (fun k => x (ix2 k l)) (Fin.ext (by show c.val = 64 * (l.val / 64) + c.val; omega))
  · rw [if_neg h, select_zero]
    exact congrArg (fun k => x (ix2 k l)) (Fin.ext (by show 64 + c.val = 64 * (l.val / 64) + c.val; omega))

/-- The average at a query and a lane. -/
theorem average_apply (c₀ c₁ c₂ c₃ : FVec Ideal S128x128 .f32) (v : Vec Ideal S1x512x128 .bf16) (c : Fin 64) (l : Fin 128) (y : Fin 512 → EReal)
    (h₀ : ∀ t : Fin 128, c₀ (ix2 (stacked c l) t) = y ⟨t.val, by omega⟩) (h₁ : ∀ t : Fin 128, c₁ (ix2 (stacked c l) t) = y ⟨128 + t.val, by omega⟩)
    (h₂ : ∀ t : Fin 128, c₂ (ix2 (stacked c l) t) = y ⟨256 + t.val, by omega⟩) (h₃ : ∀ t : Fin 128, c₃ (ix2 (stacked c l) t) = y ⟨384 + t.val, by omega⟩) :
    average (F := Ideal) c₀ c₁ c₂ c₃ v (at3 c l)
      = Ideal.div (∑ t, Ideal.exp2 (y t - Finset.univ.fold max ⊥ y) * v (at3 t l)) (∑ t, Ideal.exp2 (y t - Finset.univ.fold max ⊥ y)) := by
  unfold average k0_pay1
  simp only []
  rw [cast_page]
  show select k0_pay3 _ _ (ix2 c l) = _
  rw [unstack_apply]
  set n := stacked c l with hn
  have hM : ∀ t : Fin 128, broadcastTo S128x128 (shapeCast S128x1 (multiReduction (F := Ideal) .maximumf [1] S128 (maximumf (maximumf c₀ c₁) (maximumf c₂ c₃)) 0xFF800000#32 reduces_S128x128_S128 (.inl rfl) rfl) shapeCasts_S128_S128x1) broadcasts_S128x1_S128x128 (ix2 n t)
      = Finset.univ.fold max (⊥ : EReal) y := by
    intro t
    rw [spread_apply, rowMax_apply, ← Softmax.max_chunks y]
    refine congrArg (Finset.fold max (⊥ : EReal) · Finset.univ) (funext fun l => ?_)
    show max (max (c₀ (ix2 n l)) (c₁ (ix2 n l))) (max (c₂ (ix2 n l)) (c₃ (ix2 n l))) = _
    rw [h₀, h₁, h₂, h₃]
  refine congrArg₂ Ideal.div ?_ ?_
  · rw [weighted_apply]
    refine Finset.sum_congr rfl fun t _ => congrArg (· * _) ?_
    refine quarters_apply _ _ _ _ n (fun t => Ideal.exp2 (y t - Finset.univ.fold max ⊥ y)) ?_ ?_ ?_ ?_ t
    · intro t; exact congrArg Ideal.exp2 (congrArg₂ (· - ·) (h₀ t) (hM t))
    · intro t; exact congrArg Ideal.exp2 (congrArg₂ (· - ·) (h₁ t) (hM t))
    · intro t; exact congrArg Ideal.exp2 (congrArg₂ (· - ·) (h₂ t) (hM t))
    · intro t; exact congrArg Ideal.exp2 (congrArg₂ (· - ·) (h₃ t) (hM t))
  · rw [spread_apply, rowSum_apply, ← Softmax.sum_chunks]
    refine Finset.sum_congr rfl fun t _ => congrArg₂ (· + ·) (congrArg₂ (· + ·) ?_ ?_) (congrArg₂ (· + ·) ?_ ?_)
    · exact congrArg Ideal.exp2 (congrArg₂ (· - ·) (h₀ t) (hM t))
    · exact congrArg Ideal.exp2 (congrArg₂ (· - ·) (h₁ t) (hM t))
    · exact congrArg Ideal.exp2 (congrArg₂ (· - ·) (h₂ t) (hM t))
    · exact congrArg Ideal.exp2 (congrArg₂ (· - ·) (h₃ t) (hM t))

/-! ## The block -/

/-- The token at place `t` of the window of token `i`'s grid row. -/
def keyAt (i : Fin 4096) (t : Fin 512) : Fin 4096 := Fin.ofNat 4096 (keyBase (i.val / 64) + t.val)

/-- The masked score of token `i` against place `t` of its window, for head `a` of the block, in base two. -/
def winScore (x₀ x₁ : Vec Ideal S1x4096x128 .bf16) (x₃ : Vec Ideal S1x2x14x64x128 .f32) (i : Fin 4096) (a : Fin 2) (t : Fin 512) : EReal :=
  if Spec.colStart (i.val % 64) ≤ t.val % 64 ∧ t.val % 64 < Spec.colStart (i.val % 64) + 16 then
    (∑ d : Fin 64, x₀ (at3 i (lane a d)) * x₁ (at3 (keyAt i t) (lane a d)))
      + x₃ (ix5 0 a (Fin.ofNat 14 (offBase (i.val / 64) + 2 * (t.val / 128))) ⟨i.val % 64, by omega⟩ ⟨t.val % 128, by omega⟩)
  else ⊥

/-- One quarter of the window, as the masked scores. -/
theorem quarter_score (x₀ x₁ : Vec Ideal S1x4096x128 .bf16) (x₃ : Vec Ideal S1x2x14x64x128 .f32) (i : Fin 4096) (a : Fin 2) (n : Fin 128)
    (hn : n.val = 64 * a.val + i.val % 64) (p : ℕ) (hp : p < 4) (t : Fin 128) (o bo : ℕ) (ho : o = 128 * p) (hbo : bo = offBase (i.val / 64) + 2 * p) :
    quarter (F := Ideal) (biasAt x₃ 0 bo) (biasAt x₃ 1 bo)
        (colsAt (storedScores (F := Ideal) (rowsAt 64 x₀ (64 * (i.val / 64))) (rowsAt 512 x₁ (keyBase (i.val / 64)))) o) (ix2 n t)
      = winScore x₀ x₁ x₃ i a ⟨o + t.val, by omega⟩ := by
  subst ho hbo
  have hi := i.isLt
  have ht := t.isLt
  have e1 : n.val % 64 = i.val % 64 := by omega
  have e2 : (128 * p + t.val) % 64 = t.val % 64 := by omega
  rw [quarter_apply]
  unfold winScore
  simp only [e1, e2]
  refine if_congr Iff.rfl (congrArg₂ (· + ·) ?_ ?_) rfl
  · show storedScores (F := Ideal) _ _ (at3 n (Fin.ofNat 512 (128 * p + t.val))) = _
    unfold storedScores
    rw [cast_page, scores_apply _ _ a n (by omega)]
    refine Finset.sum_congr rfl fun d _ => congrArg₂ (· * ·) ?_ ?_
    · refine congrArg (fun k => x₀ (at3 k (lane a d))) (Fin.ext ?_)
      show (64 * (i.val / 64) + n.val % 64) % 4096 = i.val
      omega
    · refine congrArg (fun k => x₁ (at3 k (lane a d))) (Fin.ext ?_)
      show (keyBase (i.val / 64) + (128 * p + t.val) % 512) % 4096 = (keyBase (i.val / 64) + (128 * p + t.val)) % 4096
      rw [Nat.mod_eq_of_lt (by omega : 128 * p + t.val < 512)]
  · have e3 : (128 * p + t.val) / 128 = p := by omega
    have e4 : (128 * p + t.val) % 128 = t.val := by omega
    simp only [e3, e4]
    by_cases h : n.val < 64
    · rw [if_pos h, show a = 0 from Fin.ext (by show a.val = 0; omega)]; rfl
    · rw [if_neg h, show a = 1 from Fin.ext (by show a.val = 1; omega)]; rfl

/-- THE BLOCK at a token and a lane. -/
theorem block_apply (x₀ x₁ x₂ : Vec Ideal S1x4096x128 .bf16) (x₃ : Vec Ideal S1x2x14x64x128 .f32) (i : Fin 4096) (l : Fin 128) (a : Fin 2) (ha : l.val / 64 = a.val) :
    block (F := Ideal) x₀ x₁ x₂ x₃ (at3 i l)
      = Ideal.div (∑ t, Ideal.exp2 (winScore x₀ x₁ x₃ i a t - Finset.univ.fold max ⊥ (winScore x₀ x₁ x₃ i a)) * x₂ (at3 (keyAt i t) l))
          (∑ t, Ideal.exp2 (winScore x₀ x₁ x₃ i a t - Finset.univ.fold max ⊥ (winScore x₀ x₁ x₃ i a))) := by
  show row (F := Ideal) x₀ x₁ x₂ x₃ (64 * (i.val / 64)) (keyBase (i.val / 64)) (offBase (i.val / 64)) (at3 (⟨i.val % 64, by omega⟩ : Fin 64) l) = _
  unfold row
  have hs : (stacked (⟨i.val % 64, by omega⟩ : Fin 64) l).val = 64 * a.val + i.val % 64 := by
    show 64 * (l.val / 64) + i.val % 64 = _; rw [ha]
  refine average_apply _ _ _ _ _ _ l (winScore x₀ x₁ x₃ i a) ?_ ?_ ?_ ?_
  · intro t
    refine (quarter_score x₀ x₁ x₃ i a _ hs 0 (by omega) t 0 _ rfl rfl).trans (congrArg _ (Fin.ext ?_))
    show 0 + t.val = t.val; omega
  · intro t; exact quarter_score x₀ x₁ x₃ i a _ hs 1 (by omega) t 128 _ rfl rfl
  · intro t; exact quarter_score x₀ x₁ x₃ i a _ hs 2 (by omega) t 256 _ rfl rfl
  · intro t; exact quarter_score x₀ x₁ x₃ i a _ hs 3 (by omega) t 384 _ rfl rfl

end Cert.KernelIdeal.RowValue

end
-- ==== Proof.HostPart.lean ====
/- What the attention kernel's host part hands to the pipeline: the packed channels (queries scaled, keys, values) and the
   bias table spread over query columns and lanes. -/
module

public import proofs.«01_k».proof.Proof.RowValue
public import Idealize.ShloMosaic.Lib.Pipeline.Value

@[expose] public section

set_option maxRecDepth 10000

noncomputable section

namespace Cert.KernelIdeal.HostPart

open Cert.KernelIdeal Cert.KernelIdeal.Gen Idealize.ShloMosaic Idealize.ShloMosaic.TcCoe Idealize.ShloMosaic.ValueIdx

section
variable {F : FTy → Type} [FloatOps F] [Named F]

/-- The host's `1 / log 2`. -/
def invLog : FVec F S_ .f32 := Host.divf (constant S_ .f32 0x3F800000#32) (Host.log (constant S_ .f32 0x40000000#32))

/-- The packed channels, before rounding. -/
def packed (A : FVec F S8x4096x3072 .f32) : FVec F S8x4096x11264 .f32 :=
  concatenate S8x4096x11264 2
    [⟨S8x4096x4096, broadcastInDim S8x4096x4096 ![] bcast_S_S8x4096x4096 (constant (F := F) S_ .f32 0x00000000#32)⟩,
     ⟨S8x4096x1024, mulf (extractStridedSlice S8x4096x1024 ![0, 0, 0] A slices_S8x4096x3072_S8x4096x1024_0_0_0)
       (broadcastInDim S8x4096x1024 ![] bcast_S_S8x4096x1024 (mulf (constant S_ .f32 0x3E000000#32) (invLog (F := F))))⟩,
     ⟨S8x4096x1024, extractStridedSlice S8x4096x1024 ![0, 0, 1024] A slices_S8x4096x3072_S8x4096x1024_0_0_1024⟩,
     ⟨S8x4096x1024, extractStridedSlice S8x4096x1024 ![0, 0, 2048] A slices_S8x4096x3072_S8x4096x1024_0_0_2048⟩,
     ⟨S8x4096x4096, broadcastInDim S8x4096x4096 ![] bcast_S_S8x4096x4096 (constant (F := F) S_ .f32 0x00000000#32)⟩]
    concatenates_S8x4096x4096_S8x4096x1024_S8x4096x1024_S8x4096x1024_S8x4096x4096_S8x4096x11264_d2

/-- The bias index of every row offset, query column and lane. -/
def tableIndex : IVec S14x64x128 32 :=
  addi
    (muli (addi (iotaInDim S14x64x128 32 0) (Host.shrsi (iotaInDim S14x64x128 32 2) (broadcastInDim S14x64x128 ![] bcast_S_S14x64x128 (constantI S_ 32 6#32))))
      (broadcastInDim S14x64x128 ![] bcast_S_S14x64x128 (constantI S_ 32 31#32)))
    (minsi
      (maxsi
        (addi
          (subi (andi (iotaInDim S14x64x128 32 2) (broadcastInDim S14x64x128 ![] bcast_S_S14x64x128 (constantI S_ 32 63#32))) (iotaInDim S14x64x128 32 1))
          (broadcastInDim S14x64x128 ![] bcast_S_S14x64x128 (constantI S_ 32 15#32)))
        (broadcastInDim S14x64x128 ![] bcast_S_S14x64x128 (constantI S_ 32 0#32)))
      (broadcastInDim S14x64x128 ![] bcast_S_S14x64x128 (constantI S_ 32 30#32)))

/-- The bias table. -/
def table (B : FVec F S16x15x31 .f32) : FVec F S8x2x14x64x128 .f32 :=
  shapeCast S8x2x14x64x128
    (Host.gather gather_S16x465_S14x64x128x1_S16x14x64x128_0_1_n_n_1_3_161
      (shapeCast S16x465 (mulf B (broadcastInDim S16x15x31 ![] bcast_S_S16x15x31 (invLog (F := F)))) shapeCasts_S16x15x31_S16x465)
      (broadcastInDim S14x64x128x1 ![0, 1, 2] bcast_S14x64x128_S14x64x128x1_0_1_2 tableIndex))
    shapeCasts_S16x14x64x128_S8x2x14x64x128

variable (m : (ℓ : Loc nD τ sig) → Buf (Elt F) ℓ)

/-- The packed buffer as the pipeline finds it. -/
theorem V_packed (c : Dev nD) : V m c main_v11 = truncf .bf16 (packed (m ((c : Thread nD τ).loc main_arg0))) bitsLt_bf16_f32 := by
  show StableHlo.after (hostOps0 ++ (hostOps0_1 ++ (hostOps0_2 ++ []))) _ (Proc.devRef .tc main_v11) = _
  simp only [hostOps0, hostOps0_1, hostOps0_2, List.cons_append, List.nil_append]
  after_results_simp
  rfl

/-- The table's buffer as the pipeline finds it. -/
theorem V_table (c : Dev nD) : V m c main_v36 = table (m ((c : Thread nD τ).loc main_arg1)) := by
  show StableHlo.after (hostOps0 ++ (hostOps0_1 ++ (hostOps0_2 ++ []))) _ (Proc.devRef .tc main_v36) = _
  simp only [hostOps0, hostOps0_1, hostOps0_2, List.cons_append, List.nil_append]
  after_results_simp
  rfl
end

/-! ## Over the extended reals, at an index -/

theorem ofBits_eighth : Ideal.ofBits .f32 0x3E000000#32 = ((1 / 8 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

/-- `1 / log 2`. -/
theorem invLog_apply (i : S_.Idx) : invLog (F := Ideal) i = ((1 / Real.log 2 : ℝ) : EReal) := by
  have hlog : Real.log 2 ≠ 0 := (Real.log_pos (by norm_num)).ne'
  show Ideal.div (Ideal.ofBits .f32 0x3F800000#32) (Ideal.log (Ideal.ofBits .f32 0x40000000#32)) = _
  rw [ofBits_one, ofBits_two]
  have e : Ideal.log ((2 : ℝ) : EReal) = ((Real.log 2 : ℝ) : EReal) := by
    show (if (2 : ℝ) ≤ 0 then (⊥ : EReal) else _) = _
    rw [if_neg (by norm_num)]
  rw [e, Ideal.div_coe hlog, ← EReal.coe_mul, one_mul]

/-- The scale of the queries. -/
theorem scale_apply (i : S_.Idx) : mulf (constant (F := Ideal) S_ .f32 0x3E000000#32) (invLog (F := Ideal)) i = ((1 / 8 * (1 / Real.log 2) : ℝ) : EReal) := by
  show Ideal.ofBits .f32 0x3E000000#32 * invLog (F := Ideal) i = _
  rw [ofBits_eighth, invLog_apply, ← EReal.coe_mul]

/-- The channels after the first 4096 scaled: the queries. -/
theorem packed_query (A : FVec Ideal S8x4096x3072 .f32) (b : Fin 8) (i : Fin 4096) (n : Fin 3072) (hn : n.val < 1024) (ch : Fin 11264) (hch : ch.val = 4096 + n.val) :
    packed A (ix3 b i ch) = A (ix3 b i n) * ((1 / 8 * (1 / Real.log 2) : ℝ) : EReal) := by
  unfold packed
  refine (concatenate_apply_piece (t := S8x4096x11264) (2 : Fin 3) _ _ _ 1 (by show 1 < 5; decide) S8x4096x1024 _ rfl rfl 4096 rfl (ix3 b i ⟨n.val, hn⟩) (fun a ha => ?_) (by show 4096 + n.val = ch.val; omega)).trans ?_
  · match a with
    | ⟨0, _⟩ => rfl
    | ⟨1, _⟩ => rfl
    | ⟨2, _⟩ => exact absurd rfl ha
  · refine congrArg₂ (fun x y : EReal => x * y) (congrArg A (funext fun a => Fin.ext ?_)) (scale_apply _)
    match a with
    | ⟨0, _⟩ => show 0 + b.val = b.val; omega
    | ⟨1, _⟩ => show 0 + i.val = i.val; omega
    | ⟨2, _⟩ => show 0 + n.val = n.val; omega

/-- The channels after the next 1024 rows: the keys. -/
theorem packed_key (A : FVec Ideal S8x4096x3072 .f32) (b : Fin 8) (i : Fin 4096) (n : Fin 3072) (hn : 1024 ≤ n.val ∧ n.val < 2048) (ch : Fin 11264) (hch : ch.val = 4096 + n.val) :
    packed A (ix3 b i ch) = A (ix3 b i n) := by
  unfold packed
  refine (concatenate_apply_piece (t := S8x4096x11264) (2 : Fin 3) _ _ _ 2 (by show 2 < 5; decide) S8x4096x1024 _ rfl rfl 5120 rfl (ix3 b i ⟨n.val - 1024, by omega⟩) (fun a ha => ?_) (by show 5120 + (n.val - 1024) = ch.val; omega)).trans ?_
  · match a with
    | ⟨0, _⟩ => rfl
    | ⟨1, _⟩ => rfl
    | ⟨2, _⟩ => exact absurd rfl ha
  · refine congrArg A (funext fun a => Fin.ext ?_)
    match a with
    | ⟨0, _⟩ => show 0 + b.val = b.val; omega
    | ⟨1, _⟩ => show 0 + i.val = i.val; omega
    | ⟨2, _⟩ => show 1024 + (n.val - 1024) = n.val; omega

/-- The channels after the next 1024 rows: the values. -/
theorem packed_value (A : FVec Ideal S8x4096x3072 .f32) (b : Fin 8) (i : Fin 4096) (n : Fin 3072) (hn : 2048 ≤ n.val) (ch : Fin 11264) (hch : ch.val = 4096 + n.val) :
    packed A (ix3 b i ch) = A (ix3 b i n) := by
  have hlt := n.isLt
  unfold packed
  refine (concatenate_apply_piece (t := S8x4096x11264) (2 : Fin 3) _ _ _ 3 (by show 3 < 5; decide) S8x4096x1024 _ rfl rfl 6144 rfl (ix3 b i ⟨n.val - 2048, by omega⟩) (fun a ha => ?_) (by show 6144 + (n.val - 2048) = ch.val; omega)).trans ?_
  · match a with
    | ⟨0, _⟩ => rfl
    | ⟨1, _⟩ => rfl
    | ⟨2, _⟩ => exact absurd rfl ha
  · refine congrArg A (funext fun a => Fin.ext ?_)
    match a with
    | ⟨0, _⟩ => show 0 + b.val = b.val; omega
    | ⟨1, _⟩ => show 0 + i.val = i.val; omega
    | ⟨2, _⟩ => show 2048 + (n.val - 2048) = n.val; omega

/-! ## The table -/

theorem row_word : ∀ (o : Fin 14) (l : Fin 128), IntOp.addi (BitVec.ofNat 32 o.val) (IntOp.shrsi .host (BitVec.ofNat 32 l.val) 6#32) = BitVec.ofNat 32 (o.val + l.val / 64) := by
  decide +kernel

/-- The bias index at a row offset, a query column and a lane. -/
theorem tableIndex_apply (o : Fin 14) (q : Fin 64) (l : Fin 128) :
    tableIndex (ix3 o q l) = BitVec.ofNat 32 ((o.val + l.val / 64) * 31 + Spec.colOff q.val (l.val % 64)) := by
  have hl := l.isLt
  have ho := o.isLt
  have e : tableIndex (ix3 o q l) = IntOp.addi
      (IntOp.muli (IntOp.addi (BitVec.ofNat 32 o.val) (IntOp.shrsi .host (BitVec.ofNat 32 l.val) 6#32)) 31#32)
      (IntOp.minsi (IntOp.maxsi (IntOp.addi (IntOp.subi (IntOp.andi (BitVec.ofNat 32 l.val) 63#32) (BitVec.ofNat 32 q.val)) 15#32) 0#32) 30#32) := rfl
  have hc := Spec.colOff_word q ⟨l.val % 64, by omega⟩
  have hi := Spec.index_word ⟨o.val + l.val / 64, by omega⟩ ⟨Spec.colOff q.val (l.val % 64), by unfold Spec.colOff; omega⟩
  rw [e, row_word o l, RowValue.and_word l, hc, hi]

theorem clamp_word (n : ℕ) (hn : n < 465) : min (BitVec.ofNat 32 n).toInt.toNat (465 - 1) = n := by
  have e : (BitVec.ofNat 32 n).toNat = n := by rw [BitVec.toNat_ofNat]; omega
  rw [BitVec.toInt_eq_toNat_of_lt (by rw [e]; omega), e]; omega

/-- The gather of the table's columns, at an index. -/
theorem gather_apply (x : S16x465.Idx → EReal) (idx : IVec S14x64x128x1 32) (h : Fin 16) (o : Fin 14) (q : Fin 64) (l : Fin 128) (n : ℕ) (hn : n < 465)
    (hi : idx (ix4 o q l 0) = BitVec.ofNat 32 n) :
    Host.gather gather_S16x465_S14x64x128x1_S16x14x64x128_0_1_n_n_1_3_161 x idx (ix4 h o q l) = x (ix2 h ⟨n, hn⟩) := by
  unfold Host.gather
  refine congrArg x (funext fun a => Fin.ext ?_)
  match a with
  | ⟨0, _⟩ =>
    show _ + _ + _ = h.val
    rw [GatherDims.batchCoord_eq_zero _ _ _ List.not_mem_nil]
    show 0 + 0 + h.val = h.val
    omega
  | ⟨1, _⟩ =>
    show _ + _ + _ = n
    rw [GatherDims.batchCoord_eq_zero _ _ _ List.not_mem_nil, GatherDims.offCoord_eq_zero _ _ _ (show (1 : Fin 2) ∉ _ by decide)]
    have e : gather_S16x465_S14x64x128x1_S16x14x64x128_0_1_n_n_1_3_161.siIdx (ix4 h o q l) ⟨0, by decide⟩ = ix4 o q l 0 :=
      funext fun b => match b with | ⟨0, _⟩ => rfl | ⟨1, _⟩ => rfl | ⟨2, _⟩ => rfl | ⟨3, _⟩ => rfl
    exact (congrArg (fun k => min (idx k).toInt.toNat (465 - 1) + 0 + 0) e).trans (by rw [hi, clamp_word n hn]; rfl)

/-- The bias table at a head pair, a head of it, a row offset, a query column and a lane. -/
theorem table_apply (B : FVec Ideal S16x15x31 .f32) (p : Fin 8) (a : Fin 2) (o : Fin 14) (q : Fin 64) (l : Fin 128) (h : Fin 16) (hh : h.val = 2 * p.val + a.val) (r : Fin 15) (k : Fin 31)
    (hr : r.val = o.val + l.val / 64) (hk : k.val = Spec.colOff q.val (l.val % 64)) :
    table B (ix5 p a o q l) = B (ix3 h r k) * ((1 / Real.log 2 : ℝ) : EReal) := by
  have hrl := r.isLt
  have hkl := k.isLt
  have hhl := h.isLt
  unfold table
  refine (shapeCast_apply _ _ _ (ix4 h o q l) (by
    rw [Shape.rowMajor_val_four, Shape.rowMajor_val_five]
    show ((h.val * 14 + o.val) * 64 + q.val) * 128 + l.val = (((p.val * 2 + a.val) * 14 + o.val) * 64 + q.val) * 128 + l.val
    rw [hh, Nat.mul_comm 2])).trans ?_
  refine (gather_apply _ _ h o q l (r.val * 31 + k.val) (by omega) ?_).trans ?_
  · show tableIndex (fun _ => _) = _
    refine (congrArg tableIndex (eq_ix3 _)).trans ((tableIndex_apply o q l).trans ?_)
    rw [hr, hk]
  · refine (shapeCast_apply _ _ _ (ix3 h r k) (by
      rw [Shape.rowMajor_val_three, Shape.rowMajor_val_two]
      show (h.val * 15 + r.val) * 31 + k.val = h.val * 465 + (r.val * 31 + k.val)
      omega)).trans ?_
    exact congrArg (fun y : EReal => B (ix3 h r k) * y) (invLog_apply _)

end Cert.KernelIdeal.HostPart

end
-- ==== Proof.Attention.lean ====
/- The attention kernel's result is the specification's attention: the output block at a batch and a head pair over blocks
   read from the packed channels, then the whole array from its blocks. -/
module

public import proofs.«01_k».proof.Proof.HostPart
public import proofs.«01_k».proof.Proof.Gen.KernelIdeal.Value
public import Idealize.ShloMosaic.Lib.Pipeline.ValueKit.Geometry

@[expose] public section

set_option maxRecDepth 10000

noncomputable section

namespace Cert.KernelIdeal.Attention

open Cert.KernelIdeal Cert.KernelIdeal.Gen Cert.KernelIdeal.Rows Cert.KernelIdeal.RowValue Idealize.ShloMosaic Idealize.ShloMosaic.TcCoe Idealize.ShloMosaic.ValueIdx
open Cert.Spec (Qkv Rpb Near rowStart colStart rowOff colOff chan)

/-- The token at a place of a window. -/
theorem keyAt_val (i : Fin 4096) (t : Fin 512) : (keyAt i t).val = 64 * rowStart (i.val / 64) + t.val := by
  have ht := t.isLt
  show (64 * min (i.val / 64 - 4) 56 + t.val) % 4096 = 64 * min (i.val / 64 - 4) 56 + t.val
  omega

/-- A place of the window is near when its column is. -/
theorem near_keyAt (i : Fin 4096) (t : Fin 512) :
    Near i.val (keyAt i t).val ↔ colStart (i.val % 64) ≤ t.val % 64 ∧ t.val % 64 < colStart (i.val % 64) + 16 := by
  have ht := t.isLt
  have d : (keyAt i t).val / 64 = rowStart (i.val / 64) + t.val / 64 := by rw [keyAt_val]; omega
  have k : (keyAt i t).val % 64 = t.val % 64 := by rw [keyAt_val]; omega
  unfold Near
  rw [d, k]
  exact ⟨fun h => h.2, fun h => ⟨⟨by omega, by omega⟩, h⟩⟩

/-- A near token has a place in the window. -/
theorem near_covered (i j : Fin 4096) (h : Near i.val j.val) : ∃ t, keyAt i t = j := by
  obtain ⟨⟨h1, h2⟩, _⟩ := h
  refine ⟨⟨j.val - 64 * rowStart (i.val / 64), by omega⟩, Fin.ext ?_⟩
  rw [keyAt_val]
  show 64 * rowStart (i.val / 64) + (j.val - 64 * rowStart (i.val / 64)) = j.val
  omega

/-- A token is near itself. -/
theorem near_self (i : Fin 4096) : Near i.val i.val := by
  have := i.isLt
  unfold Near rowStart colStart
  omega

/-- The scaled score in base two, over the reals. -/
theorem score_real (q k : Fin 64 → ℝ) (b : ℝ) :
    (∑ d, ((q d : EReal) * ((1 / 8 * (1 / Real.log 2) : ℝ) : EReal)) * (k d : EReal)) + (b : EReal) * ((1 / Real.log 2 : ℝ) : EReal)
      = (((∑ d, q d * (1 / 8) * k d + b) / Real.log 2 : ℝ) : EReal) := by
  have e : ∀ d, ((q d : EReal) * ((1 / 8 * (1 / Real.log 2) : ℝ) : EReal)) * (k d : EReal) = ((q d * (1 / 8 * (1 / Real.log 2)) * k d : ℝ) : EReal) := fun d => by
    rw [← EReal.coe_mul, ← EReal.coe_mul]
  rw [Finset.sum_congr rfl fun d _ => e d, ← Softmax.coe_sum, ← EReal.coe_mul, ← EReal.coe_add]
  congr 1
  rw [add_div, Finset.sum_div]
  refine congrArg₂ (· + ·) (Finset.sum_congr rfl fun d _ => ?_) ?_ <;> ring

/-- The plain score, over the reals. -/
theorem score_plain (q k : Fin 64 → ℝ) (b : ℝ) :
    (∑ d, (q d : EReal) * ((1 / 8 : ℝ) : EReal) * (k d : EReal)) + (b : EReal) = ((∑ d, q d * (1 / 8) * k d + b : ℝ) : EReal) := by
  have e : ∀ d, (q d : EReal) * ((1 / 8 : ℝ) : EReal) * (k d : EReal) = ((q d * (1 / 8) * k d : ℝ) : EReal) := fun d => by
    rw [← EReal.coe_mul, ← EReal.coe_mul]
  rw [Finset.sum_congr rfl fun d _ => e d, ← Softmax.coe_sum, ← EReal.coe_add]

/-- THE BLOCK of a batch and a head pair, over blocks that hold the scaled queries, the keys, the values and the scaled bias, is the
    attention there, for finite queries, keys and biases. -/
theorem block_spec (A : Qkv) (B : Rpb) (hA : ∀ b i (n : Fin 3072), n.val < 2048 → ∃ r : ℝ, A (ix3 b i n) = r) (hB : ∀ h r k, ∃ x : ℝ, B (ix3 h r k) = x)
    (b p : Fin 8) (x₀ x₁ x₂ : Vec Ideal S1x4096x128 .bf16) (x₃ : Vec Ideal S1x2x14x64x128 .f32)
    (h₀ : ∀ i l (n : Fin 3072), n.val = 128 * p.val + l.val → x₀ (at3 i l) = A (ix3 b i n) * ((1 / 8 * (1 / Real.log 2) : ℝ) : EReal))
    (h₁ : ∀ i l (n : Fin 3072), n.val = 1024 + (128 * p.val + l.val) → x₁ (at3 i l) = A (ix3 b i n))
    (h₂ : ∀ i l (n : Fin 3072), n.val = 2048 + (128 * p.val + l.val) → x₂ (at3 i l) = A (ix3 b i n))
    (h₃ : ∀ a o q l (h : Fin 16) (r : Fin 15) (k : Fin 31), h.val = 2 * p.val + a.val → r.val = o.val + l.val / 64 → k.val = colOff q.val (l.val % 64) →
      x₃ (ix5 0 a o q l) = B (ix3 h r k) * ((1 / Real.log 2 : ℝ) : EReal))
    (i : Fin 4096) (l : Fin 128) (h : Fin 16) (hh : h.val = 2 * p.val + l.val / 64) (d : Fin 64) (hd : d.val = l.val % 64) :
    block (F := Ideal) x₀ x₁ x₂ x₃ (at3 i l) = Spec.out A B b i h d := by
  have hi := i.isLt
  have hl := l.isLt
  have hp := p.isLt
  choose ar har using hA
  choose br hbr using hB
  let a : Fin 2 := ⟨l.val / 64, by omega⟩
  have ha : h.val = 2 * p.val + a.val := hh
  have hlt : ∀ (q : Fin 3) (d : Fin 64), q.val ≤ 1 → (chan q h d).val < 2048 := fun q d hq => by
    have := h.isLt; have := d.isLt; show 1024 * q.val + (64 * h.val + d.val) < 2048; omega
  let q : Fin 64 → ℝ := fun d => ar b i (chan 0 h d) (hlt 0 d (by decide))
  let k : Fin 4096 → Fin 64 → ℝ := fun j d => ar b j (chan 1 h d) (hlt 1 d (by decide))
  let bb : ℕ → ℝ := fun j => br h ⟨rowOff (i.val / 64) (j / 64), by unfold rowOff; omega⟩ ⟨colOff (i.val % 64) (j % 64), by unfold colOff; omega⟩
  rw [block_apply x₀ x₁ x₂ x₃ i l a rfl]
  unfold Spec.out
  symm
  refine (Softmax.softmax_window (keyAt i) (fun t t' e => Fin.ext ?_) (fun j => Near i.val j.val) (near_covered i) i (near_self i)
    (fun j => ∑ d, q d * (1 / 8) * k j d + bb j.val) (fun j => A (ix3 b j (chan 2 h d))) _ (fun j => ?_) (winScore x₀ x₁ x₃ i a) (fun t => ?_)).trans ?_
  · have := congrArg Fin.val e
    rw [keyAt_val, keyAt_val] at this
    omega
  · unfold Spec.masked
    refine if_congr Iff.rfl ?_ rfl
    rw [← score_plain]
    refine congrArg₂ (fun x y : EReal => x + y) (Finset.sum_congr rfl fun d _ => ?_) (hbr _ _ _)
    rw [har b i (chan 0 h d) (hlt 0 d (by decide)), har b j (chan 1 h d) (hlt 1 d (by decide))]
  · have ht := t.isLt
    unfold winScore
    refine if_congr (near_keyAt i t).symm ?_ rfl
    rw [← score_real]
    refine congrArg₂ (fun x y : EReal => x + y) (Finset.sum_congr rfl fun d _ => ?_) ?_
    · have hd := d.isLt
      rw [h₀ i (lane a d) (chan 0 h d) (by show 1024 * 0 + (64 * h.val + d.val) = 128 * p.val + (64 * (l.val / 64) + d.val); omega),
        h₁ (keyAt i t) (lane a d) (chan 1 h d) (by show 1024 * 1 + (64 * h.val + d.val) = 1024 + (128 * p.val + (64 * (l.val / 64) + d.val)); omega),
        har b i (chan 0 h d) (hlt 0 d (by decide)), har b (keyAt i t) (chan 1 h d) (hlt 1 d (by decide))]
    · have hk := keyAt_val i t
      rw [h₃ a _ _ _ h ⟨rowOff (i.val / 64) ((keyAt i t).val / 64), by unfold rowOff; omega⟩ ⟨colOff (i.val % 64) ((keyAt i t).val % 64), by unfold colOff; omega⟩ ha
        (by
          show min ((keyAt i t).val / 64 + 7 - i.val / 64) 14 = (min (i.val / 64 - 4) 56 + 7 - i.val / 64 + 2 * (t.val / 128)) % 14 + t.val % 128 / 64
          have : (keyAt i t).val / 64 = min (i.val / 64 - 4) 56 + t.val / 64 := by rw [hk]; unfold rowStart; omega
          rw [this]; omega)
        (by
          show colOff (i.val % 64) ((keyAt i t).val % 64) = colOff (i.val % 64) (t.val % 128 % 64)
          have : (keyAt i t).val % 64 = t.val % 128 % 64 := by rw [hk]; omega
          rw [this]), hbr]
  · have e : ∀ t, x₂ (at3 (keyAt i t) l) = A (ix3 b (keyAt i t) (chan 2 h d)) := fun t =>
      h₂ (keyAt i t) l (chan 2 h d) (by show 1024 * 2 + (64 * h.val + d.val) = 2048 + (128 * p.val + l.val); omega)
    exact congrArg (fun s : EReal => Ideal.div s _) (Finset.sum_congr rfl fun t _ => congrArg (fun y : EReal => _ * y) (e t).symm)

/-! ## The array -/

variable (m : (ℓ : Loc nD τ sig) → Buf (Elt Ideal) ℓ) (c : Dev nD)

theorem index0 : ∀ t : Fin cfg0.N, win0_0.index t = ![(grid0.coords t 0).val, 0, 32 + (grid0.coords t 1).val] :=
  (by decide +kernel : ∀ t : Fin grid0.N, _)
theorem index1 : ∀ t : Fin cfg0.N, win0_1.index t = ![(grid0.coords t 0).val, 0, 40 + (grid0.coords t 1).val] :=
  (by decide +kernel : ∀ t : Fin grid0.N, _)
theorem index2 : ∀ t : Fin cfg0.N, win0_2.index t = ![(grid0.coords t 0).val, 0, 48 + (grid0.coords t 1).val] :=
  (by decide +kernel : ∀ t : Fin grid0.N, _)
theorem index3 : ∀ t : Fin cfg0.N, win0_3.index t = ![(grid0.coords t 1).val, 0, 0, 0, 0] :=
  (by decide +kernel : ∀ t : Fin grid0.N, _)
theorem index4 : ∀ t : Fin cfg0.N, win0_4.index t = ![(grid0.coords t 0).val, 0, (grid0.coords t 1).val] :=
  (by decide +kernel : ∀ t : Fin grid0.N, _)

/-- The whole attention, as an array. -/
def spec (A : Qkv) (B : Rpb) : FVec Ideal S8x4096x1024 .bf16 := fun y =>
  Spec.out A B (y 0) (y 1) ⟨(y 2).val / 64, by have h : (y 2).val < 1024 := (y 2).isLt; omega⟩ ⟨(y 2).val % 64, by omega⟩

/-- The batch of a grid point. -/
def batch (t : Fin cfg0.N) : Fin 8 := grid0.coords t 0
/-- The head pair of a grid point. -/
def pair (t : Fin cfg0.N) : Fin 8 := grid0.coords t 1

/-- The packed argument on a device. -/
def argA : Qkv := m ((c : Thread nD τ).loc main_arg0)
/-- The bias argument on a device. -/
def argB : Rpb := m ((c : Thread nD τ).loc main_arg1)

/-- A channel block of the packed buffer, at a token and a lane. -/
theorem packed_at (b : Fin 8) (i : Fin 4096) (n : Fin 3072) (y : S8x4096x11264.Idx) (h0 : (y 0).val = b.val) (h1 : (y 1).val = i.val) (h2 : (y 2).val = 4096 + n.val) :
    V m c main_v11 y = HostPart.packed (F := Ideal) (argA m c) (ix3 b i ⟨4096 + n.val, by omega⟩) := by
  refine (congrFun (HostPart.V_packed m c) y).trans ?_
  show HostPart.packed (F := Ideal) (argA m c) y = _
  refine congrArg (HostPart.packed (F := Ideal) (argA m c)) (funext fun a => Fin.ext ?_)
  match a with
  | ⟨0, _⟩ => exact h0
  | ⟨1, _⟩ => exact h1
  | ⟨2, _⟩ => exact h2

/-- The queries' block, at a token and a lane. -/
theorem block0 (t : Fin cfg0.N) (i : Fin 4096) (l : Fin 128) (n : Fin 3072) (hn : n.val = 128 * (pair t).val + l.val) :
    (iblk m c 0 t : Vec Ideal S1x4096x128 .bf16) (at3 i l) = argA m c (ix3 (batch t) i n) * ((1 / 8 * (1 / Real.log 2) : ℝ) : EReal) := by
  have hp := (pair t).isLt
  have hl := l.isLt
  refine Eq.trans ?_ (HostPart.packed_query (argA m c) (batch t) i n (by omega) ⟨4096 + n.val, by omega⟩ rfl)
  blk_simp [iblk]
  refine packed_at m c (batch t) i n _ ?_ ?_ ?_
  · blk_simp [index0]; rfl
  · blk_simp [index0]
  · blk_simp [index0]
    show (32 + (pair t).val) * 128 + l.val = 4096 + n.val
    omega

/-- The keys' block, at a token and a lane. -/
theorem block1 (t : Fin cfg0.N) (i : Fin 4096) (l : Fin 128) (n : Fin 3072) (hn : n.val = 1024 + (128 * (pair t).val + l.val)) :
    (iblk m c 1 t : Vec Ideal S1x4096x128 .bf16) (at3 i l) = argA m c (ix3 (batch t) i n) := by
  have hp := (pair t).isLt
  have hl := l.isLt
  refine Eq.trans ?_ (HostPart.packed_key (argA m c) (batch t) i n (by omega) ⟨4096 + n.val, by omega⟩ rfl)
  blk_simp [iblk]
  refine packed_at m c (batch t) i n _ ?_ ?_ ?_
  · blk_simp [index1]; rfl
  · blk_simp [index1]
  · blk_simp [index1]
    show (40 + (pair t).val) * 128 + l.val = 4096 + n.val
    omega

/-- The values' block, at a token and a lane. -/
theorem block2 (t : Fin cfg0.N) (i : Fin 4096) (l : Fin 128) (n : Fin 3072) (hn : n.val = 2048 + (128 * (pair t).val + l.val)) :
    (iblk m c 2 t : Vec Ideal S1x4096x128 .bf16) (at3 i l) = argA m c (ix3 (batch t) i n) := by
  have hp := (pair t).isLt
  have hl := l.isLt
  refine Eq.trans ?_ (HostPart.packed_value (argA m c) (batch t) i n (by omega) ⟨4096 + n.val, by omega⟩ rfl)
  blk_simp [iblk]
  refine packed_at m c (batch t) i n _ ?_ ?_ ?_
  · blk_simp [index2]; rfl
  · blk_simp [index2]
  · blk_simp [index2]
    show (48 + (pair t).val) * 128 + l.val = 4096 + n.val
    omega

/-- The bias table's block. -/
theorem block3 (t : Fin cfg0.N) (a : Fin 2) (o : Fin 14) (q : Fin 64) (l : Fin 128) (h : Fin 16) (r : Fin 15) (k : Fin 31)
    (hh : h.val = 2 * (pair t).val + a.val) (hr : r.val = o.val + l.val / 64) (hk : k.val = colOff q.val (l.val % 64)) :
    (iblk m c 3 t : Vec Ideal S1x2x14x64x128 .f32) (ix5 0 a o q l) = argB m c (ix3 h r k) * ((1 / Real.log 2 : ℝ) : EReal) := by
  refine Eq.trans ?_ (HostPart.table_apply (argB m c) (pair t) a o q l h hh r k hr hk)
  refine Eq.trans ?_ (congrFun (HostPart.V_table m c) (ix5 (pair t) a o q l))
  blk_simp [iblk]
  refine congrArg (V m c main_v36) (funext fun a => Fin.ext ?_)
  match a with
  | ⟨0, _⟩ => blk_simp [index3]; rfl
  | ⟨1, _⟩ => blk_simp [index3]
  | ⟨2, _⟩ => blk_simp [index3]
  | ⟨3, _⟩ => blk_simp [index3]
  | ⟨4, _⟩ => blk_simp [index3]

/-- The whole attention at an index whose coordinates are known. -/
theorem spec_apply (A : Qkv) (B : Rpb) (z : S8x4096x1024.Idx) (b : Fin 8) (i : Fin 4096) (h : Fin 16) (d : Fin 64) (h0 : (z 0).val = b.val) (h1 : (z 1).val = i.val)
    (h2 : (z 2).val = 64 * h.val + d.val) : spec A B z = Spec.out A B b i h d := by
  have hd := d.isLt
  have e0 : z 0 = b := Fin.ext h0
  have e1 : z 1 = i := Fin.ext h1
  unfold spec
  rw [e0, e1]
  exact congrArg₂ (Spec.out A B b i) (Fin.ext (by show (z 2).val / 64 = h.val; omega)) (Fin.ext (by show (z 2).val % 64 = d.val; omega))

/-- THE RESULT ARRAY of the attention kernel. -/
theorem result (hA : ∀ b i (n : Fin 3072), n.val < 2048 → ∃ r : ℝ, argA m c (ix3 b i n) = r) (hB : ∀ h r k, ∃ x : ℝ, argB m c (ix3 h r k) = x) :
    (dats m 0 c).arrAt 4 cfg0.N = spec (argA m c) (argB m c) := by
  refine (dats m 0 c).arrAt_eq_of_covers 4 _ (by decide +kernel) fun t hf y => ?_
  blk_simp
  rw [after0_4]
  unfold outsAt0
  rw [Rows.block_out]
  have hl : (y 2).val < 128 := (y 2).isLt
  have hp := (pair t).isLt
  refine Eq.trans ?_ (spec_apply _ _ _ (batch t) (y 1) ⟨2 * (pair t).val + (y 2).val / 64, by omega⟩ ⟨(y 2).val % 64, by omega⟩ ?_ ?_ ?_).symm
  · refine (congrArg (block (F := Ideal) _ _ _ _) (?_ : _ = at3 (y 1) (y 2))).trans
      (block_spec (argA m c) (argB m c) hA hB (batch t) (pair t) _ _ _ _ (block0 m c t) (block1 m c t) (block2 m c t) (block3 m c t) (y 1) (y 2) _ rfl _ rfl)
    refine funext fun a => Fin.ext ?_
    match a with
    | ⟨0, _⟩ =>
      have h : (y 0).val < 1 := (y 0).isLt
      show (y 0).val = 0
      omega
    | ⟨1, _⟩ => rfl
    | ⟨2, _⟩ => rfl
  · blk_simp [index4]
    have h : (y 0).val < 1 := (y 0).isLt
    rfl
  · blk_simp [index4]
  · blk_simp [index4]
    show (pair t).val * 128 + (y 2).val = 64 * (2 * (pair t).val + (y 2).val / 64) + (y 2).val % 64
    omega

end Cert.KernelIdeal.Attention

end
-- ==== Proof.RowMax.lean ====
/- The host's maximum along the last axis of the reference's score array. -/
module

public import proofs.«01_k».proof.Proof.Gen.ReferenceIdeal.Run
public import Idealize.ShloMosaic.Lib.ValueIdxCore
public import proofs.«01_k».proof.Proof.Spec
import Idealize.ShloMosaic.Lib.Pointwise.Reduce

@[expose] public section

noncomputable section

namespace Cert.RowMax

open Cert.ReferenceIdeal Cert.ReferenceIdeal.Gen Idealize.ShloMosaic

/-- The maximum along the last axis of a four-axis array. -/
theorem reduceMax_apply (x : S8x16x4096x4096.Idx → EReal) (init : S_.Idx → EReal) (b : Fin 8) (h : Fin 16) (i : Fin 4096) :
    Host.reduce (FloatOps.maximumf (F := Ideal) (φ := .f32)) x init reducesTo_S8x16x4096x4096_S8x16x4096_d3 h_S_ (ValueIdx.ix3 b h i)
      = Finset.univ.fold max (init (Shape.Idx.first h_S_)) (fun j : Fin 4096 => x (ValueIdx.ix4 b h i j)) := by
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  rw [Host.reduce_eq_fold]
  exact Shape.ReducesTo.fold_fiber_r4_a3 _ _ _ _ x

end Cert.RowMax

end
-- ==== Proof.RefValue.lean ====
/- The reference program's result at an index: the softmax average of the values over the neighbourhood (`Cert.Spec.out`). -/
module

public import proofs.«01_k».proof.Proof.Gen.ReferenceIdeal.Read
public import proofs.«01_k».proof.Proof.Spec
public import proofs.«01_k».proof.Proof.RowMax

@[expose] public section

noncomputable section

namespace Cert.RefValue

open Cert.ReferenceIdeal Cert.ReferenceIdeal.Gen Cert.ReferenceIdeal.Read Idealize.ShloMosaic Idealize.ShloMosaic.TcCoe Idealize.ShloMosaic.ValueIdx

/-- The word of a number below 465, read signed and clamped into the bias table's row, is the number. -/
theorem clamp_word (n : ℕ) (hn : n < 465) : min (BitVec.ofNat 32 n).toInt.toNat (465 - 1) = n := by
  have : (BitVec.ofNat 32 n).toInt = n := by
    rw [BitVec.toInt_eq_toNat_of_lt (by rw [BitVec.toNat_ofNat]; omega), BitVec.toNat_ofNat]; omega
  rw [this]; omega

/-- The bias of every pair of tokens, taken from the flattened table. -/
theorem gather_apply (x : S16x465.Idx → EReal) (idx : IVec S4096x4096x1 32) (h : Fin 16) (i j : Fin 4096) (n : ℕ) (hn : n < 465)
    (hi : idx (ix3 i j 0) = BitVec.ofNat 32 n) :
    Host.gather gather_S16x465_S4096x4096x1_S16x4096x4096_0_1_n_n_1_2_161 x idx (ix3 h i j) = x (ix2 h ⟨n, hn⟩) := by
  unfold Host.gather
  refine congrArg x (funext fun a => Fin.ext ?_)
  match a with
  | ⟨0, _⟩ =>
    show _ + _ + _ = h.val
    rw [GatherDims.batchCoord_eq_zero _ _ _ List.not_mem_nil]
    show 0 + 0 + h.val = h.val
    omega
  | ⟨1, _⟩ =>
    show _ + _ + _ = n
    rw [GatherDims.batchCoord_eq_zero _ _ _ List.not_mem_nil, GatherDims.offCoord_eq_zero _ _ _ (show (1 : Fin 2) ∉ _ by decide)]
    have e : gather_S16x465_S4096x4096x1_S16x4096x4096_0_1_n_n_1_2_161.siIdx (ix3 h i j) ⟨0, by decide⟩ = ix3 i j 0 :=
      funext fun b => match b with | ⟨0, _⟩ => rfl | ⟨1, _⟩ => rfl | ⟨2, _⟩ => rfl
    exact (congrArg (fun k => min (idx k).toInt.toNat (465 - 1) + 0 + 0) e).trans (by rw [hi, clamp_word n hn]; rfl)

section words
/-- A token's row word. -/
theorem row_word (k : Fin 4096) : val_main_v10 (F := Ideal) (ix1 k) = BitVec.ofNat 32 (k.val / 64) := by
  simp only [val_main_v10_apply, val_main_v9_apply]
/-- A token's column word. -/
theorem col_word (k : Fin 4096) : val_main_v12 (F := Ideal) (ix1 k) = BitVec.ofNat 32 (k.val % 64) := by
  simp only [val_main_v12_apply, val_main_v11_apply]

/-- The grid row of a token. -/
abbrev rowOf (k : Fin 4096) : Fin 64 := ⟨k.val / 64, by omega⟩
/-- The grid column of a token. -/
abbrev colOf (k : Fin 4096) : Fin 64 := ⟨k.val % 64, by omega⟩

/-- The window's first row, of a query. -/
theorem v22_apply (i : Fin 4096) : val_main_v22 (F := Ideal) (ix2 i 0) = BitVec.ofNat 32 (Spec.rowStart (i.val / 64)) := by
  rw [← Spec.rowStart_word (rowOf i)]
  simp only [val_main_v22_apply, val_main_v20_apply, val_main_v18_apply, val_main_v13_apply, val_main_v10_apply, val_main_v9_apply,
    val_main_v17_apply, val_main_c_apply, val_main_v19_apply, val_main_c_0_apply, val_main_v21_apply, val_main_c_1_apply]

/-- The window's first column, of a query. -/
theorem v28_apply (i : Fin 4096) : val_main_v28 (F := Ideal) (ix2 i 0) = BitVec.ofNat 32 (Spec.colStart (i.val % 64)) := by
  rw [← Spec.colStart_word (colOf i)]
  simp only [val_main_v28_apply, val_main_v26_apply, val_main_v24_apply, val_main_v14_apply, val_main_v12_apply, val_main_v11_apply,
    val_main_v23_apply, val_main_c_2_apply, val_main_v25_apply, val_main_c_3_apply, val_main_v27_apply, val_main_c_4_apply]

/-- The mask bit of a pair of tokens. -/
theorem mask_apply (i j : Fin 4096) : val_main_v47 (F := Ideal) (ix2 i j) = if Spec.Near i.val j.val then 1#1 else 0#1 := by
  have e30 : val_main_v30 (F := Ideal) (ix2 i j) = BitVec.ofNat 32 (Spec.rowStart (i.val / 64)) := by
    rw [val_main_v30_apply]; exact (congrArg _ (eq_ix2 _)).trans (v22_apply i)
  have e35 : val_main_v35 (F := Ideal) (ix2 i j) = IntOp.addi (BitVec.ofNat 32 (Spec.rowStart (i.val / 64))) 8#32 := by
    rw [val_main_v35_apply, val_main_v33_apply, val_main_v32_apply, val_main_c_5_apply]
    exact congrArg (fun z => IntOp.addi z 8#32) ((congrArg _ (eq_ix2 _)).trans (v22_apply i))
  have e39 : val_main_v39 (F := Ideal) (ix2 i j) = BitVec.ofNat 32 (Spec.colStart (i.val % 64)) := by
    rw [val_main_v39_apply]; exact (congrArg _ (eq_ix2 _)).trans (v28_apply i)
  have e45 : val_main_v45 (F := Ideal) (ix2 i j) = IntOp.addi (BitVec.ofNat 32 (Spec.colStart (i.val % 64))) 16#32 := by
    rw [val_main_v45_apply, val_main_v43_apply, val_main_v42_apply, val_main_c_6_apply]
    exact congrArg (fun z => IntOp.addi z 16#32) ((congrArg _ (eq_ix2 _)).trans (v28_apply i))
  have e29 : val_main_v29 (F := Ideal) (ix2 i j) = BitVec.ofNat 32 (j.val / 64) := by
    simp only [val_main_v29_apply, val_main_v15_apply, val_main_v10_apply, val_main_v9_apply]
  have e34 : val_main_v34 (F := Ideal) (ix2 i j) = BitVec.ofNat 32 (j.val / 64) := by
    simp only [val_main_v34_apply, val_main_v15_apply, val_main_v10_apply, val_main_v9_apply]
  have e38 : val_main_v38 (F := Ideal) (ix2 i j) = BitVec.ofNat 32 (j.val % 64) := by
    simp only [val_main_v38_apply, val_main_v16_apply, val_main_v12_apply, val_main_v11_apply]
  have e44 : val_main_v44 (F := Ideal) (ix2 i j) = BitVec.ofNat 32 (j.val % 64) := by
    simp only [val_main_v44_apply, val_main_v16_apply, val_main_v12_apply, val_main_v11_apply]
  rw [val_main_v47_apply, val_main_v46_apply, val_main_v41_apply, val_main_v40_apply, val_main_v37_apply, val_main_v36_apply, val_main_v31_apply,
    e29, e30, e34, e35, e38, e39, e44, e45, Spec.rowNear_word (rowOf i) (rowOf j), Spec.colNear_word₁ (colOf i) (colOf j),
    Spec.colNear_word₂ (colOf i) (colOf j)]
  unfold Spec.Near
  by_cases h1 : Spec.rowStart (i.val / 64) ≤ j.val / 64 ∧ j.val / 64 < Spec.rowStart (i.val / 64) + 8 <;>
  by_cases h2 : Spec.colStart (i.val % 64) ≤ j.val % 64 <;>
  by_cases h3 : j.val % 64 < Spec.colStart (i.val % 64) + 16 <;>
  simp [h1, h2, h3, IntOp.andi]

/-- The bias index of a pair of tokens. -/
theorem index_apply (i j : Fin 4096) :
    val_main_v69 (F := Ideal) (ix2 i j) = BitVec.ofNat 32 (Spec.rowOff (i.val / 64) (j.val / 64) * 31 + Spec.colOff (i.val % 64) (j.val % 64)) := by
  rw [← Spec.index_word ⟨Spec.rowOff (i.val / 64) (j.val / 64), by unfold Spec.rowOff; omega⟩ ⟨Spec.colOff (i.val % 64) (j.val % 64), by unfold Spec.colOff; omega⟩]
  rw [← Spec.rowOff_word (rowOf i) (rowOf j), ← Spec.colOff_word (colOf i) (colOf j)]
  simp only [val_main_v69_apply, val_main_v68_apply, val_main_v67_apply, val_main_c_13_apply, val_main_v65_apply, val_main_v64_apply, val_main_c_12_apply,
    val_main_v63_apply, val_main_v62_apply, val_main_c_11_apply, val_main_v61_apply, val_main_v60_apply, val_main_c_10_apply, val_main_v59_apply,
    val_main_v58_apply, val_main_v57_apply, val_main_v56_apply, val_main_v55_apply, val_main_c_9_apply, val_main_v54_apply, val_main_v53_apply,
    val_main_c_8_apply, val_main_v52_apply, val_main_v51_apply, val_main_c_7_apply, val_main_v50_apply, val_main_v49_apply, val_main_v48_apply,
    val_main_v13_apply, val_main_v14_apply, val_main_v15_apply, val_main_v16_apply, val_main_v10_apply, val_main_v9_apply, val_main_v12_apply, val_main_v11_apply]
end words

variable (A : Spec.Qkv) (B : Spec.Rpb)

/-- The bias of a pair of tokens. -/
theorem bias_apply (b : Fin 8) (h : Fin 16) (i j : Fin 4096) :
    val_main_v73 (F := Ideal) B (ix4 b h i j) = Spec.bias B h i.val j.val := by
  have hr : Spec.rowOff (i.val / 64) (j.val / 64) < 15 := by unfold Spec.rowOff; omega
  have hc : Spec.colOff (i.val % 64) (j.val % 64) < 31 := by unfold Spec.colOff; omega
  have hn : Spec.rowOff (i.val / 64) (j.val / 64) * 31 + Spec.colOff (i.val % 64) (j.val % 64) < 465 := by omega
  rw [val_main_v73_apply, val_main_v72_apply]
  refine (congrArg _ (eq_ix3 _)).trans ((gather_apply _ _ h i j _ hn ?_).trans ?_)
  · rw [val_main_call0_v0_apply]; exact (congrArg _ (eq_ix2 _)).trans (index_apply i j)
  · rw [val_main_v66_apply]
    unfold Spec.bias
    refine congrArg B (funext fun a => Fin.ext ?_)
    have hh := h.isLt
    match a with
    | ⟨0, _⟩ => show (h.val * 465 + (_ * 31 + _)) / 465 = h.val; omega
    | ⟨1, _⟩ => show (h.val * 465 + (_ * 31 + _)) / 31 % 15 = Spec.rowOff (i.val / 64) (j.val / 64); omega
    | ⟨2, _⟩ => show (h.val * 465 + (_ * 31 + _)) % 31 = Spec.colOff (i.val % 64) (j.val % 64); omega

/-- Reading the packed array at a part, a head and a channel. -/
theorem part_idx (b : Fin 8) (i : Fin 4096) (p : Fin 3) (h : Fin 16) (d : Fin 64) (k : S8x4096x3x16x64.Idx)
    (h0 : (k 0).val = b.val) (h1 : (k 1).val = i.val) (h2 : (k 2).val = p.val) (h3 : (k 3).val = h.val) (h4 : (k 4).val = d.val) :
    val_main_v0 (F := Ideal) A k = A (ix3 b i (Spec.chan p h d)) := by
  rw [val_main_v0_apply]
  refine congrArg A (funext fun a => Fin.ext ?_)
  match a with
  | ⟨0, _⟩ => show (((((k 0).val * 4096 + (k 1).val) * 3 + (k 2).val) * 16 + (k 3).val) * 64 + (k 4).val) / 12582912 = b.val; omega
  | ⟨1, _⟩ => show (((((k 0).val * 4096 + (k 1).val) * 3 + (k 2).val) * 16 + (k 3).val) * 64 + (k 4).val) / 3072 % 4096 = i.val; omega
  | ⟨2, _⟩ => show (((((k 0).val * 4096 + (k 1).val) * 3 + (k 2).val) * 16 + (k 3).val) * 64 + (k 4).val) % 3072 = 1024 * p.val + (64 * h.val + d.val); omega

/-- An index split into batch, token, head and channel. -/
theorem split_idx (b : Fin 8) (i : Fin 4096) (h : Fin 16) (d : Fin 64) :
    (((b.val * 4096 + i.val) * 16 + h.val) * 64 + d.val) / 4194304 = b.val ∧ (((b.val * 4096 + i.val) * 16 + h.val) * 64 + d.val) / 1024 % 4096 = i.val
      ∧ (((b.val * 4096 + i.val) * 16 + h.val) * 64 + d.val) / 64 % 16 = h.val ∧ (((b.val * 4096 + i.val) * 16 + h.val) * 64 + d.val) % 64 = d.val := by
  refine ⟨?_, ?_, ?_, ?_⟩ <;> omega

/-- The queries. -/
theorem v2_apply (b : Fin 8) (i : Fin 4096) (h : Fin 16) (d : Fin 64) :
    val_main_v2 (F := Ideal) A (ix4 b i h d) = A (ix3 b i (Spec.chan 0 h d)) := by
  obtain ⟨h0, h1, h2, h3⟩ := split_idx b i h d
  rw [val_main_v2_apply, val_main_v1_apply]
  exact part_idx A b i 0 h d _ h0 h1 rfl h2 h3

/-- The keys. -/
theorem v6_apply (b : Fin 8) (i : Fin 4096) (h : Fin 16) (d : Fin 64) :
    val_main_v6 (F := Ideal) A (ix4 b i h d) = A (ix3 b i (Spec.chan 1 h d)) := by
  obtain ⟨h0, h1, h2, h3⟩ := split_idx b i h d
  rw [val_main_v6_apply, val_main_v5_apply]
  exact part_idx A b i 1 h d _ h0 h1 rfl h2 h3

/-- The values. -/
theorem v8_apply (b : Fin 8) (i : Fin 4096) (h : Fin 16) (d : Fin 64) :
    val_main_v8 (F := Ideal) A (ix4 b i h d) = A (ix3 b i (Spec.chan 2 h d)) := by
  obtain ⟨h0, h1, h2, h3⟩ := split_idx b i h d
  rw [val_main_v8_apply, val_main_v7_apply]
  exact part_idx A b i 2 h d _ h0 h1 rfl h2 h3

theorem ofBits_eighth : Ideal.ofBits .f32 0x3E000000#32 = ((1 / 8 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

/-- The scores. -/
theorem score_apply (b : Fin 8) (h : Fin 16) (i j : Fin 4096) :
    val_main_v71 (F := Ideal) A (ix4 b h i j) = Spec.score A b h i j := by
  rw [val_main_v71_apply]
  unfold Spec.score
  refine Finset.sum_congr rfl fun d _ => ?_
  rw [show lidx_main_v71 (ix4 b h i j) d = ix4 b i h d from (eq_ix4 _), show ridx_main_v71 (ix4 b h i j) d = ix4 b j h d from (eq_ix4 _),
    val_main_v4_apply, v2_apply, v6_apply, val_main_v3_apply, val_main_cst_apply]
  show A _ * Ideal.ofBits .f32 0x3E000000#32 * A _ = _
  rw [ofBits_eighth]

/-- The masked scores. -/
theorem masked_apply (b : Fin 8) (h : Fin 16) (i j : Fin 4096) :
    val_main_v75 (F := Ideal) A B (ix4 b h i j) = Spec.masked A B b h i j := by
  rw [val_main_v75_apply, val_main_call1_v1_apply, show idx_main_call1_v1 (ix4 b h i j) = ix2 i j from eq_ix2 _, mask_apply,
    val_main_v74_apply, score_apply, bias_apply, val_main_call1_v2_apply, val_main_call1_v0_apply, val_main_cst_14_apply]
  unfold Spec.masked
  by_cases hn : Spec.Near i.val j.val
  · rw [if_pos hn, if_pos hn, select_one]; rfl
  · rw [if_neg hn, if_neg hn, select_zero]; exact ofBits_neg_inf

/-- The row maximum. -/
theorem rowMax_apply (b : Fin 8) (h : Fin 16) (i j : Fin 4096) :
    val_main_v80 (F := Ideal) A B (ix4 b h i j) = Finset.univ.fold max ⊥ (Spec.masked A B b h i) := by
  rw [val_main_v80_apply, val_main_v79_apply, val_main_v78_apply, val_main_v77_apply, val_main_cst_16_apply]
  have e : val_main_v76 (F := Ideal) A B (ix3 b h i)  = Finset.univ.fold max (Ideal.ofBits .f32 0xFF800000#32) (fun j : Fin 4096 => val_main_v75 (F := Ideal) A B (ix4 b h i j)) := by
    unfold val_main_v76
    generalize val_main_v75 (F := Ideal) A B = x
    exact RowMax.reduceMax_apply x (val_main_cst_15 (F := Ideal)) b h i
  rw [show idx_main_v79 (idx_main_v80 (ix4 b h i j)) = ix3 b h i from eq_ix3 _, e]
  show max (Ideal.ofBits .f32 0xFF800000#32) (Finset.univ.fold max (Ideal.ofBits .f32 0xFF800000#32) _) = _
  rw [ofBits_neg_inf, bot_sup_eq]
  simp only [masked_apply]

/-- The exponentials. -/
theorem exp_apply (b : Fin 8) (h : Fin 16) (i j : Fin 4096) :
    val_main_v82 (F := Ideal) A B (ix4 b h i j) = Ideal.exp (Spec.masked A B b h i j - Finset.univ.fold max ⊥ (Spec.masked A B b h i)) := by
  rw [val_main_v82_apply, val_main_v81_apply, masked_apply, rowMax_apply]; rfl

/-- The sums of the exponentials. -/
theorem sum_apply (b : Fin 8) (h : Fin 16) (i j : Fin 4096) :
    val_main_v85 (F := Ideal) A B (ix4 b h i j)
      = ∑ j : Fin 4096, Ideal.exp (Spec.masked A B b h i j - Finset.univ.fold max ⊥ (Spec.masked A B b h i)) := by
  rw [val_main_v85_apply, val_main_v84_apply, val_main_v83_apply, val_main_cst_17_apply]
  show Ideal.ofBits .f32 0x00000000#32 + _ = _
  rw [Ideal.ofBits_zero_f32, zero_add]
  exact Finset.sum_congr rfl fun k _ => (congrArg _ (eq_ix4 _)).trans (exp_apply A B b h i k)

/-- THE REFERENCE'S RESULT at batch `b`, token `i`, channel `c`: head `c / 64`, channel `c % 64` of the attention. -/
theorem result_apply (b : Fin 8) (i : Fin 4096) (h : Fin 16) (d : Fin 64) (c : Fin 1024) (hc : c.val = 64 * h.val + d.val) :
    val_main_v90 (F := Ideal) A B (ix3 b i c) = Spec.out A B b i h d := by
  rw [val_main_v90_apply]
  show val_main_v89 (F := Ideal) A B (ix3 b i c) = _
  rw [val_main_v89_apply, val_main_v88_apply]
  have e : idx_main_v88 (idx_main_v89 (ix3 b i c)) = ix4 b h d i := by
    refine funext fun a => Fin.ext ?_
    have hi := i.isLt; have hd := d.isLt; have hh := h.isLt
    match a with
    | ⟨0, _⟩ => show ((b.val * 4096 + i.val) * 1024 + c.val) / 4194304 = b.val; omega
    | ⟨1, _⟩ => show ((b.val * 4096 + i.val) * 1024 + c.val) / 64 % 16 = h.val; omega
    | ⟨2, _⟩ => show ((b.val * 4096 + i.val) * 1024 + c.val) % 64 = d.val; omega
    | ⟨3, _⟩ => show ((b.val * 4096 + i.val) * 1024 + c.val) / 1024 % 4096 = i.val; omega
  rw [e, val_main_v87_apply]
  unfold Spec.out
  refine Finset.sum_congr rfl fun j _ => ?_
  rw [show lidx_main_v87 (ix4 b h d i) j = ix4 b j h d from eq_ix4 _, show ridx_main_v87 (ix4 b h d i) j = ix4 b h i j from eq_ix4 _,
    v8_apply, val_main_v86_apply, exp_apply, sum_apply]
  rfl

end Cert.RefValue

end
-- ==== Proof.Finite.lean ====
/- What the precondition says: the queries, the keys and the bias table hold real numbers. -/
module

public import proofs.«01_k».proof.Pre_finite_scores
public import proofs.«01_k».proof.Proof.Spec
public import Idealize.ShloMosaic.Lib.ReduceAll
public import Idealize.ShloMosaic.Lib.Decide
public import Idealize.ShloMosaic.Lib.Pipeline.Value

@[expose] public section

set_option maxRecDepth 10000

noncomputable section

namespace Cert.Finite

open Cert.Pre_finite_scores Idealize.ShloMosaic Idealize.ShloMosaic.ValueIdx
open Cert.Spec (Qkv Rpb)

/-- The precondition's shape facts. -/
theorem facts : Cert.Pre_finite_scores.Facts := ⟨by decide, by decide, by decide, by decide, by decide, by decide⟩

theorem ofBits_inf : Ideal.ofBits .f32 0x7F800000#32 = (⊤ : EReal) := by
  simp [Ideal.ofBits, Ideal.ieee]

/-- A number whose absolute value is below infinity is real. -/
theorem real_of_lt (x : EReal) (h : Ideal.cmp .olt (max x (-x)) (Ideal.ofBits .f32 0x7F800000#32) = 1#1) : ∃ r : ℝ, x = r := by
  rw [ofBits_inf] at h
  have h' : max x (-x) < ⊤ := by
    by_contra hn
    simp [Ideal.cmp, hn] at h
  rw [max_lt_iff] at h'
  induction x using EReal.rec with
  | bot => simp at h'
  | coe r => exact ⟨r, rfl⟩
  | top => simp at h'

instance : Subsingleton S_.Idx := ⟨fun _ _ => funext fun a => a.elim0⟩

/-- Two bits whose conjunction is one are both one. -/
theorem and_one : ∀ x y : BitVec 1, IntOp.andi x y = 1#1 → x = 1#1 ∧ y = 1#1 := by decide

/-- Under the precondition the queries and keys are real, and so is the bias table. -/
theorem real (A : Qkv) (B : Rpb) (h : @Cert.Pre_finite_scores.fn facts Ideal _ A B = fun _ => 1#1) :
    (∀ b i (n : Fin 3072), n.val < 2048 → ∃ r : ℝ, A (ix3 b i n) = r) ∧ ∀ h r k, ∃ x : ℝ, B (ix3 h r k) = x := by
  have h0 := and_one _ _ (congrFun h ix0)
  refine ⟨fun b i n hn => ?_, fun g r k => ?_⟩
  · have := Host.reduce_andi_all _ _ _ _ _ h0.1 (ix3 b i ⟨n.val, hn⟩)
    refine real_of_lt _ (Eq.trans ?_ this)
    show Ideal.cmp .olt (max (A _) (-(A _))) _ = Ideal.cmp .olt (max (A _) (-(A _))) _
    refine congrArg (fun x : EReal => Ideal.cmp .olt (max x (-x)) (Ideal.ofBits .f32 0x7F800000#32)) (congrArg A (funext fun a => Fin.ext ?_))
    match a with
    | ⟨0, _⟩ => show b.val = 0 + b.val; omega
    | ⟨1, _⟩ => show i.val = 0 + i.val; omega
    | ⟨2, _⟩ => show n.val = 0 + n.val; omega
  · exact real_of_lt _ (Host.reduce_andi_all _ _ _ _ _ h0.2 (ix3 g r k))

end Cert.Finite

end
-- ==== Proof.FfnRun.lean ====
/- The feed-forward kernel's body, run once per case of its three branches, at symbolic staging buffers: what it leaves in
   the output block and in the scratch rows, as functions of the blocks that it was handed. -/
module

public import proofs.«01_k».proof.Proof.Gen.Kernel2Ideal.Frame
public import proofs.«01_k».proof.Proof.Gen.Kernel2Ideal.Skeleton
public import Idealize.ShloMosaic.Lib.Pipeline.TableIdle
public import Idealize.ShloMosaic.Lib.Pipeline.Value

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The scratch after a row block's first point: 16 rows before the block, the block's 1024 rows, 16 rows after it. -/
def scr (i : grid0.Coords) (x0 : Vec F S1024x2048 .f32) (x1 x2 : Vec F S16x2048 .f32) : Vec F S1056x2048 .bf16 :=
  View.canon [
    (⟨Rect.unit (s := S1056x2048) ![1040, 0] S16x2048.size inb_S1056x2048_S16x2048_1040_0,
      k0_pay7 (k0_pay4 (BitVec.ofNat 32 (i 0).val)) x2⟩ : View.Piece (Elt F) S1056x2048 .bf16),
    ⟨Rect.unit (s := S1056x2048) ![16, 0] S1024x2048.size inb_S1056x2048_S1024x2048_16_0, k0_pay6 x0⟩,
    ⟨Rect.unit (s := S1056x2048) ![0, 0] S16x2048.size inb_S1056x2048_S16x2048_0_0,
      k0_pay5 (BitVec.ofNat 32 (i 0).val) x1⟩]

/-- The scratch rows of the block itself. -/
def mid (s : Vec F S1056x2048 .bf16) : Vec F S1024x2048 .bf16 :=
  View.ld s (Rect.unit (s := S1056x2048) ![16, 0] S1024x2048.size inb_S1056x2048_S1024x2048_16_0)

/-- Tap `k` of the convolution's weights, as the body loads it. -/
def tap0 (w : Vec F S3x512 .f32) : Vec F S1x512 .f32 :=
  View.ld w (Rect.unit (s := S3x512) ![0, 0] S1x512.size inb_S3x512_S1x512_0_0)
/-- The middle tap. -/
def tap1 (w : Vec F S3x512 .f32) : Vec F S1x512 .f32 :=
  View.ld w (Rect.unit (s := S3x512) ![1, 0] S1x512.size inb_S3x512_S1x512_1_0)
/-- The last tap. -/
def tap2 (w : Vec F S3x512 .f32) : Vec F S1x512 .f32 :=
  View.ld w (Rect.unit (s := S3x512) ![2, 0] S1x512.size inb_S3x512_S1x512_2_0)

/-- What the first point of a row block leaves in the output block: the first hidden block's product. -/
def resA (s : Vec F S1056x2048 .bf16) (x3 x4 : Vec F S2048x512 .bf16) (x5 : Vec F S512x2048 .bf16)
    (x6 : Vec F S3x512 .f32) (x7 : Vec F S1x512 .f32) : Vec F S1024x2048 .f32 :=
  k0_pay1 (k0_pay9 (mid s) x4) (k0_pay10 s x3) (k0_pay11 s x3) (k0_pay12 s x3 (tap0 x6)) (k0_pay13 (tap1 x6)) (tap2 x6) x7 x5

/-- What a middle point leaves in the output block that held `o`: `o` plus its hidden block's product. -/
def resB (s : Vec F S1056x2048 .bf16) (x3 x4 : Vec F S2048x512 .bf16) (x5 : Vec F S512x2048 .bf16)
    (x6 : Vec F S3x512 .f32) (x7 : Vec F S1x512 .f32) (o : Vec F S1024x2048 .f32) : Vec F S1024x2048 .f32 :=
  k0_pay2 (k0_pay14 (mid s) x4) (k0_pay16 s x3 (tap0 x6) (tap1 x6) (tap2 x6) x7) (k0_pay17 s x3 (tap0 x6) (tap1 x6) (tap2 x6) x7)
    (k0_pay18 (F := F)) o x5

/-- The hidden block's first 384 columns of the up projection's weights, which is all the last hidden block has. -/
def cut (w : Vec F S2048x512 .bf16) : Vec F S2048x384 .bf16 :=
  View.ld w (Rect.unit (s := S2048x512) ![0, 0] S2048x384.size inb_S2048x512_S2048x384_0_0)
/-- The same of tap 0, -/
def ctap0 (w : Vec F S3x512 .f32) : Vec F S1x384 .f32 :=
  View.ld w (Rect.unit (s := S3x512) ![0, 0] S1x384.size inb_S3x512_S1x384_0_0)
/-- of tap 1, -/
def ctap1 (w : Vec F S3x512 .f32) : Vec F S1x384 .f32 :=
  View.ld w (Rect.unit (s := S3x512) ![1, 0] S1x384.size inb_S3x512_S1x384_1_0)
/-- of tap 2, -/
def ctap2 (w : Vec F S3x512 .f32) : Vec F S1x384 .f32 :=
  View.ld w (Rect.unit (s := S3x512) ![2, 0] S1x384.size inb_S3x512_S1x384_2_0)
/-- and of the bias. -/
def cbias (w : Vec F S1x512 .f32) : Vec F S1x384 .f32 :=
  View.ld w (Rect.unit (s := S1x512) ![0, 0] S1x384.size inb_S1x512_S1x384_0_0)
/-- The first 384 rows of the down projection's block. -/
def top (w : Vec F S512x2048 .bf16) : Vec F S384x2048 .bf16 :=
  View.ld w (Rect.unit (s := S512x2048) ![0, 0] S384x2048.size inb_S512x2048_S384x2048_0_0)
/-- Rows 0 to 255 of a block. -/
def row0 (w : Vec F S1024x2048 .f32) : Vec F S256x2048 .f32 :=
  View.ld w (Rect.unit (s := S1024x2048) ![0, 0] S256x2048.size inb_S1024x2048_S256x2048_0_0)
/-- Rows 256 to 511. -/
def row1 (w : Vec F S1024x2048 .f32) : Vec F S256x2048 .f32 :=
  View.ld w (Rect.unit (s := S1024x2048) ![256, 0] S256x2048.size inb_S1024x2048_S256x2048_256_0)
/-- Rows 512 to 767. -/
def row2 (w : Vec F S1024x2048 .f32) : Vec F S256x2048 .f32 :=
  View.ld w (Rect.unit (s := S1024x2048) ![512, 0] S256x2048.size inb_S1024x2048_S256x2048_512_0)
/-- Rows 768 to 1023. -/
def row3 (w : Vec F S1024x2048 .f32) : Vec F S256x2048 .f32 :=
  View.ld w (Rect.unit (s := S1024x2048) ![768, 0] S256x2048.size inb_S1024x2048_S256x2048_768_0)

/-- The last hidden block's activations. -/
def actC (s : Vec F S1056x2048 .bf16) (x3 x4 : Vec F S2048x512 .bf16) (x6 : Vec F S3x512 .f32) (x7 : Vec F S1x512 .f32) :
    FVec F S1024x384 .bf16 :=
  k0_pay24 (k0_pay19 (mid s) (cut x4)) (k0_pay21 s (cut x3) (ctap0 x6) (ctap1 x6) (ctap2 x6) (cbias x7))
    (k0_pay22 s (cut x3) (ctap0 x6) (ctap1 x6) (ctap2 x6) (cbias x7)) (k0_pay23 (F := F))

/-- What the last point of a row block leaves in the output block that held `o`: four groups of 256 normalised rows. -/
def resC (s : Vec F S1056x2048 .bf16) (x0 : Vec F S1024x2048 .f32) (x3 x4 : Vec F S2048x512 .bf16) (w : Vec F S384x2048 .bf16)
    (x6 : Vec F S3x512 .f32) (x7 : Vec F S1x512 .f32) (x8 x9 : Vec F S1x2048 .f32) (o : Vec F S1024x2048 .f32) : Vec F S1024x2048 .f32 :=
  View.canon [
    (⟨Rect.unit (s := S1024x2048) ![768, 0] S256x2048.size inb_S1024x2048_S256x2048_768_0,
      k0_pay3 (actC s x3 x4 x6 x7) (k0_pay28 (row3 x0)) (Scalar.ofBits .f32 0x3F9837F0#32) (row3 o) w x8 x9⟩ : View.Piece (Elt F) S1024x2048 .f32),
    ⟨Rect.unit (s := S1024x2048) ![512, 0] S256x2048.size inb_S1024x2048_S256x2048_512_0,
      k0_pay27 (actC s x3 x4 x6 x7) (row2 x0) (row2 o) w x8 x9⟩,
    ⟨Rect.unit (s := S1024x2048) ![256, 0] S256x2048.size inb_S1024x2048_S256x2048_256_0,
      k0_pay26 (actC s x3 x4 x6 x7) (row1 x0) (row1 o) w x8 x9⟩,
    ⟨Rect.unit (s := S1024x2048) ![0, 0] S256x2048.size inb_S1024x2048_S256x2048_0_0,
      k0_pay25 (k0_pay19 (mid s) (cut x4)) (k0_pay21 s (cut x3) (ctap0 x6) (ctap1 x6) (ctap2 x6) (cbias x7))
        (k0_pay22 s (cut x3) (ctap0 x6) (ctap1 x6) (ctap2 x6) (cbias x7)) (k0_pay23 (F := F)) (row0 x0) (row0 o) w x8 x9⟩]

/-- The zero offsets of a rank-2 rectangle. -/
theorem hz2 : (![0, 0] : Fin 2 → ℕ) = fun _ => 0 := by decide

/-- A covered load reads the canonical contents through its rectangle. -/
theorem readCov_ld {κ : Kind} {sp : Space} {s : Shape} {e : EltTy} (v : View sig κ sp s e)
    (L : List (View.Piece (Elt F) s e)) (r : Rect s) :
    v.readCov L r.toLoadRect = View.ld (View.canon L) r := View.readCov_eq_canon' v L _

set_option maxHeartbeats 4000000 in
/-- The body at a row block's first point. -/
theorem body_A (c : Dev nD) (i : grid0.Coords) (arg2 : Memref sig .tc .vmem S1024x2048 .f32) (harg2 : arg2.IsWhole) (arg3 : Memref sig .tc .vmem S16x2048 .f32) (harg3 : arg3.IsWhole)
    (arg4 : Memref sig .tc .vmem S16x2048 .f32) (harg4 : arg4.IsWhole) (arg5 : Memref sig .tc .vmem S2048x512 .bf16) (harg5 : arg5.IsWhole)
    (arg6 : Memref sig .tc .vmem S2048x512 .bf16) (harg6 : arg6.IsWhole) (arg7 : Memref sig .tc .vmem S512x2048 .bf16) (harg7 : arg7.IsWhole)
    (arg8 : Memref sig .tc .vmem S3x512 .f32) (harg8 : arg8.IsWhole) (arg9 : Memref sig .tc .vmem S1x512 .f32) (harg9 : arg9.IsWhole)
    (arg10 : Memref sig .tc .vmem S1x2048 .f32) (harg10 : arg10.IsWhole) (arg11 : Memref sig .tc .vmem S1x2048 .f32) (harg11 : arg11.IsWhole)
    (arg12 : Memref sig .tc .vmem S1024x2048 .f32) (harg12 : arg12.IsWhole) (arg13 : Memref sig .tc .vmem S1056x2048 .bf16) (harg13 : arg13.IsWhole)

    (hc0 : k0_cond1 i = 1#1) (hc1 : ¬k0_cond2 i = 1#1) (hc2 : ¬k0_cond3 i = 1#1)
    (x0 : Vec F S1024x2048 .f32) (x1 x2 : Vec F S16x2048 .f32) (x3 x4 : Vec F S2048x512 .bf16) (x5 : Vec F S512x2048 .bf16)
    (x6 : Vec F S3x512 .f32) (x7 : Vec F S1x512 .f32) (x8 x9 : Vec F S1x2048 .f32) (E : Set ℕ) (K : PUnit → sProp 𝕄) :
    iprop(owns (c : Thread nD τ) arg2 fullShare x0 ∗ owns (c : Thread nD τ) arg3 fullShare x1
       ∗ owns (c : Thread nD τ) arg4 fullShare x2 ∗ owns (c : Thread nD τ) arg5 fullShare x3 ∗ owns (c : Thread nD τ) arg6 fullShare x4
       ∗ owns (c : Thread nD τ) arg7 fullShare x5 ∗ owns (c : Thread nD τ) arg8 fullShare x6 ∗ owns (c : Thread nD τ) arg9 fullShare x7
       ∗ owns (c : Thread nD τ) arg10 fullShare x8 ∗ owns (c : Thread nD τ) arg11 fullShare x9 ∗ (∃ d, owns (c : Thread nD τ) arg12 fullShare d) ∗ (∃ d, owns (c : Thread nD τ) arg13 fullShare d)
      ∗ (iprop(owns (c : Thread nD τ) arg2 fullShare x0 ∗ owns (c : Thread nD τ) arg3 fullShare x1
       ∗ owns (c : Thread nD τ) arg4 fullShare x2 ∗ owns (c : Thread nD τ) arg5 fullShare x3 ∗ owns (c : Thread nD τ) arg6 fullShare x4
       ∗ owns (c : Thread nD τ) arg7 fullShare x5 ∗ owns (c : Thread nD τ) arg8 fullShare x6 ∗ owns (c : Thread nD τ) arg9 fullShare x7
       ∗ owns (c : Thread nD τ) arg10 fullShare x8 ∗ owns (c : Thread nD τ) arg11 fullShare x9 ∗ owns (c : Thread nD τ) arg12 fullShare (resA (scr i x0 x1 x2) x3 x4 x5 x6 x7)
      ∗ owns (c : Thread nD τ) arg13 fullShare (scr i x0 x1 x2)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13) K := by
  simp only [cc0_ffn_eq_skeleton]; unfold cc0_ffn_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, %hf10, H10⟩, ⟨%ds0, %fs0, %hfs0, HS0⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    sl_unfold_words
    rw [View.read_writes_eq_canon _ _ _ (fun y => View.cover_of_tiledL _ S1024x2048.size (by sl_kernel_rfl) y), View.canon_unit_zero (S := S1024x2048) hz2]
    simp only [View.readAt_eq_ld, harg2.read_unread, harg3.read_unread, harg4.read_unread, harg5.read_unread, harg6.read_unread, harg7.read_unread, harg8.read_unread, harg9.read_unread, harg10.read_unread, harg11.read_unread, readCov_ld]
    simp only [View.ld_unit_zero (S := S1024x2048) hz2, View.ld_unit_zero (S := S16x2048) hz2, View.ld_unit_zero (S := S2048x512) hz2, View.ld_unit_zero (S := S512x2048) hz2, View.ld_unit_zero (S := S1x512) hz2, View.ld_unit_zero (S := S1x2048) hz2, View.ld_unit_zero (S := S1056x2048) hz2]
    simp only [resA, scr, mid, tap0, tap1, tap2]
  · iexists _; isplitr; swap; · iexact HS0
    ipureintro
    sl_unfold_words
    rw [View.read_writes_eq_canon _ _ _ (fun y => View.cover_of_tiledBy _ ![16, 2048] (by sl_kernel_rfl) y)]
    simp only [View.readAt_eq_ld, harg2.read_unread, harg3.read_unread, harg4.read_unread, harg5.read_unread, harg6.read_unread, harg7.read_unread, harg8.read_unread, harg9.read_unread, harg10.read_unread, harg11.read_unread]
    simp only [View.ld_unit_zero (S := S1024x2048) hz2, View.ld_unit_zero (S := S16x2048) hz2, View.ld_unit_zero (S := S2048x512) hz2, View.ld_unit_zero (S := S512x2048) hz2, View.ld_unit_zero (S := S1x512) hz2, View.ld_unit_zero (S := S1x2048) hz2, View.ld_unit_zero (S := S1056x2048) hz2]
    simp only [scr]

set_option maxHeartbeats 4000000 in
/-- The body at a row block's middle points. -/
theorem body_B (c : Dev nD) (i : grid0.Coords) (arg2 : Memref sig .tc .vmem S1024x2048 .f32) (harg2 : arg2.IsWhole) (arg3 : Memref sig .tc .vmem S16x2048 .f32) (harg3 : arg3.IsWhole)
    (arg4 : Memref sig .tc .vmem S16x2048 .f32) (harg4 : arg4.IsWhole) (arg5 : Memref sig .tc .vmem S2048x512 .bf16) (harg5 : arg5.IsWhole)
    (arg6 : Memref sig .tc .vmem S2048x512 .bf16) (harg6 : arg6.IsWhole) (arg7 : Memref sig .tc .vmem S512x2048 .bf16) (harg7 : arg7.IsWhole)
    (arg8 : Memref sig .tc .vmem S3x512 .f32) (harg8 : arg8.IsWhole) (arg9 : Memref sig .tc .vmem S1x512 .f32) (harg9 : arg9.IsWhole)
    (arg10 : Memref sig .tc .vmem S1x2048 .f32) (harg10 : arg10.IsWhole) (arg11 : Memref sig .tc .vmem S1x2048 .f32) (harg11 : arg11.IsWhole)
    (arg12 : Memref sig .tc .vmem S1024x2048 .f32) (harg12 : arg12.IsWhole) (arg13 : Memref sig .tc .vmem S1056x2048 .bf16) (harg13 : arg13.IsWhole)

    (hc0 : ¬k0_cond1 i = 1#1) (hc1 : k0_cond2 i = 1#1) (hc2 : ¬k0_cond3 i = 1#1)
    (x0 : Vec F S1024x2048 .f32) (x1 x2 : Vec F S16x2048 .f32) (x3 x4 : Vec F S2048x512 .bf16) (x5 : Vec F S512x2048 .bf16)
    (x6 : Vec F S3x512 .f32) (x7 : Vec F S1x512 .f32) (x8 x9 : Vec F S1x2048 .f32) (xo : Vec F S1024x2048 .f32) (xs : Vec F S1056x2048 .bf16) (E : Set ℕ) (K : PUnit → sProp 𝕄) :
    iprop(owns (c : Thread nD τ) arg2 fullShare x0 ∗ owns (c : Thread nD τ) arg3 fullShare x1
       ∗ owns (c : Thread nD τ) arg4 fullShare x2 ∗ owns (c : Thread nD τ) arg5 fullShare x3 ∗ owns (c : Thread nD τ) arg6 fullShare x4
       ∗ owns (c : Thread nD τ) arg7 fullShare x5 ∗ owns (c : Thread nD τ) arg8 fullShare x6 ∗ owns (c : Thread nD τ) arg9 fullShare x7
       ∗ owns (c : Thread nD τ) arg10 fullShare x8 ∗ owns (c : Thread nD τ) arg11 fullShare x9 ∗ owns (c : Thread nD τ) arg12 fullShare xo ∗ owns (c : Thread nD τ) arg13 fullShare xs
      ∗ (iprop(owns (c : Thread nD τ) arg2 fullShare x0 ∗ owns (c : Thread nD τ) arg3 fullShare x1
       ∗ owns (c : Thread nD τ) arg4 fullShare x2 ∗ owns (c : Thread nD τ) arg5 fullShare x3 ∗ owns (c : Thread nD τ) arg6 fullShare x4
       ∗ owns (c : Thread nD τ) arg7 fullShare x5 ∗ owns (c : Thread nD τ) arg8 fullShare x6 ∗ owns (c : Thread nD τ) arg9 fullShare x7
       ∗ owns (c : Thread nD τ) arg10 fullShare x8 ∗ owns (c : Thread nD τ) arg11 fullShare x9 ∗ owns (c : Thread nD τ) arg12 fullShare (resB xs x3 x4 x5 x6 x7 xo)
      ∗ owns (c : Thread nD τ) arg13 fullShare xs) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13) K := by
  simp only [cc0_ffn_eq_skeleton]; unfold cc0_ffn_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    sl_unfold_words
    rw [View.read_writes_eq_canon _ _ _ (fun y => View.cover_of_tiledL _ S1024x2048.size (by sl_kernel_rfl) y), View.canon_unit_zero (S := S1024x2048) hz2]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread]
    simp only [View.ld_unit_zero (S := S1024x2048) hz2, View.ld_unit_zero (S := S16x2048) hz2, View.ld_unit_zero (S := S2048x512) hz2, View.ld_unit_zero (S := S512x2048) hz2, View.ld_unit_zero (S := S1x512) hz2, View.ld_unit_zero (S := S1x2048) hz2, View.ld_unit_zero (S := S1056x2048) hz2]
    simp only [resB, mid, tap0, tap1, tap2]
  · iexists _; isplitr; swap; · iexact HS0
    ipureintro
    exact harg13.read_unread _

set_option maxHeartbeats 4000000 in
/-- The body at a row block's last point. -/
theorem body_C (c : Dev nD) (i : grid0.Coords) (arg2 : Memref sig .tc .vmem S1024x2048 .f32) (harg2 : arg2.IsWhole) (arg3 : Memref sig .tc .vmem S16x2048 .f32) (harg3 : arg3.IsWhole)
    (arg4 : Memref sig .tc .vmem S16x2048 .f32) (harg4 : arg4.IsWhole) (arg5 : Memref sig .tc .vmem S2048x512 .bf16) (harg5 : arg5.IsWhole)
    (arg6 : Memref sig .tc .vmem S2048x512 .bf16) (harg6 : arg6.IsWhole) (arg7 : Memref sig .tc .vmem S512x2048 .bf16) (harg7 : arg7.IsWhole)
    (arg8 : Memref sig .tc .vmem S3x512 .f32) (harg8 : arg8.IsWhole) (arg9 : Memref sig .tc .vmem S1x512 .f32) (harg9 : arg9.IsWhole)
    (arg10 : Memref sig .tc .vmem S1x2048 .f32) (harg10 : arg10.IsWhole) (arg11 : Memref sig .tc .vmem S1x2048 .f32) (harg11 : arg11.IsWhole)
    (arg12 : Memref sig .tc .vmem S1024x2048 .f32) (harg12 : arg12.IsWhole) (arg13 : Memref sig .tc .vmem S1056x2048 .bf16) (harg13 : arg13.IsWhole)

    (hc0 : ¬k0_cond1 i = 1#1) (hc1 : ¬k0_cond2 i = 1#1) (hc2 : k0_cond3 i = 1#1)
    (x0 : Vec F S1024x2048 .f32) (x1 x2 : Vec F S16x2048 .f32) (x3 x4 : Vec F S2048x512 .bf16) (x5 : Vec F S512x2048 .bf16)
    (x6 : Vec F S3x512 .f32) (x7 : Vec F S1x512 .f32) (x8 x9 : Vec F S1x2048 .f32) (xo : Vec F S1024x2048 .f32) (xs : Vec F S1056x2048 .bf16) (E : Set ℕ) (K : PUnit → sProp 𝕄) :
    iprop(owns (c : Thread nD τ) arg2 fullShare x0 ∗ owns (c : Thread nD τ) arg3 fullShare x1
       ∗ owns (c : Thread nD τ) arg4 fullShare x2 ∗ owns (c : Thread nD τ) arg5 fullShare x3 ∗ owns (c : Thread nD τ) arg6 fullShare x4
       ∗ owns (c : Thread nD τ) arg7 fullShare x5 ∗ owns (c : Thread nD τ) arg8 fullShare x6 ∗ owns (c : Thread nD τ) arg9 fullShare x7
       ∗ owns (c : Thread nD τ) arg10 fullShare x8 ∗ owns (c : Thread nD τ) arg11 fullShare x9 ∗ owns (c : Thread nD τ) arg12 fullShare xo ∗ owns (c : Thread nD τ) arg13 fullShare xs
      ∗ (iprop(owns (c : Thread nD τ) arg2 fullShare x0 ∗ owns (c : Thread nD τ) arg3 fullShare x1
       ∗ owns (c : Thread nD τ) arg4 fullShare x2 ∗ owns (c : Thread nD τ) arg5 fullShare x3 ∗ owns (c : Thread nD τ) arg6 fullShare x4
       ∗ owns (c : Thread nD τ) arg7 fullShare x5 ∗ owns (c : Thread nD τ) arg8 fullShare x6 ∗ owns (c : Thread nD τ) arg9 fullShare x7
       ∗ owns (c : Thread nD τ) arg10 fullShare x8 ∗ owns (c : Thread nD τ) arg11 fullShare x9 ∗ owns (c : Thread nD τ) arg12 fullShare (resC xs x0 x3 x4 (top x5) x6 x7 x8 x9 xo)
      ∗ owns (c : Thread nD τ) arg13 fullShare xs) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13) K := by
  simp only [cc0_ffn_eq_skeleton]; unfold cc0_ffn_skel
  simp only [k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    sl_unfold_words
    rw [View.read_writes_eq_canon]
    swap
    · exact View.cover_of_tiledL _ S256x2048.size (by sl_kernel_rfl)
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread]
    simp only [View.ld_unit_zero (S := S1024x2048) hz2, View.ld_unit_zero (S := S16x2048) hz2, View.ld_unit_zero (S := S2048x512) hz2, View.ld_unit_zero (S := S512x2048) hz2, View.ld_unit_zero (S := S1x512) hz2, View.ld_unit_zero (S := S1x2048) hz2, View.ld_unit_zero (S := S1056x2048) hz2]
    simp only [resC, actC, mid, cut, ctap0, ctap1, ctap2, cbias, top, row0, row1, row2, row3]
  · iexists _; isplitr; swap; · iexact HS0
    ipureintro
    exact harg13.read_unread _

end Cert.Ffn

end
-- ==== Proof.FfnDat.lean ====
/- The feed-forward kernel's grid points: which branch each takes, and what each leaves in the output block and in the
   scratch rows, from the blocks that it is handed and what the point before left. -/
module

public import proofs.«01_k».proof.Proof.FfnRun
public import proofs.«01_k».proof.Proof.Gen.Kernel2Ideal.Frame
public import proofs.«01_k».proof.Proof.Gen.Kernel2Ideal.Skeleton
public import Idealize.ShloMosaic.Lib.Pipeline.TableIdle
public import Idealize.ShloMosaic.Lib.Pipeline.Value

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (Dat Cfg Window BodyObligation BodyObligationLoose cellOf)

/-- The first condition holds at a row block's first point, -/
theorem cond1_iff : ∀ t : Fin cfg0.N, k0_cond1 (grid0.coords t) = 1#1 ↔ t.val % 11 = 0 :=
  (by decide +kernel : ∀ t : Fin grid0.N, k0_cond1 (grid0.coords t) = 1#1 ↔ t.val % 11 = 0)
/-- the second at its middle points, -/
theorem cond2_iff : ∀ t : Fin cfg0.N, k0_cond2 (grid0.coords t) = 1#1 ↔ (1 ≤ t.val % 11 ∧ t.val % 11 ≤ 9) :=
  (by decide +kernel : ∀ t : Fin grid0.N, k0_cond2 (grid0.coords t) = 1#1 ↔ (1 ≤ t.val % 11 ∧ t.val % 11 ≤ 9))
/-- the third at its last. -/
theorem cond3_iff : ∀ t : Fin cfg0.N, k0_cond3 (grid0.coords t) = 1#1 ↔ t.val % 11 = 10 :=
  (by decide +kernel : ∀ t : Fin grid0.N, k0_cond3 (grid0.coords t) = 1#1 ↔ t.val % 11 = 10)

/-- No point leaves the output's buffer alone. -/
theorem live10 : ∀ t : Fin cfg0.N, cfg0.idle 10 (grid0.coords t) = false :=
  (by decide +kernel : ∀ t : Fin grid0.N, cfg0.idle 10 (grid0.coords t) = false)

/-- Before the last hidden block the down projection's block lies inside its array. -/
theorem clip5 : ∀ t : Fin grid0.N, t.val % 11 ≠ 10 → ∀ a : Fin 2, 512 ≤ (win0_5.xsize (grid0.coords t) 0) ∧ 2048 ≤ (win0_5.xsize (grid0.coords t) 1) := by
  decide +kernel
/-- And at least 384 of its rows always do. -/
theorem rows5 : ∀ t : Fin grid0.N, 384 ≤ (win0_5.xsize (grid0.coords t) 0) ∧ 2048 ≤ (win0_5.xsize (grid0.coords t) 1) := by
  decide +kernel

/-- Inside the array a filled block is the array's. -/
theorem fill_moved (i : grid0.Coords) (d d' : Vec F S512x2048 .bf16) (g : (win0_5.xblock i).Idx → Elt F .bf16)
    (j : S512x2048.Idx) (hm : win0_5.moved i j = true) : win0_5.fill i d g j = win0_5.fill i d' g j := by
  unfold Window.fill
  rw [dif_pos hm, dif_pos hm]

/-- What fills the part of a block beyond its array does not matter where no part is beyond it. -/
theorem fill_free (t : Fin grid0.N) (h : t.val % 11 ≠ 10) (d d' : Vec F S512x2048 .bf16)
    (g : (win0_5.xblock (grid0.coords t)).Idx → Elt F .bf16) :
    win0_5.fill (grid0.coords t) d g = win0_5.fill (grid0.coords t) d' g := by
  funext j
  have hm : win0_5.moved (grid0.coords t) j = true := (win0_5.moved_iff (grid0.coords t) j).mpr fun a => by
    have h0 := clip5 t h 0
    match a with
    | ⟨0, _⟩ => exact Nat.lt_of_lt_of_le (j 0).isLt h0.1
    | ⟨1, _⟩ => exact Nat.lt_of_lt_of_le (j 1).isLt h0.2
  exact fill_moved _ d d' g j hm

/-- Nor does it for the first 384 rows. -/
theorem top_free (t : Fin grid0.N) (d d' : Vec F S512x2048 .bf16)
    (g : (win0_5.xblock (grid0.coords t)).Idx → Elt F .bf16) :
    top (win0_5.fill (grid0.coords t) d g) = top (win0_5.fill (grid0.coords t) d' g) := by
  funext y
  have hm : win0_5.moved (grid0.coords t) ((Rect.unit (s := S512x2048) ![0, 0] S384x2048.size inb_S512x2048_S384x2048_0_0).idx y) = true :=
    (win0_5.moved_iff (grid0.coords t) _).mpr fun a => by
      have h0 := rows5 t
      match a with
      | ⟨0, _⟩ => exact Nat.lt_of_lt_of_le (show 0 + 1 * (y 0).val < 384 by have h1 : (y 0).val < 384 := (y 0).isLt; omega) h0.1
      | ⟨1, _⟩ => exact Nat.lt_of_lt_of_le (show 0 + 1 * (y 1).val < 2048 by have h1 : (y 1).val < 2048 := (y 1).isLt; omega) h0.2
  exact fill_moved _ d d' g _ hm

/-- The down projection's block at a point, some fixed contents beyond its array. -/
def wdB (c : Dev nD) (t : Fin cfg0.N) : Vec F S512x2048 .bf16 :=
  win0_5.fill (grid0.coords t) (View.canon ([] : List (View.Piece (Elt F) S512x2048 .bf16))) (iblk m c 5 t)

/-- What a first point leaves. -/
def outA (c : Dev nD) (t : Fin cfg0.N) : Vec F S1024x2048 .f32 × Vec F S1056x2048 .bf16 :=
  (resA (scr (grid0.coords t) (iblk m c 0 t) (iblk m c 1 t) (iblk m c 2 t)) (iblk m c 3 t) (iblk m c 4 t) (wdB m c t) (iblk m c 6 t) (iblk m c 7 t),
    scr (grid0.coords t) (iblk m c 0 t) (iblk m c 1 t) (iblk m c 2 t))
/-- What a middle point leaves, over what it finds. -/
def outB (c : Dev nD) (t : Fin cfg0.N) (p : Vec F S1024x2048 .f32 × Vec F S1056x2048 .bf16) : Vec F S1024x2048 .f32 × Vec F S1056x2048 .bf16 :=
  (resB p.2 (iblk m c 3 t) (iblk m c 4 t) (wdB m c t) (iblk m c 6 t) (iblk m c 7 t) p.1, p.2)
/-- What a last point leaves, over what it finds. -/
def outC (c : Dev nD) (t : Fin cfg0.N) (p : Vec F S1024x2048 .f32 × Vec F S1056x2048 .bf16) : Vec F S1024x2048 .f32 × Vec F S1056x2048 .bf16 :=
  (resC p.2 (iblk m c 0 t) (iblk m c 3 t) (iblk m c 4 t) (top (wdB m c t)) (iblk m c 6 t) (iblk m c 7 t) (iblk m c 8 t) (iblk m c 9 t) p.1, p.2)

/-- What the output's buffer and the scratch hold after each point. -/
def outsAt (c : Dev nD) : (n : ℕ) → n < cfg0.N → Vec F S1024x2048 .f32 × Vec F S1056x2048 .bf16
  | 0, hn => outA m c ⟨0, hn⟩
  | n + 1, hn =>
    if (n + 1) % 11 = 0 then outA m c ⟨n + 1, hn⟩
    else if (n + 1) % 11 = 10 then outC m c ⟨n + 1, hn⟩ (outsAt c n (Nat.lt_of_succ_lt hn))
    else outB m c ⟨n + 1, hn⟩ (outsAt c n (Nat.lt_of_succ_lt hn))

/-- After a first point, -/
theorem outsAt_A (c : Dev nD) (t : Fin cfg0.N) (h : t.val % 11 = 0) : outsAt m c t.val t.isLt = outA m c t := by
  obtain ⟨n, hn⟩ := t
  cases n with
  | zero => rfl
  | succ n => exact if_pos h
/-- a middle point, -/
theorem outsAt_B (c : Dev nD) (t : Fin cfg0.N) (h : t.val % 11 ≠ 0) (h' : t.val % 11 ≠ 10) :
    outsAt m c t.val t.isLt = outB m c t (outsAt m c (t.val - 1) (Nat.lt_of_le_of_lt (Nat.sub_le _ _) t.isLt)) := by
  obtain ⟨n, hn⟩ := t
  cases n with
  | zero => exact absurd (Nat.zero_mod _) h
  | succ n => exact (if_neg h).trans (if_neg h')
/-- and a last point. -/
theorem outsAt_C (c : Dev nD) (t : Fin cfg0.N) (h' : t.val % 11 = 10) :
    outsAt m c t.val t.isLt = outC m c t (outsAt m c (t.val - 1) (Nat.lt_of_le_of_lt (Nat.sub_le _ _) t.isLt)) := by
  obtain ⟨n, hn⟩ := t
  cases n with
  | zero => exact absurd h' (by show ¬(0 % 11 = 10); decide)
  | succ n => exact (if_neg (by dsimp only at h'; omega)).trans (if_pos h')

end Cert.Ffn

end
-- ==== Proof.FfnInv.lean ====
/- The feed-forward kernel's pipeline: what holds of the output block and of the scratch rows before and after each grid
   point. -/
module

public import proofs.«01_k».proof.Proof.FfnDat
public import proofs.«01_k».proof.Proof.Gen.Kernel2Ideal.Frame
public import proofs.«01_k».proof.Proof.Gen.Kernel2Ideal.Skeleton
public import Idealize.ShloMosaic.Lib.Pipeline.TableIdle
public import Idealize.ShloMosaic.Lib.Pipeline.Value

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (Dat Cfg Window BodyObligation BodyObligationLoose cellOf)

/-- The scratch operand. -/
abbrev scM : Memref sig .tc .vmem S1056x2048 .bf16 := Memref.whole cc0_scratch0

/-- Between points: the scratch at what the point before left in it (at anything before the first), the generator register at some state. -/
def PhiS (c : Dev nD) : (n : ℕ) → n ≤ cfg0.N → sProp 𝕄
  | 0, _ => Pipeline.ΦA spec0 c
  | n + 1, hn => iprop(owns (c : Thread nD τ) scM fullShare ((outsAt m c n hn).2) ∗ (∃ r, prngReg c r))

/-- The launch's scratch, spelled out. -/
theorem PhiA_eq (c : Dev nD) : (Pipeline.ΦA spec0 c : sProp 𝕄)
    = iprop((∃ d, owns (c : Thread nD τ) scM fullShare d) ∗ (∃ r, prngReg c r)) := by
  unfold Pipeline.ΦA; rw [scopedRest0_eq]; simp only [scM, owns_whole]; try rfl

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(owns (c : Thread nD τ) scM fullShare ((outsAt m c n hn).2) ∗ (∃ r, prngReg c r)) := rfl
theorem PhiS_pos (c : Dev nD) (n : ℕ) (h : n ≤ cfg0.N) (hz : n ≠ 0) :
    PhiS m c n h = iprop(owns (c : Thread nD τ) scM fullShare ((outsAt m c (n - 1) (by omega)).2) ∗ (∃ r, prngReg c r)) := by
  cases n with
  | zero => exact absurd rfl hz
  | succ n => rfl
/-- Whatever the scratch holds, it holds something. -/
theorem PhiS_any (c : Dev nD) (n : ℕ) (h : n ≤ cfg0.N) :
    PhiS m c n h ⊢ iprop((∃ d, owns (c : Thread nD τ) scM fullShare d) ∗ (∃ r, prngReg c r)) := by
  by_cases hz : n = 0
  · rw [PhiS_zero m c n h hz, PhiA_eq]
    try exact Idealize.SL.BI.Entails.refl _
  · rw [PhiS_pos m c n h hz]
    iintro ⟨HS, Hg⟩
    isplitl [HS]
    · iexists _; iexact HS
    iexact Hg

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => wdB m c t
    | ⟨6, _⟩ => iblk m c 6 t
    | ⟨7, _⟩ => iblk m c 7 t
    | ⟨8, _⟩ => iblk m c 8 t
    | ⟨9, _⟩ => iblk m c 9 t
    | ⟨10, _⟩ => (outsAt m c t.val t.isLt).1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem Phi_at (c : Dev nD) (t : Fin cfg0.N) : (dats m 0 c).Φ t.castSucc = PhiS m c t.val (Nat.le_of_lt t.isLt) := by
  dsimp only [dats]; exact Pipeline.Dat.Φ_castSucc (PhiS m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = wdB m c t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = (outsAt m c t.val t.isLt).1 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
/-- The down projection's buffer holds its block inside the array, anything beyond it. -/
theorem before_5 (c : Dev nD) (t : Fin cfg0.N) (d) :
    (dats m 0 c).before 5 t d = win0_5.fill (grid0.coords t) d (iblk m c 5 t) := by
  rw [(dats m 0 c).before_fetched 5 t (fetch0_5 t) d]
  unfold Dat.fetched Dat.blockOf iblk
  rw [A_eq]; try rfl
/-- After a first point the output's buffer holds what the point before left. -/
theorem before_10 (c : Dev nD) (t : Fin cfg0.N) (h0 : t.val % 11 ≠ 0) (d) :
    (dats m 0 c).before 10 t d = (outsAt m c (t.val - 1) (Nat.lt_of_le_of_lt (Nat.sub_le _ _) t.isLt)).1 := by
  have hf : cfg0.fresh 10 t.val = false := by
    obtain ⟨n, hn⟩ := t
    cases n with
    | zero => exact absurd (Nat.zero_mod _) h0
    | succ n =>
      have hn' : n < cfg0.N := Nat.lt_of_succ_lt hn
      rw [Pipeline.Cfg.fresh_succ cfg0 10 n hn', show cfg0.idle 10 (cfg0.grid.coords ⟨n, hn'⟩) = false from live10 ⟨n, hn'⟩,
        Bool.false_and, Bool.or_false, Bool.eq_false_iff]
      intro hfl
      have := (flush0_10 ⟨n, hn'⟩).mp hfl
      dsimp only at this h0
      omega
  rw [Dat.before_out_traj _ 10 rfl (fun _ _ => rfl) (fun t _ hi _ => absurd ((live10 t).symm.trans hi) Bool.false_ne_true) t.val t rfl d,
    if_neg (by rw [hf]; exact Bool.false_ne_true)]
  exact after_10 m c _

/-- A buffer at its named contents is what the body may leave there. -/
theorem leaves_of (c : Dev nD) (w : Fin cfg0.W) (t : Fin cfg0.N) (hl : cfg0.idle w (cfg0.grid.coords t) = false) :
    owns (c : Thread nD τ) ((cfg0.win w).stage (cfg0.slots t w)) fullShare ((dats m 0 c).after w t) ⊢ ((dats m 0 c).leaves w t : sProp 𝕄) := by
  have h : owns (c : Thread nD τ) ((cfg0.win w).stage (cfg0.slots t w)) fullShare ((dats m 0 c).after w t) ⊢ ((dats m 0 c).leavesExact w t : sProp 𝕄) := by
    unfold Dat.leavesExact
    rw [hl]
  exact h.trans ((dats m 0 c).leaves_intro w t)

/-- The down projection's buffer may be left at any contents beyond the array. -/
theorem leaves_5 (c : Dev nD) (t : Fin cfg0.N) (d : Vec F S512x2048 .bf16) :
    owns (c : Thread nD τ) (win0_5.stage (cfg0.slots t 5)) fullShare (win0_5.fill (grid0.coords t) d (iblk m c 5 t)) ⊢ ((dats m 0 c).leaves 5 t : sProp 𝕄) := by
  have hc : (cfg0.win 5).cut (cfg0.grid.coords t) ((dats m 0 c).after 5 t) = iblk m c 5 t := by
    rw [after_5]; exact win0_5.cut_fill (grid0.coords t) _ _
  show _ ⊢ iprop(∃ d, owns (c : Thread nD τ) ((cfg0.win 5).stage (cfg0.slots t 5)) fullShare ((cfg0.win 5).fill (cfg0.grid.coords t) d ((cfg0.win 5).cut (cfg0.grid.coords t) ((dats m 0 c).after 5 t))))
  rw [hc]
  iintro H
  iexists d
  iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d)))
/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t)

end Cert.Ffn

end
-- ==== Proof.FfnFrame.lean ====
/- The feed-forward kernel's run: every grid point keeps what holds between the points, so the run ends with every
   semaphore at zero, the arguments as they were, and the result array made of the points' output blocks. -/
module

public import proofs.«01_k».proof.Proof.FfnInv
public import proofs.«01_k».proof.Proof.Gen.Kernel2Ideal.Frame
public import proofs.«01_k».proof.Proof.Gen.Kernel2Ideal.Skeleton
public import Idealize.ShloMosaic.Lib.Pipeline.TableIdle
public import Idealize.ShloMosaic.Lib.Pipeline.Value

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (Dat Cfg Window BodyObligation BodyObligationLoose cellOf)

/-- What a first point leaves, whatever fills the block beyond the array; -/
theorem leave_A (c : Dev nD) (t : Fin cfg0.N) (h0 : t.val % 11 = 0) (d : Vec F S512x2048 .bf16) : (dats m 0 c).after 10 t =
    resA (scr (grid0.coords t) (iblk m c 0 t) (iblk m c 1 t) (iblk m c 2 t)) (iblk m c 3 t) (iblk m c 4 t) (win0_5.fill (grid0.coords t) d (iblk m c 5 t)) (iblk m c 6 t) (iblk m c 7 t) :=
  (after_10 m c t).trans ((congrArg Prod.fst (outsAt_A m c t h0)).trans
    (congrArg (fun w => resA (scr (grid0.coords t) (iblk m c 0 t) (iblk m c 1 t) (iblk m c 2 t)) (iblk m c 3 t) (iblk m c 4 t) w (iblk m c 6 t) (iblk m c 7 t))
      (fill_free t (by omega) _ d (iblk m c 5 t))))
/-- a middle point; -/
theorem leave_B (c : Dev nD) (t : Fin cfg0.N) (h0 : t.val % 11 ≠ 0) (h1 : t.val % 11 ≠ 10) (d : Vec F S512x2048 .bf16) : (dats m 0 c).after 10 t =
    resB (outsAt m c (t.val - 1) (Nat.lt_of_le_of_lt (Nat.sub_le _ _) t.isLt)).2 (iblk m c 3 t) (iblk m c 4 t) (win0_5.fill (grid0.coords t) d (iblk m c 5 t)) (iblk m c 6 t) (iblk m c 7 t) (outsAt m c (t.val - 1) (Nat.lt_of_le_of_lt (Nat.sub_le _ _) t.isLt)).1 :=
  (after_10 m c t).trans ((congrArg Prod.fst (outsAt_B m c t h0 h1)).trans
    (congrArg (fun w => resB (outsAt m c (t.val - 1) (Nat.lt_of_le_of_lt (Nat.sub_le _ _) t.isLt)).2 (iblk m c 3 t) (iblk m c 4 t) w (iblk m c 6 t) (iblk m c 7 t) (outsAt m c (t.val - 1) (Nat.lt_of_le_of_lt (Nat.sub_le _ _) t.isLt)).1)
      (fill_free t h1 _ d (iblk m c 5 t))))
/-- a last point. -/
theorem leave_C (c : Dev nD) (t : Fin cfg0.N) (h1 : t.val % 11 = 10) (d : Vec F S512x2048 .bf16) : (dats m 0 c).after 10 t =
    resC (outsAt m c (t.val - 1) (Nat.lt_of_le_of_lt (Nat.sub_le _ _) t.isLt)).2 (iblk m c 0 t) (iblk m c 3 t) (iblk m c 4 t) (top (win0_5.fill (grid0.coords t) d (iblk m c 5 t))) (iblk m c 6 t) (iblk m c 7 t) (iblk m c 8 t) (iblk m c 9 t) (outsAt m c (t.val - 1) (Nat.lt_of_le_of_lt (Nat.sub_le _ _) t.isLt)).1 := by
  have h : top (wdB m c t) = top (win0_5.fill (grid0.coords t) d (iblk m c 5 t)) := top_free t _ d (iblk m c 5 t)
  rw [after_10, outsAt_C m c t h1, outC, h]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = PhiS m c (t.val + 1) t.isLt from rfl, PhiS_succ, Phi_at]

  by_cases h0 : t.val % 11 = 0
  · refine (sep_mono_left (PhiS_any m c _ _)).trans ?_
    rw [congrArg Prod.snd (outsAt_A m c t h0), outA]
    dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_A c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) scM (Memref.isWhole_whole _) ((cond1_iff t).mpr h0) (fun h => by have := (cond2_iff t).mp h; omega) (fun h => by have := (cond3_iff t).mp h; omega) (iblk m c 0 t) (iblk m c 1 t) (iblk m c 2 t) (iblk m c 3 t) (iblk m c 4 t) (win0_5.fill (grid0.coords t) d5 (iblk m c 5 t)) (iblk m c 6 t) (iblk m c 7 t) (iblk m c 8 t) (iblk m c 9 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS]; · iexact HS
    iintro ⟨H0, H1, H2, H3, H4, H5, H6, H7, H8, H9, H10, HS⟩
    isplitl [HS Hg]
    · isplitl [HS]; · iexact HS
      iexact Hg
    isplitl [Ho]; · iexact Ho
    isplitl [H0]
    · iapply (leaves_of m c 0 t rfl); rw [after_0]; iexact H0
    isplitl [H1]
    · iapply (leaves_of m c 1 t rfl); rw [after_1]; iexact H1
    isplitl [H2]
    · iapply (leaves_of m c 2 t rfl); rw [after_2]; iexact H2
    isplitl [H3]
    · iapply (leaves_of m c 3 t rfl); rw [after_3]; iexact H3
    isplitl [H4]
    · iapply (leaves_of m c 4 t rfl); rw [after_4]; iexact H4
    isplitl [H5]
    · iapply (leaves_5 m c t d5); iexact H5
    isplitl [H6]
    · iapply (leaves_of m c 6 t rfl); rw [after_6]; iexact H6
    isplitl [H7]
    · iapply (leaves_of m c 7 t rfl); rw [after_7]; iexact H7
    isplitl [H8]
    · iapply (leaves_of m c 8 t rfl); rw [after_8]; iexact H8
    isplitl [H9]
    · iapply (leaves_of m c 9 t rfl); rw [after_9]; iexact H9
    iapply (leaves_of m c 10 t (live10 t)); rw [leave_A m c t h0 d5]; iexact H10
  · have hz : t.val ≠ 0 := fun h => h0 (by rw [h])
    rw [PhiS_pos m c _ _ hz]
    simp only [before_10 m c t h0]
    by_cases h1 : t.val % 11 = 10
    · rw [congrArg Prod.snd (outsAt_C m c t h1), outC]
      dsimp only
      generalize hP : outsAt m c (t.val - 1) (Nat.lt_of_le_of_lt (Nat.sub_le _ _) t.isLt) = P
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (body_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) scM (Memref.isWhole_whole _) (fun h => h0 ((cond1_iff t).mp h)) (fun h => by have := (cond2_iff t).mp h; omega) ((cond3_iff t).mpr h1) (iblk m c 0 t) (iblk m c 1 t) (iblk m c 2 t) (iblk m c 3 t) (iblk m c 4 t) (win0_5.fill (grid0.coords t) d5 (iblk m c 5 t)) (iblk m c 6 t) (iblk m c 7 t) (iblk m c 8 t) (iblk m c 9 t) P.1 P.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      iintro ⟨H0, H1, H2, H3, H4, H5, H6, H7, H8, H9, H10, HS⟩
      isplitl [HS Hg]
      · isplitl [HS]; · iexact HS
        iexact Hg
      isplitl [Ho]; · iexact Ho
      isplitl [H0]
      · iapply (leaves_of m c 0 t rfl); rw [after_0]; iexact H0
      isplitl [H1]
      · iapply (leaves_of m c 1 t rfl); rw [after_1]; iexact H1
      isplitl [H2]
      · iapply (leaves_of m c 2 t rfl); rw [after_2]; iexact H2
      isplitl [H3]
      · iapply (leaves_of m c 3 t rfl); rw [after_3]; iexact H3
      isplitl [H4]
      · iapply (leaves_of m c 4 t rfl); rw [after_4]; iexact H4
      isplitl [H5]
      · iapply (leaves_5 m c t d5); iexact H5
      isplitl [H6]
      · iapply (leaves_of m c 6 t rfl); rw [after_6]; iexact H6
      isplitl [H7]
      · iapply (leaves_of m c 7 t rfl); rw [after_7]; iexact H7
      isplitl [H8]
      · iapply (leaves_of m c 8 t rfl); rw [after_8]; iexact H8
      isplitl [H9]
      · iapply (leaves_of m c 9 t rfl); rw [after_9]; iexact H9
      iapply (leaves_of m c 10 t (live10 t)); rw [leave_C m c t h1 d5, hP]; iexact H10
    · rw [congrArg Prod.snd (outsAt_B m c t h0 h1), outB]
      dsimp only
      generalize hP : outsAt m c (t.val - 1) (Nat.lt_of_le_of_lt (Nat.sub_le _ _) t.isLt) = P
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (body_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) scM (Memref.isWhole_whole _) (fun h => h0 ((cond1_iff t).mp h)) ((cond2_iff t).mpr (by omega)) (fun h => h1 ((cond3_iff t).mp h)) (iblk m c 0 t) (iblk m c 1 t) (iblk m c 2 t) (iblk m c 3 t) (iblk m c 4 t) (win0_5.fill (grid0.coords t) d5 (iblk m c 5 t)) (iblk m c 6 t) (iblk m c 7 t) (iblk m c 8 t) (iblk m c 9 t) P.1 P.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      iintro ⟨H0, H1, H2, H3, H4, H5, H6, H7, H8, H9, H10, HS⟩
      isplitl [HS Hg]
      · isplitl [HS]; · iexact HS
        iexact Hg
      isplitl [Ho]; · iexact Ho
      isplitl [H0]
      · iapply (leaves_of m c 0 t rfl); rw [after_0]; iexact H0
      isplitl [H1]
      · iapply (leaves_of m c 1 t rfl); rw [after_1]; iexact H1
      isplitl [H2]
      · iapply (leaves_of m c 2 t rfl); rw [after_2]; iexact H2
      isplitl [H3]
      · iapply (leaves_of m c 3 t rfl); rw [after_3]; iexact H3
      isplitl [H4]
      · iapply (leaves_of m c 4 t rfl); rw [after_4]; iexact H4
      isplitl [H5]
      · iapply (leaves_5 m c t d5); iexact H5
      isplitl [H6]
      · iapply (leaves_of m c 6 t rfl); rw [after_6]; iexact H6
      isplitl [H7]
      · iapply (leaves_of m c 7 t rfl); rw [after_7]; iexact H7
      isplitl [H8]
      · iapply (leaves_of m c 8 t rfl); rw [after_8]; iexact H8
      isplitl [H9]
      · iapply (leaves_of m c 9 t rfl); rw [after_9]; iexact H9
      iapply (leaves_of m c 10 t (live10 t)); rw [leave_B m c t h0 h1 d5, hP]; iexact H10

/-- The body table's row is the body. -/
theorem row_eq (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligationLoose (dats (F := F) m 0 c) (defs₀ (F := F)) Variants.none () Set.univ := fun t => by
  rw [bigSep_W0, bigSep_W0, row_eq]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _
theorem hout (c : Dev nD) : (dats m 0 c).Φ (Fin.last cfg0.N) ⊢ Pipeline.ΦA spec0 c := by
  rw [show (dats m 0 c).Φ (Fin.last cfg0.N) = PhiS m c (Fin.last cfg0.N).val (Nat.le_refl _) from rfl, PhiA_eq]
  exact PhiS_any m c _ _

set_option backward.isDefEq.respectTransparency.types false in
/-- The run: every execution ends, the arrays as the proof data say, every counter at zero. -/
theorem run_all : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => obligation m c) (hq := fun _ _ _ => rfl)
    (howed := fun _ _ => rfl) (V := V m) (hmain := hmain m Variants.none) (hA := A_eq m) (hin := hin m) (hout := hout m)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
 ∧       r.2.mem ((c.tc : Thread nD τ).loc main_arg1) = m ((c.tc : Thread nD τ).loc main_arg1)
 ∧       r.2.mem ((c.tc : Thread nD τ).loc main_arg2) = m ((c.tc : Thread nD τ).loc main_arg2)
 ∧       r.2.mem ((c.tc : Thread nD τ).loc main_arg3) = m ((c.tc : Thread nD τ).loc main_arg3)
 ∧       r.2.mem ((c.tc : Thread nD τ).loc main_arg4) = m ((c.tc : Thread nD τ).loc main_arg4)
 ∧       r.2.mem ((c.tc : Thread nD τ).loc main_arg5) = m ((c.tc : Thread nD τ).loc main_arg5)
 ∧       r.2.mem ((c.tc : Thread nD τ).loc main_arg6) = m ((c.tc : Thread nD τ).loc main_arg6)
      ) := frame_of m ρ (dats m) (A_eq m) ((θ_run defs _ _).mono (fun _ h => h.1) (run_all m ρ))

end Cert.Ffn

end
-- ==== Proof.FfnClaims.lean ====
/- The feed-forward kernel's frames. -/
module

public import proofs.«01_k».proof.Defs
public import proofs.«01_k».proof.Proof.FfnFrame
public import proofs.«01_k».proof.Proof.Gen.Kernel2
public import proofs.«01_k».proof.Proof.Gen.Reference2Ideal.Run
public import proofs.«01_k».proof.Proof.Gen.Reference2Ideal.Read
public import Idealize.ShloMosaic.Adequacy
public import Idealize.ShloMosaic.Init
public import Idealize.ShloMosaic.Lib.Claim

@[expose] public section

noncomputable section

namespace Cert.Ffn

open Idealize.ShloMosaic Idealize.ShloMosaic.ValueIdx Idealize.SL.Sem

/-- The idealized kernel's frame: its run ends with every semaphore at zero and the arguments as they were. -/
theorem frame_any {F : FTy → Type} [FloatOps F] (m : (ℓ : Loc Cert.Kernel2Ideal.nD Cert.Kernel2Ideal.τ Cert.Kernel2Ideal.sig) → Buf (Elt F) ℓ) (ρ : Dev Cert.Kernel2Ideal.nD → PrngReg) :
    θ_run (Cert.Kernel2Ideal.defs (F := F)) (onTc (τ := Cert.Kernel2Ideal.τ) (Cert.Kernel2Ideal.main (F := F))) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0) :=
  θ_run_and (unchanged m ρ) ((θ_run Cert.Kernel2Ideal.defs _ _).mono (fun _ h => h.2) (run_all m ρ))

/-- The idealized kernel's frame. -/
theorem frame_ideal : Cert.quiescent_Kernel2Ideal (hKernel2Ideal := Cert.Kernel2Ideal.Gen.facts) := fun m ρ _ => frame_any (F := Ideal) m ρ

/-- The reference's frame: its run leaves the arguments, and it declares no semaphore. -/
theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The two programs' kernel bodies are the same text. -/
theorem bodies_eq : @Cert.Kernel2.defs₀ Bits _ Cert.Kernel2.Gen.facts = @Cert.Kernel2Ideal.defs₀ Bits _ Cert.Kernel2Ideal.Gen.facts :=
  congrArg Defs.onTc (funext fun l => match l with
    | 0 => funext fun x => match x with | (_, _) => rfl
    | ⟨_ + 1, h⟩ => absurd h (Nat.not_lt.2 (Nat.le_add_left _ _)))

/-- So are their body tables. -/
theorem tables_eq : @Cert.Kernel2.defs Bits _ Cert.Kernel2.Gen.facts = @Cert.Kernel2Ideal.defs Bits _ Cert.Kernel2Ideal.Gen.facts :=
  congrArg (Pipeline.defs (Cert.Kernel2Ideal.pcfgs (F := Bits))) bodies_eq

/-- The kernel's frame: the idealization rewrote nothing, so the two programs have the same text. -/
theorem frame_kernel : Cert.quiescent_Kernel2 (hKernel2 := Cert.Kernel2.Gen.facts) := fun m ρ _ => by
  have h := frame_any (F := Bits) m ρ
  have e := tables_eq
  exact Eq.mp (congrArg (fun d => θ_run d (onTc (τ := Cert.Kernel2Ideal.τ) (Cert.Kernel2Ideal.main (F := Bits))) ⟨m, fun _ => 0, ρ⟩ _) e.symm) h

end Cert.Ffn

end
-- ==== Proof.FfnSpec.lean ====
/- What the feed-forward kernel computes, written as sums over the extended reals: the gate and value projections, the
   three-tap convolution along the sequence, the activation, the down projection, and the normalised row. -/
module

public import Idealize.ShloMosaic.Lib.ValueIdxCore
public import Idealize.ShloMosaic.PureOps.Ideal.Laws

@[expose] public section

noncomputable section

namespace Cert.Ffn.Spec

open Idealize.ShloMosaic Idealize.ShloMosaic.ValueIdx

/-- The activation of a convolved gate `u`, times the value `v`: `u · Φ(u) · v`, as `½·u·(1 + erf(u/√2))·v`. -/
def act (u v : EReal) : EReal :=
  Ideal.ofBits .f32 0x3F000000#32 * u * (Ideal.ofBits .f32 0x3F800000#32 + Ideal.erf (u * Ideal.ofBits .f32 0x3F3504F3#32)) * v

/-- The convolution at one place: the previous, the same and the next gate, and the bias. -/
def tap3 (p q r a b c d : EReal) : EReal := p * a + q * b + r * c + d

/-- A row's mean. -/
def mean (z : Fin 2048 → EReal) : EReal := Ideal.div (∑ n, z n) (Ideal.ofBits .f32 0x45000000#32)

/-- A row normalised to mean zero and variance one, scaled and shifted. -/
def norm (z g b : Fin 2048 → EReal) (n : Fin 2048) : EReal :=
  (z n - mean z) * Ideal.rsqrt (mean (fun k => (z k - mean z) * (z k - mean z)) + Ideal.ofBits .f32 0x3727C5AC#32) * g n + b n

/-- The kernel's inputs, in the order of its arguments. -/
structure In where
  /-- The merged rows. -/
  x : (⟨3, ![8, 4096, 2048]⟩ : Shape).Idx → EReal
  /-- The up projection: gate columns, then value columns. -/
  w : (⟨2, ![2048, 11008]⟩ : Shape).Idx → EReal
  /-- The convolution's taps. -/
  t : (⟨2, ![3, 5504]⟩ : Shape).Idx → EReal
  /-- The convolution's bias. -/
  c : (⟨1, ![5504]⟩ : Shape).Idx → EReal
  /-- The down projection. -/
  d : (⟨2, ![5504, 2048]⟩ : Shape).Idx → EReal
  /-- The normalisation's scale. -/
  g : (⟨1, ![2048]⟩ : Shape).Idx → EReal
  /-- The normalisation's shift. -/
  b : (⟨1, ![2048]⟩ : Shape).Idx → EReal

variable (I : In)

/-- Row `r` of the batch's sequences laid end to end. -/
def row (r : ℕ) (k : Fin 2048) : EReal := I.x (ix3 (Fin.ofNat 8 (r / 4096)) (Fin.ofNat 4096 r) k)

/-- A row's product with column `f` of the up projection. -/
def up (r f : ℕ) : EReal := ∑ k : Fin 2048, row I r k * I.w (ix2 k (Fin.ofNat 11008 f))

/-- The gate of the row before, zero at a sequence's first row. -/
def before (r f : ℕ) : EReal := if r % 4096 = 0 then 0 else up I (r - 1) f
/-- The gate of the row after, zero at a sequence's last row. -/
def after (r f : ℕ) : EReal := if (r + 1) % 4096 = 0 then 0 else up I (r + 1) f

/-- The convolved gate. -/
def conv (r f : ℕ) : EReal :=
  tap3 (before I r f) (up I r f) (after I r f) (I.t (ix2 0 (Fin.ofNat 5504 f))) (I.t (ix2 1 (Fin.ofNat 5504 f))) (I.t (ix2 2 (Fin.ofNat 5504 f)))
    (I.c (ix1 (Fin.ofNat 5504 f)))

/-- A hidden entry's contribution to the output. -/
def term (r : ℕ) (n : Fin 2048) (f : ℕ) : EReal := act (conv I r f) (up I r (5504 + f)) * I.d (ix2 (Fin.ofNat 5504 f) n)

/-- The row before normalisation: the residual and the down projection of the hidden row. -/
def pre (r : ℕ) (n : Fin 2048) : EReal :=
  Ideal.ofBits .f32 0x3F9837F0#32 * row I r n + ∑ f : Fin 5504, term I r n f.val

/-- The result at row `r`. -/
def out (r : ℕ) (n : Fin 2048) : EReal := norm (pre I r) (fun k => I.g (ix1 k)) (fun k => I.b (ix1 k)) n

/-- A sum over the hidden entries, taken 512 at a time with a last block of 384. -/
theorem sum_blocks (h : ℕ → EReal) :
    (∑ j ∈ Finset.range 10, ∑ f : Fin 512, h (512 * j + f.val)) + ∑ f : Fin 384, h (5120 + f.val) = ∑ f : Fin 5504, h f.val := by
  have e : ∀ n : ℕ, ∑ j ∈ Finset.range n, ∑ f : Fin 512, h (512 * j + f.val) = ∑ f ∈ Finset.range (512 * n), h f := by
    intro n
    induction n with
    | zero => rfl
    | succ n ih =>
      rw [Finset.sum_range_succ, ih, Nat.mul_succ, Finset.sum_range_add, Fin.sum_univ_eq_sum_range (fun f => h (512 * n + f)) 512]
  rw [e, Fin.sum_univ_eq_sum_range (fun f => h (5120 + f)) 384, Fin.sum_univ_eq_sum_range h 5504]
  exact (Finset.sum_range_add h 5120 384).symm

end Cert.Ffn.Spec

end
-- ==== Proof.FfnHost.lean ====
/- What the feed-forward kernel's host part hands to the pipeline, and the blocks that a grid point reads of it, in terms of
   the kernel's inputs. -/
module

public import proofs.«01_k».proof.Proof.FfnDat
public import proofs.«01_k».proof.Proof.FfnSpec
public import Idealize.ShloMosaic.Lib.KernelVsHost
public import Idealize.ShloMosaic.Lib.Pipeline.ValueKit.Geometry

@[expose] public section

set_option maxRecDepth 16384

noncomputable section

namespace Cert.Ffn

open Cert.Kernel2Ideal Cert.Kernel2Ideal.Gen Idealize.ShloMosaic Idealize.ShloMosaic.TcCoe Idealize.ShloMosaic.ValueIdx
open Idealize.ShloMosaic.Pipeline (Dat Cfg Window)

section
variable {F : FTy → Type} [FloatOps F]
variable (m : (ℓ : Loc nD τ sig) → Buf (Elt F) ℓ)

/-- The gate columns of the up projection, padded. -/
theorem V_wg (c : Dev nD) : V m c main_v2
    = truncf .bf16 (pad S2048x5632 ![0, 0] ![0, 128] ![0, 0] (extractStridedSlice S2048x5504 ![0, 0] (m ((c : Thread nD τ).loc main_arg1) : Vec F S2048x11008 .f32) slices_S2048x11008_S2048x5504_0_0)
        (sitofp .f32 (constantI S_ 32 0#32)) pads_S2048x5504_S2048x5632_000_01280 h_S_ : FVec F S2048x5632 .f32) bitsLt_bf16_f32 := by
  show StableHlo.after (hostOps0 ++ (hostOps0_1 ++ (hostOps0_2 ++ (hostOps0_3 ++ (hostOps0_4 ++ (hostOps0_5 ++ (hostOps0_6 ++ (hostOps0_7 ++ (hostOps0_8 ++ []))))))))) _ (Proc.devRef .tc main_v2) = _
  simp only [hostOps0, hostOps0_1, hostOps0_2, hostOps0_3, hostOps0_4, hostOps0_5, hostOps0_6, hostOps0_7, hostOps0_8, List.cons_append, List.nil_append]
  after_results_simp
  rfl

/-- The value columns, padded. -/
theorem V_wv (c : Dev nD) : V m c main_v5
    = truncf .bf16 (pad S2048x5632 ![0, 0] ![0, 128] ![0, 0] (extractStridedSlice S2048x5504 ![0, 5504] (m ((c : Thread nD τ).loc main_arg1) : Vec F S2048x11008 .f32) slices_S2048x11008_S2048x5504_0_5504)
        (sitofp .f32 (constantI S_ 32 0#32)) pads_S2048x5504_S2048x5632_000_01280 h_S_ : FVec F S2048x5632 .f32) bitsLt_bf16_f32 := by
  show StableHlo.after (hostOps0 ++ (hostOps0_1 ++ (hostOps0_2 ++ (hostOps0_3 ++ (hostOps0_4 ++ (hostOps0_5 ++ (hostOps0_6 ++ (hostOps0_7 ++ (hostOps0_8 ++ []))))))))) _ (Proc.devRef .tc main_v5) = _
  simp only [hostOps0, hostOps0_1, hostOps0_2, hostOps0_3, hostOps0_4, hostOps0_5, hostOps0_6, hostOps0_7, hostOps0_8, List.cons_append, List.nil_append]
  after_results_simp
  rfl

/-- The down projection. -/
theorem V_wd (c : Dev nD) : V m c main_v6 = truncf .bf16 (m ((c : Thread nD τ).loc main_arg4) : FVec F S5504x2048 .f32) bitsLt_bf16_f32 := by
  show StableHlo.after (hostOps0 ++ (hostOps0_1 ++ (hostOps0_2 ++ (hostOps0_3 ++ (hostOps0_4 ++ (hostOps0_5 ++ (hostOps0_6 ++ (hostOps0_7 ++ (hostOps0_8 ++ []))))))))) _ (Proc.devRef .tc main_v6) = _
  simp only [hostOps0, hostOps0_1, hostOps0_2, hostOps0_3, hostOps0_4, hostOps0_5, hostOps0_6, hostOps0_7, hostOps0_8, List.cons_append, List.nil_append]
  after_results_simp

/-- The convolution's taps, padded. -/
theorem V_tap (c : Dev nD) : V m c main_v7
    = (pad S3x5632 ![0, 0] ![0, 128] ![0, 0] (m ((c : Thread nD τ).loc main_arg2) : Vec F S3x5504 .f32) (sitofp .f32 (constantI S_ 32 0#32)) pads_S3x5504_S3x5632_000_01280 h_S_ : FVec F S3x5632 .f32) := by
  show StableHlo.after (hostOps0 ++ (hostOps0_1 ++ (hostOps0_2 ++ (hostOps0_3 ++ (hostOps0_4 ++ (hostOps0_5 ++ (hostOps0_6 ++ (hostOps0_7 ++ (hostOps0_8 ++ []))))))))) _ (Proc.devRef .tc main_v7) = _
  simp only [hostOps0, hostOps0_1, hostOps0_2, hostOps0_3, hostOps0_4, hostOps0_5, hostOps0_6, hostOps0_7, hostOps0_8, List.cons_append, List.nil_append]
  after_results_simp
  rfl

/-- Its bias, padded. -/
theorem V_bias (c : Dev nD) : V m c main_v9
    = (pad S1x5632 ![0, 0] ![0, 128] ![0, 0] (shapeCast S1x5504 (m ((c : Thread nD τ).loc main_arg3) : Vec F S5504 .f32) shapeCasts_S5504_S1x5504) (sitofp .f32 (constantI S_ 32 0#32)) pads_S1x5504_S1x5632_000_01280 h_S_ : FVec F S1x5632 .f32) := by
  show StableHlo.after (hostOps0 ++ (hostOps0_1 ++ (hostOps0_2 ++ (hostOps0_3 ++ (hostOps0_4 ++ (hostOps0_5 ++ (hostOps0_6 ++ (hostOps0_7 ++ (hostOps0_8 ++ []))))))))) _ (Proc.devRef .tc main_v9) = _
  simp only [hostOps0, hostOps0_1, hostOps0_2, hostOps0_3, hostOps0_4, hostOps0_5, hostOps0_6, hostOps0_7, hostOps0_8, List.cons_append, List.nil_append]
  after_results_simp
  rfl

/-- The rows laid end to end. -/
theorem V_rows (c : Dev nD) : V m c main_v10 = shapeCast S32768x2048 (m ((c : Thread nD τ).loc main_arg0) : Vec F S8x4096x2048 .f32) shapeCasts_S8x4096x2048_S32768x2048 := by
  show StableHlo.after (hostOps0 ++ (hostOps0_1 ++ (hostOps0_2 ++ (hostOps0_3 ++ (hostOps0_4 ++ (hostOps0_5 ++ (hostOps0_6 ++ (hostOps0_7 ++ (hostOps0_8 ++ []))))))))) _ (Proc.devRef .tc main_v10) = _
  simp only [hostOps0, hostOps0_1, hostOps0_2, hostOps0_3, hostOps0_4, hostOps0_5, hostOps0_6, hostOps0_7, hostOps0_8, List.cons_append, List.nil_append]
  after_results_simp
  rfl

/-- The normalisation's scale, -/
theorem V_g (c : Dev nD) : V m c main_v11 = shapeCast S1x2048 (m ((c : Thread nD τ).loc main_arg5) : Vec F S2048 .f32) shapeCasts_S2048_S1x2048 := by
  show StableHlo.after (hostOps0 ++ (hostOps0_1 ++ (hostOps0_2 ++ (hostOps0_3 ++ (hostOps0_4 ++ (hostOps0_5 ++ (hostOps0_6 ++ (hostOps0_7 ++ (hostOps0_8 ++ []))))))))) _ (Proc.devRef .tc main_v11) = _
  simp only [hostOps0, hostOps0_1, hostOps0_2, hostOps0_3, hostOps0_4, hostOps0_5, hostOps0_6, hostOps0_7, hostOps0_8, List.cons_append, List.nil_append]
  after_results_simp
  rfl

/-- and shift. -/
theorem V_b (c : Dev nD) : V m c main_v12 = shapeCast S1x2048 (m ((c : Thread nD τ).loc main_arg6) : Vec F S2048 .f32) shapeCasts_S2048_S1x2048 := by
  show StableHlo.after (hostOps0 ++ (hostOps0_1 ++ (hostOps0_2 ++ (hostOps0_3 ++ (hostOps0_4 ++ (hostOps0_5 ++ (hostOps0_6 ++ (hostOps0_7 ++ (hostOps0_8 ++ []))))))))) _ (Proc.devRef .tc main_v12) = _
  simp only [hostOps0, hostOps0_1, hostOps0_2, hostOps0_3, hostOps0_4, hostOps0_5, hostOps0_6, hostOps0_7, hostOps0_8, List.cons_append, List.nil_append]
  after_results_simp
  rfl

end

variable (m : (ℓ : Loc nD τ sig) → Buf (Elt Ideal) ℓ) (c : Dev nD)

/-- The kernel's inputs on a device. -/
def inp : Spec.In where
  x := m ((c : Thread nD τ).loc main_arg0)
  w := m ((c : Thread nD τ).loc main_arg1)
  t := m ((c : Thread nD τ).loc main_arg2)
  c := m ((c : Thread nD τ).loc main_arg3)
  d := m ((c : Thread nD τ).loc main_arg4)
  g := m ((c : Thread nD τ).loc main_arg5)
  b := m ((c : Thread nD τ).loc main_arg6)

/-- Inside the array, columns padded on the right read the array. -/
theorem padCols_apply {α : Type} {a : ℕ} (x : (⟨2, ![a, 5504]⟩ : Shape).Idx → α) {u : Shape} (v : u.Idx → α)
    (h : (⟨2, ![a, 5504]⟩ : Shape).Pads ![0, 0] ![0, 128] ![0, 0] ⟨2, ![a, 5632]⟩) (hu : 0 < u.numel) (i : Fin a) (j : Fin 5632) (f : Fin 5504) (hf : j.val = f.val) :
    pad ⟨2, ![a, 5632]⟩ ![0, 0] ![0, 128] ![0, 0] x v h hu (ix2 i j) = x (ix2 i f) :=
  pad_apply_of_inside (s := ⟨2, ![a, 5504]⟩) (t := ⟨2, ![a, 5632]⟩) ![0, 0] ![0, 128] ![0, 0] x v h hu (ix2 i j) (ix2 i f) fun b => by
    match b with
    | ⟨0, _⟩ => show i.val = 0 + i.val * (0 + 1); omega
    | ⟨1, _⟩ => show j.val = 0 + f.val * (0 + 1); omega

/-- The gate columns. -/
theorem wg_at (k : Fin 2048) (j : Fin 5632) (h : j.val < 5504) : V m c main_v2 (ix2 k j) = (inp m c).w (ix2 k (Fin.ofNat 11008 j.val)) := by
  refine (congrFun (V_wg m c) _).trans ?_
  refine (padCols_apply _ _ pads_S2048x5504_S2048x5632_000_01280 h_S_ k j ⟨j.val, h⟩ rfl).trans ?_
  refine extractStridedSlice_apply ![0, 0] _ _ _ (ix2 k (Fin.ofNat 11008 j.val)) fun b => ?_
  match b with
  | ⟨0, _⟩ => exact (Nat.zero_add _).symm
  | ⟨1, _⟩ => show j.val % 11008 = 0 + j.val; omega

/-- The value columns. -/
theorem wv_at (k : Fin 2048) (j : Fin 5632) (h : j.val < 5504) : V m c main_v5 (ix2 k j) = (inp m c).w (ix2 k (Fin.ofNat 11008 (5504 + j.val))) := by
  refine (congrFun (V_wv m c) _).trans ?_
  refine (padCols_apply _ _ pads_S2048x5504_S2048x5632_000_01280 h_S_ k j ⟨j.val, h⟩ rfl).trans ?_
  refine extractStridedSlice_apply ![0, 5504] _ _ _ (ix2 k (Fin.ofNat 11008 (5504 + j.val))) fun b => ?_
  match b with
  | ⟨0, _⟩ => exact (Nat.zero_add _).symm
  | ⟨1, _⟩ => show (5504 + j.val) % 11008 = 5504 + j.val; omega

/-- The taps. -/
theorem tap_at (k : Fin 3) (j : Fin 5632) (h : j.val < 5504) : V m c main_v7 (ix2 k j) = (inp m c).t (ix2 k (Fin.ofNat 5504 j.val)) := by
  refine (congrFun (V_tap m c) _).trans ?_
  exact padCols_apply _ _ pads_S3x5504_S3x5632_000_01280 h_S_ k j (Fin.ofNat 5504 j.val) (Nat.mod_eq_of_lt h).symm

/-- The bias. -/
theorem bias_at (j : Fin 5632) (h : j.val < 5504) : V m c main_v9 (ix2 0 j) = (inp m c).c (ix1 (Fin.ofNat 5504 j.val)) := by
  refine (congrFun (V_bias m c) _).trans ?_
  refine (padCols_apply _ _ pads_S1x5504_S1x5632_000_01280 h_S_ 0 j (Fin.ofNat 5504 j.val) (Nat.mod_eq_of_lt h).symm).trans ?_
  exact shapeCast_apply (s := S5504) (t := S1x5504) (inp m c).c shapeCasts_S5504_S1x5504 _ _ (by rw [Shape.rowMajor_val_two, Shape.rowMajor_val_one]; show j.val % 5504 = 0 * 5504 + j.val % 5504; omega)

/-- The down projection. -/
theorem wd_at (f : Fin 5504) (n : Fin 2048) : V m c main_v6 (ix2 f n) = (inp m c).d (ix2 f n) := congrFun (V_wd m c) _

/-- The rows. -/
theorem rows_at (r : Fin 32768) (k : Fin 2048) : V m c main_v10 (ix2 r k) = Spec.row (inp m c) r.val k := by
  have hr := r.isLt
  refine (congrFun (V_rows m c) _).trans ?_
  exact shapeCast_apply (s := S8x4096x2048) (t := S32768x2048) (inp m c).x shapeCasts_S8x4096x2048_S32768x2048 _ _ (by
    rw [Shape.rowMajor_val_two, Shape.rowMajor_val_three]
    show (r.val / 4096 % 8 * 4096 + r.val % 4096) * 2048 + k.val = r.val * 2048 + k.val
    omega)

/-- The scale and the shift. -/
theorem g_at (k : Fin 2048) : V m c main_v11 (ix2 0 k) = (inp m c).g (ix1 k) := by
  refine (congrFun (V_g m c) _).trans ?_
  exact shapeCast_apply (s := S2048) (t := S1x2048) (inp m c).g shapeCasts_S2048_S1x2048 _ _ (by rw [Shape.rowMajor_val_two, Shape.rowMajor_val_one]; show k.val = 0 * 2048 + k.val; omega)
theorem b_at (k : Fin 2048) : V m c main_v12 (ix2 0 k) = (inp m c).b (ix1 k) := by
  refine (congrFun (V_b m c) _).trans ?_
  exact shapeCast_apply (s := S2048) (t := S1x2048) (inp m c).b shapeCasts_S2048_S1x2048 _ _ (by rw [Shape.rowMajor_val_two, Shape.rowMajor_val_one]; show k.val = 0 * 2048 + k.val; omega)

/-! ## The blocks -/

theorem index0 : ∀ t : Fin cfg0.N, win0_0.index t = ![t.val / 11, 0] := (by decide +kernel : ∀ t : Fin grid0.N, win0_0.index t = ![t.val / 11, 0])
theorem index1 : ∀ t : Fin cfg0.N, win0_1.index t = ![64 * (t.val / 11) - 1, 0] := (by decide +kernel : ∀ t : Fin grid0.N, win0_1.index t = ![64 * (t.val / 11) - 1, 0])
theorem index2 : ∀ t : Fin cfg0.N, win0_2.index t = ![min (64 * (t.val / 11 + 1)) 2047, 0] := (by decide +kernel : ∀ t : Fin grid0.N, win0_2.index t = ![min (64 * (t.val / 11 + 1)) 2047, 0])
theorem index3 : ∀ t : Fin cfg0.N, win0_3.index t = ![0, t.val % 11] := (by decide +kernel : ∀ t : Fin grid0.N, win0_3.index t = ![0, t.val % 11])
theorem index4 : ∀ t : Fin cfg0.N, win0_4.index t = ![0, t.val % 11] := (by decide +kernel : ∀ t : Fin grid0.N, win0_4.index t = ![0, t.val % 11])
theorem index5 : ∀ t : Fin cfg0.N, win0_5.index t = ![t.val % 11, 0] := (by decide +kernel : ∀ t : Fin grid0.N, win0_5.index t = ![t.val % 11, 0])
theorem index6 : ∀ t : Fin cfg0.N, win0_6.index t = ![0, t.val % 11] := (by decide +kernel : ∀ t : Fin grid0.N, win0_6.index t = ![0, t.val % 11])
theorem index7 : ∀ t : Fin cfg0.N, win0_7.index t = ![0, t.val % 11] := (by decide +kernel : ∀ t : Fin grid0.N, win0_7.index t = ![0, t.val % 11])
theorem index8 : ∀ t : Fin cfg0.N, win0_8.index t = ![0, 0] := (by decide +kernel : ∀ t : Fin grid0.N, win0_8.index t = ![0, 0])
theorem index9 : ∀ t : Fin cfg0.N, win0_9.index t = ![0, 0] := (by decide +kernel : ∀ t : Fin grid0.N, win0_9.index t = ![0, 0])
theorem index10 : ∀ t : Fin cfg0.N, win0_10.index t = ![t.val / 11, 0] := (by decide +kernel : ∀ t : Fin grid0.N, win0_10.index t = ![t.val / 11, 0])

/-- The row block. -/
theorem blk0 (t : Fin cfg0.N) (p : Fin 1024) (k : Fin 2048) : (iblk m c 0 t : Vec Ideal S1024x2048 .f32) (ix2 p k) = Spec.row (inp m c) (1024 * (t.val / 11) + p.val) k := by
  have ht : t.val < 352 := t.isLt
  have hp := p.isLt
  refine Eq.trans ?_ (rows_at m c ⟨1024 * (t.val / 11) + p.val, by omega⟩ k)
  blk_simp [iblk]
  refine congrArg (V m c main_v10) (funext fun a => Fin.ext ?_)
  match a with
  | ⟨0, _⟩ => blk_simp [index0]; show t.val / 11 * 1024 + p.val = 1024 * (t.val / 11) + p.val; omega
  | ⟨1, _⟩ => blk_simp [index0]

/-- The sixteen rows before it. -/
theorem blk1 (t : Fin cfg0.N) (p : Fin 16) (k : Fin 2048) : (iblk m c 1 t : Vec Ideal S16x2048 .f32) (ix2 p k) = Spec.row (inp m c) (16 * (64 * (t.val / 11) - 1) + p.val) k := by
  have ht : t.val < 352 := t.isLt
  have hp := p.isLt
  refine Eq.trans ?_ (rows_at m c ⟨16 * (64 * (t.val / 11) - 1) + p.val, by omega⟩ k)
  blk_simp [iblk]
  refine congrArg (V m c main_v10) (funext fun a => Fin.ext ?_)
  match a with
  | ⟨0, _⟩ => blk_simp [index1]; show (64 * (t.val / 11) - 1) * 16 + p.val = 16 * (64 * (t.val / 11) - 1) + p.val; omega
  | ⟨1, _⟩ => blk_simp [index1]

/-- The sixteen rows after it. -/
theorem blk2 (t : Fin cfg0.N) (p : Fin 16) (k : Fin 2048) : (iblk m c 2 t : Vec Ideal S16x2048 .f32) (ix2 p k) = Spec.row (inp m c) (16 * min (64 * (t.val / 11 + 1)) 2047 + p.val) k := by
  have ht : t.val < 352 := t.isLt
  have hp := p.isLt
  refine Eq.trans ?_ (rows_at m c ⟨16 * min (64 * (t.val / 11 + 1)) 2047 + p.val, by omega⟩ k)
  blk_simp [iblk]
  refine congrArg (V m c main_v10) (funext fun a => Fin.ext ?_)
  match a with
  | ⟨0, _⟩ => blk_simp [index2]; show min (64 * (t.val / 11 + 1)) 2047 * 16 + p.val = 16 * min (64 * (t.val / 11 + 1)) 2047 + p.val; omega
  | ⟨1, _⟩ => blk_simp [index2]

/-- The gate columns of a hidden block. -/
theorem blk3 (t : Fin cfg0.N) (k : Fin 2048) (f : Fin 512) (h : 512 * (t.val % 11) + f.val < 5504) :
    (iblk m c 3 t : Vec Ideal S2048x512 .bf16) (ix2 k f) = (inp m c).w (ix2 k (Fin.ofNat 11008 (512 * (t.val % 11) + f.val))) := by
  refine Eq.trans ?_ (wg_at m c k ⟨512 * (t.val % 11) + f.val, by omega⟩ h)
  blk_simp [iblk]
  refine congrArg (V m c main_v2) (funext fun a => Fin.ext ?_)
  match a with
  | ⟨0, _⟩ => blk_simp [index3]
  | ⟨1, _⟩ => blk_simp [index3]; show t.val % 11 * 512 + f.val = 512 * (t.val % 11) + f.val; omega

/-- Its value columns. -/
theorem blk4 (t : Fin cfg0.N) (k : Fin 2048) (f : Fin 512) (h : 512 * (t.val % 11) + f.val < 5504) :
    (iblk m c 4 t : Vec Ideal S2048x512 .bf16) (ix2 k f) = (inp m c).w (ix2 k (Fin.ofNat 11008 (5504 + (512 * (t.val % 11) + f.val)))) := by
  refine Eq.trans ?_ (wv_at m c k ⟨512 * (t.val % 11) + f.val, by omega⟩ h)
  blk_simp [iblk]
  refine congrArg (V m c main_v5) (funext fun a => Fin.ext ?_)
  match a with
  | ⟨0, _⟩ => blk_simp [index4]
  | ⟨1, _⟩ => blk_simp [index4]; show t.val % 11 * 512 + f.val = 512 * (t.val % 11) + f.val; omega

/-- Its taps. -/
theorem blk6 (t : Fin cfg0.N) (k : Fin 3) (f : Fin 512) (h : 512 * (t.val % 11) + f.val < 5504) :
    (iblk m c 6 t : Vec Ideal S3x512 .f32) (ix2 k f) = (inp m c).t (ix2 k (Fin.ofNat 5504 (512 * (t.val % 11) + f.val))) := by
  refine Eq.trans ?_ (tap_at m c k ⟨512 * (t.val % 11) + f.val, by omega⟩ h)
  blk_simp [iblk]
  refine congrArg (V m c main_v7) (funext fun a => Fin.ext ?_)
  match a with
  | ⟨0, _⟩ => blk_simp [index6]
  | ⟨1, _⟩ => blk_simp [index6]; show t.val % 11 * 512 + f.val = 512 * (t.val % 11) + f.val; omega

/-- Its bias. -/
theorem blk7 (t : Fin cfg0.N) (f : Fin 512) (h : 512 * (t.val % 11) + f.val < 5504) :
    (iblk m c 7 t : Vec Ideal S1x512 .f32) (ix2 0 f) = (inp m c).c (ix1 (Fin.ofNat 5504 (512 * (t.val % 11) + f.val))) := by
  refine Eq.trans ?_ (bias_at m c ⟨512 * (t.val % 11) + f.val, by omega⟩ h)
  blk_simp [iblk]
  refine congrArg (V m c main_v9) (funext fun a => Fin.ext ?_)
  match a with
  | ⟨0, _⟩ => blk_simp [index7]
  | ⟨1, _⟩ => blk_simp [index7]; show t.val % 11 * 512 + f.val = 512 * (t.val % 11) + f.val; omega

/-- The scale. -/
theorem blk8 (t : Fin cfg0.N) (k : Fin 2048) : (iblk m c 8 t : Vec Ideal S1x2048 .f32) (ix2 0 k) = (inp m c).g (ix1 k) := by
  refine Eq.trans ?_ (g_at m c k)
  blk_simp [iblk]
  refine congrArg (V m c main_v11) (funext fun a => Fin.ext ?_)
  match a with
  | ⟨0, _⟩ => blk_simp [index8]
  | ⟨1, _⟩ => blk_simp [index8]
/-- The shift. -/
theorem blk9 (t : Fin cfg0.N) (k : Fin 2048) : (iblk m c 9 t : Vec Ideal S1x2048 .f32) (ix2 0 k) = (inp m c).b (ix1 k) := by
  refine Eq.trans ?_ (b_at m c k)
  blk_simp [iblk]
  refine congrArg (V m c main_v12) (funext fun a => Fin.ext ?_)
  match a with
  | ⟨0, _⟩ => blk_simp [index9]
  | ⟨1, _⟩ => blk_simp [index9]

/-- The rows of the down projection's block that are inside its array. -/
theorem xsize5 : ∀ t : Fin grid0.N, win0_5.xsize (grid0.coords t) 0 = min 512 (5504 - 512 * (t.val % 11)) ∧ win0_5.xsize (grid0.coords t) 1 = 2048 := by
  decide +kernel

/-- The down projection's block. -/
theorem blk5 (t : Fin cfg0.N) (f : Fin 512) (n : Fin 2048) (h : 512 * (t.val % 11) + f.val < 5504) :
    wdB m c t (ix2 f n) = (inp m c).d (ix2 (Fin.ofNat 5504 (512 * (t.val % 11) + f.val)) n) := by
  have hx := xsize5 t
  have hf := f.isLt
  have hm : win0_5.moved (grid0.coords t) (ix2 f n) = true := (win0_5.moved_iff (grid0.coords t) _).mpr fun a => by
    match a with
    | ⟨0, _⟩ => exact Nat.lt_of_lt_of_le (show f.val < min 512 (5504 - 512 * (t.val % 11)) by omega) (Nat.le_of_eq hx.1.symm)
    | ⟨1, _⟩ => exact Nat.lt_of_lt_of_le n.isLt (Nat.le_of_eq hx.2.symm)
  refine Eq.trans ?_ (wd_at m c (Fin.ofNat 5504 (512 * (t.val % 11) + f.val)) n)
  unfold wdB Window.fill
  rw [dif_pos hm]
  blk_simp [iblk]
  refine congrArg (V m c main_v6) (funext fun a => Fin.ext ?_)
  match a with
  | ⟨0, _⟩ => blk_simp [index5]; show t.val % 11 * 512 + f.val = (512 * (t.val % 11) + f.val) % 5504; omega
  | ⟨1, _⟩ => blk_simp [index5]

end Cert.Ffn

end
-- ==== Proof.FfnAct.lean ====
/- The feed-forward kernel's body over the extended reals, at an index: each point adds its hidden block's products, and
   the last point normalises the rows. -/
module

public import proofs.«01_k».proof.Proof.FfnRun
public import proofs.«01_k».proof.Proof.FfnSpec
public import Idealize.ShloMosaic.Lib.MatmulPlain
public import Idealize.ShloMosaic.Lib.KernelVsHost

@[expose] public section

set_option maxRecDepth 10000

noncomputable section

namespace Cert.Ffn

open Cert.Kernel2Ideal Cert.Kernel2Ideal.Gen Idealize.ShloMosaic Idealize.ShloMosaic.TcCoe Idealize.ShloMosaic.ValueIdx

/-- A product into zero, at an index. -/
theorem dot_apply {M K N : ℕ} (D : DotDims ⟨2, ![M, K]⟩ ⟨2, ![K, N]⟩ ⟨2, ![M, N]⟩) (hD : D = DotDims.plain M K N)
    (x : FVec Ideal ⟨2, ![M, K]⟩ .bf16) (w : FVec Ideal ⟨2, ![K, N]⟩ .bf16) (i : Fin M) (j : Fin N) :
    matmul (F := Ideal) D none x w (constant ⟨2, ![M, N]⟩ .f32 0x00000000#32) (ix2 i j) = ∑ k : Fin K, x (ix2 i k) * w (ix2 k j) := by
  subst hD
  refine (Ideal.matmul_plain_apply none x w _ i j).trans ?_
  have z : constant (F := Ideal) ⟨2, ![M, N]⟩ .f32 0x00000000#32 (ix2 i j) = (0 : EReal) := by
    show Ideal.ofBits .f32 0x00000000#32 = 0
    simp [Ideal.ofBits, Ideal.ieee]
  rw [z, zero_add]

/-- A cast to the same shape reads the same entry. -/
theorem cast_self {α : Type} {a b : ℕ} (x : (⟨2, ![a, b]⟩ : Shape).Idx → α) (h : (⟨2, ![a, b]⟩ : Shape).ShapeCasts ⟨2, ![a, b]⟩) :
    shapeCast ⟨2, ![a, b]⟩ x h = x :=
  funext fun j => shapeCast_apply x h j j rfl

/-- A row spread over the rows of a block. -/
theorem spreadRow_apply {α : Type} {M N : ℕ} (hN : N ≠ 1) (x : (⟨2, ![1, N]⟩ : Shape).Idx → α) (hb : (⟨2, ![1, N]⟩ : Shape).Broadcasts ⟨2, ![M, N]⟩)
    (i : Fin M) (j : Fin N) : broadcastTo ⟨2, ![M, N]⟩ x hb (ix2 i j) = x (ix2 0 j) :=
  broadcastTo_apply _ _ _ (ix2 0 j) fun b => match b with
    | ⟨0, _⟩ => rfl
    | ⟨1, _⟩ => (if_neg hN).symm

/-- The block's own rows of the gates. -/
theorem same_apply {N : ℕ} (G : (⟨2, ![1056, N]⟩ : Shape).Idx → EReal) (hs : (⟨2, ![1056, N]⟩ : Shape).Slices ![16, 0] ⟨2, ![1024, N]⟩)
    (p : Fin 1024) (f : Fin N) :
    extractStridedSlice ⟨2, ![1024, N]⟩ ![16, 0] G hs (ix2 p f) = G (ix2 ⟨16 + p.val, by omega⟩ f) :=
  extractStridedSlice_apply ![16, 0] G hs (ix2 p f) (ix2 ⟨16 + p.val, by omega⟩ f) fun b => match b with
    | ⟨0, _⟩ => rfl | ⟨1, _⟩ => (Nat.zero_add _).symm

/-- The rows before them. -/
theorem prev_apply {N : ℕ} (G : (⟨2, ![1056, N]⟩ : Shape).Idx → EReal) (hr : (⟨2, ![1056, N]⟩ : Shape).Rotates 0 none)
    (hs : (⟨2, ![1056, N]⟩ : Shape).Slices ![16, 0] ⟨2, ![1024, N]⟩) (p : Fin 1024) (f : Fin N) :
    extractStridedSlice ⟨2, ![1024, N]⟩ ![16, 0] (dynamicRotate 0 1#32 none G hr) hs (ix2 p f) = G (ix2 ⟨15 + p.val, by omega⟩ f) := by
  have hp := p.isLt
  refine (same_apply _ hs p f).trans (dynamicRotate_apply (s := ⟨2, ![1056, N]⟩) 0 1#32 G hr _ _ fun b => ?_)
  match b with
  | ⟨0, _⟩ => show 15 + p.val = (16 + p.val + 1056 - 1 % 1056) % 1056; omega
  | ⟨1, _⟩ => rfl

/-- The rows after them. -/
theorem next_apply {N : ℕ} (G : (⟨2, ![1056, N]⟩ : Shape).Idx → EReal) (hr : (⟨2, ![1056, N]⟩ : Shape).Rotates 0 none)
    (hs : (⟨2, ![1056, N]⟩ : Shape).Slices ![16, 0] ⟨2, ![1024, N]⟩) (p : Fin 1024) (f : Fin N) :
    extractStridedSlice ⟨2, ![1024, N]⟩ ![16, 0] (dynamicRotate 0 1055#32 none G hr) hs (ix2 p f) = G (ix2 ⟨17 + p.val, by omega⟩ f) := by
  have hp := p.isLt
  refine (same_apply _ hs p f).trans (dynamicRotate_apply (s := ⟨2, ![1056, N]⟩) 0 1055#32 G hr _ _ fun b => ?_)
  match b with
  | ⟨0, _⟩ => show 17 + p.val = (16 + p.val + 1056 - 1055 % 1056) % 1056; omega
  | ⟨1, _⟩ => rfl

/-- The convolution of the gates `G`, as the body writes it. -/
def convV {N : ℕ} (hr : (⟨2, ![1056, N]⟩ : Shape).Rotates 0 none) (hs : (⟨2, ![1056, N]⟩ : Shape).Slices ![16, 0] ⟨2, ![1024, N]⟩)
    (hc : (⟨2, ![1, N]⟩ : Shape).ShapeCasts ⟨2, ![1, N]⟩) (hb : (⟨2, ![1, N]⟩ : Shape).Broadcasts ⟨2, ![1024, N]⟩)
    (G : FVec Ideal ⟨2, ![1056, N]⟩ .f32) (a b c d : FVec Ideal ⟨2, ![1, N]⟩ .f32) : FVec Ideal ⟨2, ![1024, N]⟩ .f32 :=
  addf (addf (addf (mulf (extractStridedSlice ⟨2, ![1024, N]⟩ ![16, 0] (dynamicRotate 0 1#32 none G hr) hs) (broadcastTo ⟨2, ![1024, N]⟩ (shapeCast ⟨2, ![1, N]⟩ a hc) hb))
      (mulf (extractStridedSlice ⟨2, ![1024, N]⟩ ![16, 0] G hs) (broadcastTo ⟨2, ![1024, N]⟩ (shapeCast ⟨2, ![1, N]⟩ b hc) hb)))
      (mulf (extractStridedSlice ⟨2, ![1024, N]⟩ ![16, 0] (dynamicRotate 0 1055#32 none G hr) hs) (broadcastTo ⟨2, ![1024, N]⟩ (shapeCast ⟨2, ![1, N]⟩ c hc) hb)))
    (broadcastTo ⟨2, ![1024, N]⟩ (shapeCast ⟨2, ![1, N]⟩ d hc) hb)

/-- The convolution at an index. -/
theorem convV_apply {N : ℕ} (hN : N ≠ 1) (hr : (⟨2, ![1056, N]⟩ : Shape).Rotates 0 none) (hs : (⟨2, ![1056, N]⟩ : Shape).Slices ![16, 0] ⟨2, ![1024, N]⟩)
    (hc : (⟨2, ![1, N]⟩ : Shape).ShapeCasts ⟨2, ![1, N]⟩) (hb : (⟨2, ![1, N]⟩ : Shape).Broadcasts ⟨2, ![1024, N]⟩)
    (G : FVec Ideal ⟨2, ![1056, N]⟩ .f32) (a b c d : FVec Ideal ⟨2, ![1, N]⟩ .f32) (p : Fin 1024) (f : Fin N) :
    convV hr hs hc hb G a b c d (ix2 p f)
      = Spec.tap3 (G (ix2 ⟨15 + p.val, by omega⟩ f)) (G (ix2 ⟨16 + p.val, by omega⟩ f)) (G (ix2 ⟨17 + p.val, by omega⟩ f))
          (a (ix2 0 f)) (b (ix2 0 f)) (c (ix2 0 f)) (d (ix2 0 f)) := by
  unfold convV Spec.tap3
  rw [cast_self, cast_self, cast_self, cast_self]
  refine congrArg₂ (· + ·) (congrArg₂ (· + ·) (congrArg₂ (· + ·) (congrArg₂ (· * ·) ?_ ?_) (congrArg₂ (· * ·) ?_ ?_)) (congrArg₂ (· * ·) ?_ ?_)) ?_
  · exact prev_apply G hr hs p f
  · exact spreadRow_apply hN a hb p f
  · exact same_apply G hs p f
  · exact spreadRow_apply hN b hb p f
  · exact next_apply G hr hs p f
  · exact spreadRow_apply hN c hb p f
  · exact spreadRow_apply hN d hb p f

/-- The activations, as the body writes them. -/
def actV {S : Shape} (u v : FVec Ideal S .f32) : FVec Ideal S .bf16 :=
  truncf .bf16 (mulf (mulf (mulf (broadcast S (Scalar.ofBits (F := Ideal) .f32 0x3F000000#32)) u)
    (addf (broadcast S (Scalar.ofBits (F := Ideal) .f32 0x3F800000#32)) (erf (mulf u (broadcast S (Scalar.ofBits (F := Ideal) .f32 0x3F3504F3#32)))))) v) bitsLt_bf16_f32

/-- The activations at an index. -/
theorem actV_apply {S : Shape} (u v : FVec Ideal S .f32) (i : S.Idx) : actV u v i = Spec.act (u i) (v i) := rfl

/-- The gates of a hidden block. -/
def gates (s : Vec Ideal S1056x2048 .bf16) (w : Vec Ideal S2048x512 .bf16) : FVec Ideal S1056x512 .f32 :=
  matmul (φ₁ := .bf16) dot_S1056x2048_S2048x512_S1056x512_1_0_0_1_n_n none (s : FVec Ideal S1056x2048 .bf16) (shapeCast S2048x512 w shapeCasts_S2048x512_S2048x512 : FVec Ideal S2048x512 .bf16) (constant S1056x512 .f32 0x00000000#32)
/-- Its values. -/
def vals (s : Vec Ideal S1056x2048 .bf16) (w : Vec Ideal S2048x512 .bf16) : FVec Ideal S1024x512 .f32 :=
  matmul (φ₁ := .bf16) dot_S1024x2048_S2048x512_S1024x512_1_0_0_1_n_n none (mid s : FVec Ideal S1024x2048 .bf16) (shapeCast S2048x512 w shapeCasts_S2048x512_S2048x512 : FVec Ideal S2048x512 .bf16) (constant S1024x512 .f32 0x00000000#32)
/-- The gates of the last hidden block. -/
def cgates (s : Vec Ideal S1056x2048 .bf16) (w : Vec Ideal S2048x384 .bf16) : FVec Ideal S1056x384 .f32 :=
  matmul (φ₁ := .bf16) dot_S1056x2048_S2048x384_S1056x384_1_0_0_1_n_n none (s : FVec Ideal S1056x2048 .bf16) (shapeCast S2048x384 w shapeCasts_S2048x384_S2048x384 : FVec Ideal S2048x384 .bf16) (constant S1056x384 .f32 0x00000000#32)
/-- Its values. -/
def cvals (s : Vec Ideal S1056x2048 .bf16) (w : Vec Ideal S2048x384 .bf16) : FVec Ideal S1024x384 .f32 :=
  matmul (φ₁ := .bf16) dot_S1024x2048_S2048x384_S1024x384_1_0_0_1_n_n none (mid s : FVec Ideal S1024x2048 .bf16) (shapeCast S2048x384 w shapeCasts_S2048x384_S2048x384 : FVec Ideal S2048x384 .bf16) (constant S1024x384 .f32 0x00000000#32)

/-- A hidden block's activations. -/
def hidV (s : Vec Ideal S1056x2048 .bf16) (x3 x4 : Vec Ideal S2048x512 .bf16) (x6 : Vec Ideal S3x512 .f32) (x7 : Vec Ideal S1x512 .f32) : FVec Ideal S1024x512 .bf16 :=
  actV (convV rotates_S1056x512_d0 slices_S1056x512_o16_0_S1024x512 shapeCasts_S1x512_S1x512 broadcasts_S1x512_S1024x512 (gates s x3) (tap0 x6) (tap1 x6) (tap2 x6) x7) (vals s x4)

/-- The last hidden block's activations. -/
def chidV (s : Vec Ideal S1056x2048 .bf16) (x3 x4 : Vec Ideal S2048x512 .bf16) (x6 : Vec Ideal S3x512 .f32) (x7 : Vec Ideal S1x512 .f32) : FVec Ideal S1024x384 .bf16 :=
  actV (convV rotates_S1056x384_d0 slices_S1056x384_o16_0_S1024x384 shapeCasts_S1x384_S1x384 broadcasts_S1x384_S1024x384 (cgates s (cut x3)) (ctap0 x6) (ctap1 x6) (ctap2 x6) (cbias x7)) (cvals s (cut x4))

/-- The first point's result is the product of the activations and the down projection's block. -/
theorem resA_eq (s : Vec Ideal S1056x2048 .bf16) (x3 x4 : Vec Ideal S2048x512 .bf16) (x5 : Vec Ideal S512x2048 .bf16) (x6 : Vec Ideal S3x512 .f32) (x7 : Vec Ideal S1x512 .f32) :
    resA (F := Ideal) s x3 x4 x5 x6 x7
      = matmul dot_S1024x512_S512x2048_S1024x2048_1_0_0_1_n_n none (hidV s x3 x4 x6 x7) (shapeCast S512x2048 x5 shapeCasts_S512x2048_S512x2048 : FVec Ideal S512x2048 .bf16) (constant S1024x2048 .f32 0x00000000#32) := by
  unfold resA k0_pay1 k0_pay9 k0_pay10 k0_pay11 k0_pay12 k0_pay13 k0_pay8 hidV actV convV gates vals
  rfl

/-- A middle point adds its product. -/
theorem resB_eq (s : Vec Ideal S1056x2048 .bf16) (x3 x4 : Vec Ideal S2048x512 .bf16) (x5 : Vec Ideal S512x2048 .bf16) (x6 : Vec Ideal S3x512 .f32) (x7 : Vec Ideal S1x512 .f32) (o : Vec Ideal S1024x2048 .f32) :
    resB (F := Ideal) s x3 x4 x5 x6 x7 o
      = addf (shapeCast S1024x2048 o shapeCasts_S1024x2048_S1024x2048 : FVec Ideal S1024x2048 .f32) (matmul dot_S1024x512_S512x2048_S1024x2048_1_0_0_1_n_n none (hidV s x3 x4 x6 x7) (shapeCast S512x2048 x5 shapeCasts_S512x2048_S512x2048 : FVec Ideal S512x2048 .bf16) (constant S1024x2048 .f32 0x00000000#32)) := by
  unfold resB k0_pay2 k0_pay14 k0_pay16 k0_pay17 k0_pay18 k0_pay15 hidV actV convV gates vals
  rfl

/-- The last hidden block's activations, as the body writes them. -/
theorem actC_eq (s : Vec Ideal S1056x2048 .bf16) (x3 x4 : Vec Ideal S2048x512 .bf16) (x6 : Vec Ideal S3x512 .f32) (x7 : Vec Ideal S1x512 .f32) :
    actC (F := Ideal) s x3 x4 x6 x7 = chidV s x3 x4 x6 x7 := by
  unfold actC k0_pay24 k0_pay19 k0_pay21 k0_pay22 k0_pay23 k0_pay20 chidV actV convV cgates cvals
  rfl

/-! ## At an index -/

/-- A hidden entry of a block, from the scratch rows and the block's weights. -/
def hid (s : Vec Ideal S1056x2048 .bf16) (x3 x4 : Vec Ideal S2048x512 .bf16) (x6 : Vec Ideal S3x512 .f32) (x7 : Vec Ideal S1x512 .f32)
    (p : Fin 1024) (f : Fin 512) : EReal :=
  Spec.act (Spec.tap3 (∑ k : Fin 2048, s (ix2 ⟨15 + p.val, by omega⟩ k) * x3 (ix2 k f)) (∑ k : Fin 2048, s (ix2 ⟨16 + p.val, by omega⟩ k) * x3 (ix2 k f))
      (∑ k : Fin 2048, s (ix2 ⟨17 + p.val, by omega⟩ k) * x3 (ix2 k f)) (x6 (ix2 0 f)) (x6 (ix2 1 f)) (x6 (ix2 2 f)) (x7 (ix2 0 f)))
    (∑ k : Fin 2048, s (ix2 ⟨16 + p.val, by omega⟩ k) * x4 (ix2 k f))

/-- A load of part of a block reads the entry at the offsets. -/
theorem ld_at {a b c d : ℕ} {e : EltTy} (X : Vec Ideal ⟨2, ![a, b]⟩ e) (o q : ℕ) (inb : ∀ k, (![o, q] : Fin 2 → ℕ) k + (![c, d] : Fin 2 → ℕ) k ≤ (⟨2, ![a, b]⟩ : Shape).size k)
    (i : Fin c) (j : Fin d) (i' : Fin a) (j' : Fin b) (hi : i'.val = o + i.val) (hj : j'.val = q + j.val) :
    View.ld X (Rect.unit (s := ⟨2, ![a, b]⟩) ![o, q] ![c, d] inb) (ix2 i j) = X (ix2 i' j') := by
  show X _ = X _
  refine congrArg X (funext fun k => Fin.ext ?_)
  match k with
  | ⟨0, _⟩ => show o + 1 * i.val = i'.val; omega
  | ⟨1, _⟩ => show q + 1 * j.val = j'.val; omega

theorem mid_apply (s : Vec Ideal S1056x2048 .bf16) (p : Fin 1024) (k : Fin 2048) : mid s (ix2 p k) = s (ix2 ⟨16 + p.val, by omega⟩ k) :=
  ld_at s 16 0 _ p k _ _ rfl (Nat.zero_add _).symm

theorem hidV_apply (s : Vec Ideal S1056x2048 .bf16) (x3 x4 : Vec Ideal S2048x512 .bf16) (x6 : Vec Ideal S3x512 .f32) (x7 : Vec Ideal S1x512 .f32)
    (p : Fin 1024) (f : Fin 512) : hidV s x3 x4 x6 x7 (ix2 p f) = hid s x3 x4 x6 x7 p f := by
  have hg : ∀ q : Fin 1056, gates s x3 (ix2 q f) = ∑ k : Fin 2048, s (ix2 q k) * x3 (ix2 k f) := fun q => by
    unfold gates
    rw [cast_self]
    exact dot_apply _ rfl _ _ q f
  have hv : vals s x4 (ix2 p f) = ∑ k : Fin 2048, s (ix2 ⟨16 + p.val, by omega⟩ k) * x4 (ix2 k f) := by
    unfold vals
    rw [cast_self]
    refine (dot_apply _ rfl _ _ p f).trans (Finset.sum_congr rfl fun k _ => ?_)
    exact congrArg (· * _) (mid_apply s p k)
  unfold hidV hid
  rw [actV_apply, convV_apply (by decide), hg, hg, hg, hv]
  have e0 : tap0 (F := Ideal) x6 (ix2 0 f) = x6 (ix2 0 f) := ld_at x6 0 0 _ 0 f _ _ rfl (Nat.zero_add _).symm
  have e1 : tap1 (F := Ideal) x6 (ix2 0 f) = x6 (ix2 1 f) := ld_at x6 1 0 _ 0 f _ _ rfl (Nat.zero_add _).symm
  have e2 : tap2 (F := Ideal) x6 (ix2 0 f) = x6 (ix2 2 f) := ld_at x6 2 0 _ 0 f _ _ rfl (Nat.zero_add _).symm
  rw [e0, e1, e2]

/-- A column of the last hidden block as a column of the block it is cut from. -/
abbrev wide (f : Fin 384) : Fin 512 := ⟨f.val, by omega⟩

theorem chidV_apply (s : Vec Ideal S1056x2048 .bf16) (x3 x4 : Vec Ideal S2048x512 .bf16) (x6 : Vec Ideal S3x512 .f32) (x7 : Vec Ideal S1x512 .f32)
    (p : Fin 1024) (f : Fin 384) : chidV s x3 x4 x6 x7 (ix2 p f) = hid s x3 x4 x6 x7 p (wide f) := by
  have hcut : ∀ (w : Vec Ideal S2048x512 .bf16) (k : Fin 2048), cut w (ix2 k f) = w (ix2 k (wide f)) := fun w k =>
    ld_at w 0 0 _ k f _ _ (Nat.zero_add _).symm (Nat.zero_add _).symm
  have hg : ∀ q : Fin 1056, cgates s (cut x3) (ix2 q f) = ∑ k : Fin 2048, s (ix2 q k) * x3 (ix2 k (wide f)) := fun q => by
    unfold cgates
    rw [cast_self]
    refine (dot_apply _ rfl _ _ q f).trans (Finset.sum_congr rfl fun k _ => ?_)
    exact congrArg (_ * ·) (hcut x3 k)
  have hv : cvals s (cut x4) (ix2 p f) = ∑ k : Fin 2048, s (ix2 ⟨16 + p.val, by omega⟩ k) * x4 (ix2 k (wide f)) := by
    unfold cvals
    rw [cast_self]
    refine (dot_apply _ rfl _ _ p f).trans (Finset.sum_congr rfl fun k _ => ?_)
    exact congrArg₂ (· * ·) (mid_apply s p k) (hcut x4 k)
  unfold chidV hid
  rw [actV_apply, convV_apply (by decide), hg, hg, hg, hv]
  have e0 : ctap0 (F := Ideal) x6 (ix2 0 f) = x6 (ix2 0 (wide f)) := ld_at x6 0 0 _ 0 f _ _ rfl (Nat.zero_add _).symm
  have e1 : ctap1 (F := Ideal) x6 (ix2 0 f) = x6 (ix2 1 (wide f)) := ld_at x6 1 0 _ 0 f _ _ rfl (Nat.zero_add _).symm
  have e2 : ctap2 (F := Ideal) x6 (ix2 0 f) = x6 (ix2 2 (wide f)) := ld_at x6 2 0 _ 0 f _ _ rfl (Nat.zero_add _).symm
  have e3 : cbias (F := Ideal) x7 (ix2 0 f) = x7 (ix2 0 (wide f)) := ld_at x7 0 0 _ 0 f _ _ rfl (Nat.zero_add _).symm
  rw [e0, e1, e2, e3]

/-- The first point's result at an index. -/
theorem resA_apply (s : Vec Ideal S1056x2048 .bf16) (x3 x4 : Vec Ideal S2048x512 .bf16) (x5 : Vec Ideal S512x2048 .bf16) (x6 : Vec Ideal S3x512 .f32) (x7 : Vec Ideal S1x512 .f32)
    (p : Fin 1024) (n : Fin 2048) : resA (F := Ideal) s x3 x4 x5 x6 x7 (ix2 p n) = ∑ f : Fin 512, hid s x3 x4 x6 x7 p f * x5 (ix2 f n) := by
  rw [resA_eq, cast_self]
  refine (dot_apply _ rfl _ _ p n).trans (Finset.sum_congr rfl fun f _ => ?_)
  exact congrArg (· * _) (hidV_apply s x3 x4 x6 x7 p f)

/-- A middle point's. -/
theorem resB_apply (s : Vec Ideal S1056x2048 .bf16) (x3 x4 : Vec Ideal S2048x512 .bf16) (x5 : Vec Ideal S512x2048 .bf16) (x6 : Vec Ideal S3x512 .f32) (x7 : Vec Ideal S1x512 .f32)
    (o : Vec Ideal S1024x2048 .f32) (p : Fin 1024) (n : Fin 2048) :
    resB (F := Ideal) s x3 x4 x5 x6 x7 o (ix2 p n) = o (ix2 p n) + ∑ f : Fin 512, hid s x3 x4 x6 x7 p f * x5 (ix2 f n) := by
  rw [resB_eq, cast_self, cast_self]
  refine congrArg (o (ix2 p n) + ·) ((dot_apply _ rfl _ _ p n).trans (Finset.sum_congr rfl fun f _ => ?_))
  exact congrArg (· * _) (hidV_apply s x3 x4 x6 x7 p f)

end Cert.Ffn

end
-- ==== Proof.FfnScr.lean ====
/- The feed-forward kernel's scratch rows at an index: the block's own rows, and beside them the neighbouring rows, zero past
   a sequence's ends. -/
module

public import proofs.«01_k».proof.Proof.FfnAct

@[expose] public section

set_option maxRecDepth 10000

noncomputable section

namespace Cert.Ffn

open Cert.Kernel2Ideal Cert.Kernel2Ideal.Gen Idealize.ShloMosaic Idealize.ShloMosaic.TcCoe Idealize.ShloMosaic.ValueIdx

/-- Of stacked pieces, an index in the first one's rows reads that piece. -/
theorem canon_hit {a b c : ℕ} {e : EltTy} (o : ℕ) (inb : ∀ k, (![o, 0] : Fin 2 → ℕ) k + (![c, b] : Fin 2 → ℕ) k ≤ (⟨2, ![a, b]⟩ : Shape).size k)
    (w : Vec Ideal ⟨2, ![c, b]⟩ e) (L : List (View.Piece (Elt Ideal) ⟨2, ![a, b]⟩ e)) (i : Fin a) (j : Fin b) (i' : Fin c) (h : i.val = o + i'.val) :
    View.canon ((⟨Rect.unit (s := ⟨2, ![a, b]⟩) ![o, 0] ![c, b] inb, w⟩ : View.Piece (Elt Ideal) ⟨2, ![a, b]⟩ e) :: L) (ix2 i j) = w (ix2 i' j) := by
  have hy : (Rect.unit (s := ⟨2, ![a, b]⟩) ![o, 0] ![c, b] inb).emb (ix2 i' j) = ix2 i j := funext fun k => Fin.ext (by
    match k with
    | ⟨0, _⟩ => show o + 1 * i'.val = i.val; omega
    | ⟨1, _⟩ => show 0 + 1 * j.val = j.val; omega)
  rw [← hy]
  exact View.canon_cons_emb (Val := Elt Ideal) (Rect.unit (s := ⟨2, ![a, b]⟩) ![o, 0] ![c, b] inb) w L (ix2 i' j)

/-- An index outside them reads the rest. -/
theorem canon_miss {a b c : ℕ} {e : EltTy} (o : ℕ) (inb : ∀ k, (![o, 0] : Fin 2 → ℕ) k + (![c, b] : Fin 2 → ℕ) k ≤ (⟨2, ![a, b]⟩ : Shape).size k)
    (w : Vec Ideal ⟨2, ![c, b]⟩ e) (L : List (View.Piece (Elt Ideal) ⟨2, ![a, b]⟩ e)) (i : Fin a) (j : Fin b) (h : i.val < o ∨ o + c ≤ i.val) :
    View.canon ((⟨Rect.unit (s := ⟨2, ![a, b]⟩) ![o, 0] ![c, b] inb, w⟩ : View.Piece (Elt Ideal) ⟨2, ![a, b]⟩ e) :: L) (ix2 i j) = View.canon L (ix2 i j) := by
  refine View.canon_cons_of_not_mem _ L fun hm => ?_
  have h0 : o ≤ i.val ∧ i.val < o + c := (Rect.mem_set_unit (s := ⟨2, ![a, b]⟩) (off := ![o, 0]) (size := ![c, b]) (inb := inb)).mp hm 0
  omega

/-! ## The scratch rows -/

/-- The word that says whether a row block starts a sequence, -/
theorem start_word : ∀ a : Fin 32,
    (let v11 := Scalar.muli (BitVec.ofNat 32 a.val) 1024#32
     let v13 : BitVec 32 := Scalar.select (Scalar.cmpi .eq 4096#32 0#32) 1#32 4096#32
     let v14 := Scalar.remsi v11 v13
     Scalar.cmpi .ne (Scalar.select (Scalar.andi (Scalar.xori (Scalar.cmpi .slt v14 0#32) (Scalar.cmpi .slt v13 0#32)) (Scalar.cmpi .ne v14 0#32)) (Scalar.addi v14 v13) v14) 0#32)
      = if a.val % 4 = 0 then 0#1 else 1#1 := by
  decide +kernel

/-- and whether it ends one. -/
theorem end_word : ∀ a : Fin 32,
    (let v11 := Scalar.muli (Scalar.addi (BitVec.ofNat 32 a.val) 1#32) 1024#32
     let v13 : BitVec 32 := Scalar.select (Scalar.cmpi .eq 4096#32 0#32) 1#32 4096#32
     let v14 := Scalar.remsi v11 v13
     Scalar.cmpi .ne (Scalar.select (Scalar.andi (Scalar.xori (Scalar.cmpi .slt v14 0#32) (Scalar.cmpi .slt v13 0#32)) (Scalar.cmpi .ne v14 0#32)) (Scalar.addi v14 v13) v14) 0#32)
      = if (a.val + 1) % 4 = 0 then 0#1 else 1#1 := by
  decide +kernel

theorem ofBits_one : Ideal.ofBits .f32 0x3F800000#32 = 1 := by
  simp [Ideal.ofBits, Ideal.ieee, -EReal.coe_mul]; norm_num
theorem ofBits_zero : Ideal.ofBits .f32 0x00000000#32 = 0 := by
  simp [Ideal.ofBits, Ideal.ieee]

/-- A flag's bit as a number. -/
theorem flag_apply (c : Prop) [Decidable c] (w : BitVec 1) (h : w = if c then 0#1 else 1#1) :
    Scalar.select w (Scalar.ofBits (F := Ideal) .f32 0x3F800000#32) (Scalar.ofBits (F := Ideal) .f32 0x00000000#32) = (if c then (0 : EReal) else 1) := by
  subst h
  by_cases hc : c
  · rw [if_pos hc, if_pos hc]; exact ofBits_zero
  · rw [if_neg hc, if_neg hc]; exact ofBits_one

theorem pay5_apply (a : Fin 32) (x : Vec Ideal S16x2048 .f32) (q : Fin 16) (k : Fin 2048) :
    k0_pay5 (F := Ideal) (BitVec.ofNat 32 a.val) x (ix2 q k) = x (ix2 q k) * (if a.val % 4 = 0 then 0 else 1) := by
  unfold k0_pay5
  rw [cast_self, cast_self]
  exact congrArg (x (ix2 q k) * ·) (flag_apply _ _ (start_word a))

theorem pay7_apply (a : Fin 32) (x : Vec Ideal S16x2048 .f32) (q : Fin 16) (k : Fin 2048) :
    k0_pay7 (F := Ideal) (k0_pay4 (BitVec.ofNat 32 a.val)) x (ix2 q k) = x (ix2 q k) * (if (a.val + 1) % 4 = 0 then 0 else 1) := by
  unfold k0_pay7
  rw [cast_self, cast_self]
  exact congrArg (x (ix2 q k) * ·) (flag_apply _ _ (end_word a))

/-- The scratch row before the block. -/
theorem scr_prev (i : grid0.Coords) (a : Fin 32) (ha : (i 0).val = a.val) (x0 : Vec Ideal S1024x2048 .f32) (x1 x2 : Vec Ideal S16x2048 .f32) (r : Fin 1056) (hr : r.val = 15) (k : Fin 2048) :
    scr (F := Ideal) i x0 x1 x2 (ix2 r k) = x1 (ix2 15 k) * (if a.val % 4 = 0 then 0 else 1) := by
  unfold scr
  rw [ha]
  refine (canon_miss (a := 1056) (b := 2048) (c := 16) 1040 inb_S1056x2048_S16x2048_1040_0 _ _ r k (.inl (by omega))).trans ((canon_miss (a := 1056) (b := 2048) (c := 1024) 16 inb_S1056x2048_S1024x2048_16_0 _ _ r k (.inl (by omega))).trans ?_)
  exact (canon_hit (a := 1056) (b := 2048) (c := 16) 0 inb_S1056x2048_S16x2048_0_0 _ _ r k 15 (by rw [hr]; rfl)).trans (pay5_apply a x1 15 k)

/-- The block's rows in the scratch. -/
theorem scr_same (i : grid0.Coords) (x0 : Vec Ideal S1024x2048 .f32) (x1 x2 : Vec Ideal S16x2048 .f32) (r : Fin 1056) (p : Fin 1024) (hr : r.val = 16 + p.val) (k : Fin 2048) :
    scr (F := Ideal) i x0 x1 x2 (ix2 r k) = x0 (ix2 p k) := by
  have hp := p.isLt
  unfold scr
  refine (canon_miss (a := 1056) (b := 2048) (c := 16) 1040 inb_S1056x2048_S16x2048_1040_0 _ _ r k (.inl (by omega))).trans ((canon_hit (a := 1056) (b := 2048) (c := 1024) 16 inb_S1056x2048_S1024x2048_16_0 _ _ r k p hr).trans ?_)
  unfold k0_pay6
  rw [cast_self, cast_self]
  rfl

/-- The scratch row after the block. -/
theorem scr_next (i : grid0.Coords) (a : Fin 32) (ha : (i 0).val = a.val) (x0 : Vec Ideal S1024x2048 .f32) (x1 x2 : Vec Ideal S16x2048 .f32) (r : Fin 1056) (hr : r.val = 1040) (k : Fin 2048) :
    scr (F := Ideal) i x0 x1 x2 (ix2 r k) = x2 (ix2 0 k) * (if (a.val + 1) % 4 = 0 then 0 else 1) := by
  unfold scr
  rw [ha]
  exact (canon_hit (a := 1056) (b := 2048) (c := 16) 1040 inb_S1056x2048_S16x2048_1040_0 _ _ r k 0 (by rw [hr]; rfl)).trans (pay7_apply a x2 0 k)

end Cert.Ffn

end
-- ==== Proof.FfnNorm.lean ====
/- The feed-forward kernel's last point of a row block, at an index: the residual and the summed products, normalised. -/
module

public import proofs.«01_k».proof.Proof.FfnScr

@[expose] public section

set_option maxRecDepth 10000

noncomputable section

namespace Cert.Ffn

open Cert.Kernel2Ideal Cert.Kernel2Ideal.Gen Idealize.ShloMosaic Idealize.ShloMosaic.TcCoe Idealize.ShloMosaic.ValueIdx

/-- A row's sum. -/
theorem rowSum_apply (x : FVec Ideal S256x2048 .f32) (n : Fin 256) :
    multiReduction .add [1] S256 x 0x00000000#32 reduces_S256x2048_S256 (.inl rfl) rfl (ix1 n) = ∑ l : Fin 2048, x (ix2 n l) :=
  (Ideal.multiReduction_add_single x 0x00000000#32 reduces_S256x2048_S256 (.inl rfl) rfl (ix1 n)).trans
    (Finset.sum_congr rfl fun l _ => congrArg x (funext fun b => match b with | ⟨0, _⟩ => rfl | ⟨1, _⟩ => rfl))

/-- A column of row values, spread over the row. -/
theorem spreadCol_apply (x : FVec Ideal S256x1 .f32) (i : Fin 256) (j : Fin 2048) :
    broadcastTo S256x2048 x broadcasts_S256x1_S256x2048 (ix2 i j) = x (ix2 i 0) :=
  broadcastTo_apply _ _ _ (ix2 i 0) fun b => match b with
    | ⟨0, _⟩ => (if_neg (show ¬(256 = 1) by decide)).symm
    | ⟨1, _⟩ => (if_pos rfl).symm

/-- Row values as a column. -/
theorem column_apply (x : FVec Ideal S256 .f32) (i : Fin 256) : shapeCast S256x1 x shapeCasts_S256_S256x1 (ix2 i 0) = x (ix1 i) :=
  shapeCast_apply x _ _ _ (by rw [Shape.rowMajor_val_two, Shape.rowMajor_val_one]; show i.val = i.val * 1 + 0; omega)

/-- The rows' means, as the body writes them. -/
def meanV (z : FVec Ideal S256x2048 .f32) : FVec Ideal S256x1 .f32 :=
  divf (shapeCast S256x1 (multiReduction .add [1] S256 z 0x00000000#32 reduces_S256x2048_S256 (.inl rfl) rfl) shapeCasts_S256_S256x1)
    (broadcast S256x1 (Scalar.ofBits (F := Ideal) .f32 0x45000000#32))

theorem meanV_apply (z : FVec Ideal S256x2048 .f32) (p : Fin 256) : meanV z (ix2 p 0) = Spec.mean (fun k => z (ix2 p k)) := by
  unfold meanV Spec.mean
  exact congrArg (Ideal.div · _) ((column_apply _ p).trans (rowSum_apply z p))

/-- The rows less their means. -/
def devV (z : FVec Ideal S256x2048 .f32) : FVec Ideal S256x2048 .f32 := subf z (broadcastTo S256x2048 (meanV z) broadcasts_S256x1_S256x2048)

theorem devV_apply (z : FVec Ideal S256x2048 .f32) (p : Fin 256) (n : Fin 2048) : devV z (ix2 p n) = z (ix2 p n) - Spec.mean (fun k => z (ix2 p k)) := by
  unfold devV
  exact congrArg (z (ix2 p n) - ·) ((spreadCol_apply _ p n).trans (meanV_apply z p))

/-- The normalised rows, as the body writes them. -/
def normV (z : FVec Ideal S256x2048 .f32) (g b : Vec Ideal S1x2048 .f32) : FVec Ideal S256x2048 .f32 :=
  addf (mulf (mulf (devV z) (broadcastTo S256x2048 (rsqrt (addf (meanV (mulf (devV z) (devV z))) (broadcast S256x1 (Scalar.ofBits (F := Ideal) .f32 0x3727C5AC#32)))) broadcasts_S256x1_S256x2048))
      (broadcastTo S256x2048 (shapeCast S1x2048 g shapeCasts_S1x2048_S1x2048 : FVec Ideal S1x2048 .f32) broadcasts_S1x2048_S256x2048))
    (broadcastTo S256x2048 (shapeCast S1x2048 b shapeCasts_S1x2048_S1x2048 : FVec Ideal S1x2048 .f32) broadcasts_S1x2048_S256x2048)

theorem normV_apply (z : FVec Ideal S256x2048 .f32) (g b : Vec Ideal S1x2048 .f32) (p : Fin 256) (n : Fin 2048) :
    normV z g b (ix2 p n) = Spec.norm (fun k => z (ix2 p k)) (fun k => g (ix2 0 k)) (fun k => b (ix2 0 k)) n := by
  unfold normV Spec.norm
  rw [cast_self, cast_self]
  refine congrArg₂ (· + ·) (congrArg₂ (· * ·) (congrArg₂ (· * ·) (devV_apply z p n) ((spreadCol_apply _ p n).trans ?_)) (spreadRow_apply (by decide) g _ p n))
    (spreadRow_apply (by decide) b _ p n)
  refine congrArg Ideal.rsqrt (congrArg (· + _) ((meanV_apply _ p).trans (congrArg Spec.mean (funext fun k => ?_))))
  exact congrArg₂ (· * ·) (devV_apply z p k) (devV_apply z p k)

/-- The rows before normalisation, as the body writes them. -/
def preV (off : ℕ) (hs : S1024x384.Slices ![off, 0] S256x384) (A : FVec Ideal S1024x384 .bf16) (x o : Vec Ideal S256x2048 .f32) (w : Vec Ideal S384x2048 .bf16) : FVec Ideal S256x2048 .f32 :=
  addf (mulf (broadcast S256x2048 (Scalar.ofBits (F := Ideal) .f32 0x3F9837F0#32)) (shapeCast S256x2048 x shapeCasts_S256x2048_S256x2048 : FVec Ideal S256x2048 .f32))
    (addf (shapeCast S256x2048 o shapeCasts_S256x2048_S256x2048 : FVec Ideal S256x2048 .f32)
      (matmul (φ₁ := .bf16) dot_S256x384_S384x2048_S256x2048_1_0_0_1_n_n none (extractStridedSlice S256x384 ![off, 0] A hs)
        (shapeCast S384x2048 w shapeCasts_S384x2048_S384x2048 : FVec Ideal S384x2048 .bf16) (constant S256x2048 .f32 0x00000000#32)))

theorem preV_apply (off : ℕ) (hs : S1024x384.Slices ![off, 0] S256x384) (A : FVec Ideal S1024x384 .bf16) (x o : Vec Ideal S256x2048 .f32) (w : Vec Ideal S384x2048 .bf16)
    (p : Fin 256) (q : Fin 1024) (hq : q.val = off + p.val) (n : Fin 2048) :
    preV off hs A x o w (ix2 p n) = Ideal.ofBits .f32 0x3F9837F0#32 * x (ix2 p n) + (o (ix2 p n) + ∑ f : Fin 384, A (ix2 q f) * w (ix2 f n)) := by
  unfold preV
  rw [cast_self, cast_self, cast_self]
  refine congrArg (Ideal.ofBits .f32 0x3F9837F0#32 * x (ix2 p n) + ·) (congrArg (o (ix2 p n) + ·) ((dot_apply _ rfl _ _ p n).trans (Finset.sum_congr rfl fun f _ => ?_)))
  refine congrArg (· * _) (extractStridedSlice_apply ![off, 0] A hs (ix2 p f) (ix2 q f) fun b => ?_)
  match b with
  | ⟨0, _⟩ => exact hq
  | ⟨1, _⟩ => exact (Nat.zero_add _).symm

theorem pay25_eq (s : Vec Ideal S1056x2048 .bf16) (x3 x4 : Vec Ideal S2048x512 .bf16) (x6 : Vec Ideal S3x512 .f32) (x7 : Vec Ideal S1x512 .f32)
    (x o : Vec Ideal S256x2048 .f32) (w : Vec Ideal S384x2048 .bf16) (g b : Vec Ideal S1x2048 .f32) :
    k0_pay25 (F := Ideal) (k0_pay19 (mid s) (cut x4)) (k0_pay21 s (cut x3) (ctap0 x6) (ctap1 x6) (ctap2 x6) (cbias x7))
        (k0_pay22 s (cut x3) (ctap0 x6) (ctap1 x6) (ctap2 x6) (cbias x7)) (k0_pay23 (F := Ideal)) x o w g b
      = normV (preV 0 slices_S1024x384_o0_0_S256x384 (actC s x3 x4 x6 x7) x o w) g b := by
  unfold k0_pay25 normV devV meanV preV actC
  rfl

theorem pay26_eq (A : FVec Ideal S1024x384 .bf16) (x o : Vec Ideal S256x2048 .f32) (w : Vec Ideal S384x2048 .bf16) (g b : Vec Ideal S1x2048 .f32) :
    k0_pay26 (F := Ideal) A x o w g b = normV (preV 256 slices_S1024x384_o256_0_S256x384 A x o w) g b := by
  unfold k0_pay26 normV devV meanV preV
  rfl

theorem pay27_eq (A : FVec Ideal S1024x384 .bf16) (x o : Vec Ideal S256x2048 .f32) (w : Vec Ideal S384x2048 .bf16) (g b : Vec Ideal S1x2048 .f32) :
    k0_pay27 (F := Ideal) A x o w g b = normV (preV 512 slices_S1024x384_o512_0_S256x384 A x o w) g b := by
  unfold k0_pay27 normV devV meanV preV
  rfl

theorem pay3_eq (A : FVec Ideal S1024x384 .bf16) (x o : Vec Ideal S256x2048 .f32) (w : Vec Ideal S384x2048 .bf16) (g b : Vec Ideal S1x2048 .f32) :
    k0_pay3 (F := Ideal) A (k0_pay28 x) (Scalar.ofBits .f32 0x3F9837F0#32) o w g b = normV (preV 768 slices_S1024x384_o768_0_S256x384 A x o w) g b := by
  unfold k0_pay3 k0_pay28 normV devV meanV preV
  rfl

/-- A group of normalised rows at an index, over the whole block. -/
theorem group_apply (off : ℕ) (hs : S1024x384.Slices ![off, 0] S256x384) (s : Vec Ideal S1056x2048 .bf16) (x0 : Vec Ideal S1024x2048 .f32) (x3 x4 : Vec Ideal S2048x512 .bf16)
    (w : Vec Ideal S384x2048 .bf16) (x6 : Vec Ideal S3x512 .f32) (x7 : Vec Ideal S1x512 .f32) (x8 x9 : Vec Ideal S1x2048 .f32) (o : Vec Ideal S1024x2048 .f32)
    (X O : Vec Ideal S256x2048 .f32) (p : Fin 256) (q : Fin 1024) (hq : q.val = off + p.val) (hX : ∀ k, X (ix2 p k) = x0 (ix2 q k)) (hO : ∀ k, O (ix2 p k) = o (ix2 q k)) (n : Fin 2048) :
    normV (preV off hs (actC s x3 x4 x6 x7) X O w) x8 x9 (ix2 p n)
      = Spec.norm (fun k => Ideal.ofBits .f32 0x3F9837F0#32 * x0 (ix2 q k) + (o (ix2 q k) + ∑ f : Fin 384, hid s x3 x4 x6 x7 q (wide f) * w (ix2 f k)))
          (fun k => x8 (ix2 0 k)) (fun k => x9 (ix2 0 k)) n := by
  rw [normV_apply]
  refine congrArg (fun z => Spec.norm z _ _ n) (funext fun k => ?_)
  rw [preV_apply off hs _ X O w p q hq k, hX, hO, actC_eq]
  refine congrArg (_ + ·) (congrArg (_ + ·) (Finset.sum_congr rfl fun f _ => ?_))
  rw [chidV_apply]

/-- Four groups of rows that each read `R` make up `R`. -/
theorem quarters (w3 w2 w1 w0 : Vec Ideal S256x2048 .f32) (R : Fin 1024 → Fin 2048 → EReal)
    (h3 : ∀ (p : Fin 256) (q : Fin 1024), q.val = 768 + p.val → ∀ n, w3 (ix2 p n) = R q n) (h2 : ∀ (p : Fin 256) (q : Fin 1024), q.val = 512 + p.val → ∀ n, w2 (ix2 p n) = R q n)
    (h1 : ∀ (p : Fin 256) (q : Fin 1024), q.val = 256 + p.val → ∀ n, w1 (ix2 p n) = R q n) (h0 : ∀ (p : Fin 256) (q : Fin 1024), q.val = 0 + p.val → ∀ n, w0 (ix2 p n) = R q n)
    (q : Fin 1024) (n : Fin 2048) :
    View.canon [
      (⟨Rect.unit (s := S1024x2048) ![768, 0] S256x2048.size inb_S1024x2048_S256x2048_768_0, w3⟩ : View.Piece (Elt Ideal) S1024x2048 .f32),
      ⟨Rect.unit (s := S1024x2048) ![512, 0] S256x2048.size inb_S1024x2048_S256x2048_512_0, w2⟩,
      ⟨Rect.unit (s := S1024x2048) ![256, 0] S256x2048.size inb_S1024x2048_S256x2048_256_0, w1⟩,
      ⟨Rect.unit (s := S1024x2048) ![0, 0] S256x2048.size inb_S1024x2048_S256x2048_0_0, w0⟩] (ix2 q n) = R q n := by
  have hq := q.isLt
  by_cases c3 : 768 ≤ q.val
  · have e : q.val = 768 + (q.val - 768) := by omega
    exact (canon_hit (a := 1024) (b := 2048) (c := 256) 768 inb_S1024x2048_S256x2048_768_0 w3 _ q n ⟨q.val - 768, by omega⟩ e).trans (h3 _ q e n)
  refine (canon_miss (a := 1024) (b := 2048) (c := 256) 768 inb_S1024x2048_S256x2048_768_0 w3 _ q n (.inl (by omega))).trans ?_
  by_cases c2 : 512 ≤ q.val
  · have e : q.val = 512 + (q.val - 512) := by omega
    exact (canon_hit (a := 1024) (b := 2048) (c := 256) 512 inb_S1024x2048_S256x2048_512_0 w2 _ q n ⟨q.val - 512, by omega⟩ e).trans (h2 _ q e n)
  refine (canon_miss (a := 1024) (b := 2048) (c := 256) 512 inb_S1024x2048_S256x2048_512_0 w2 _ q n (.inl (by omega))).trans ?_
  by_cases c1 : 256 ≤ q.val
  · have e : q.val = 256 + (q.val - 256) := by omega
    exact (canon_hit (a := 1024) (b := 2048) (c := 256) 256 inb_S1024x2048_S256x2048_256_0 w1 _ q n ⟨q.val - 256, by omega⟩ e).trans (h1 _ q e n)
  refine (canon_miss (a := 1024) (b := 2048) (c := 256) 256 inb_S1024x2048_S256x2048_256_0 w1 _ q n (.inl (by omega))).trans ?_
  have e : q.val = 0 + q.val := by omega
  exact (canon_hit (a := 1024) (b := 2048) (c := 256) 0 inb_S1024x2048_S256x2048_0_0 w0 _ q n ⟨q.val, by omega⟩ e).trans (h0 _ q e n)

/-- THE LAST POINT'S RESULT at an index. -/
theorem resC_apply (s : Vec Ideal S1056x2048 .bf16) (x0 : Vec Ideal S1024x2048 .f32) (x3 x4 : Vec Ideal S2048x512 .bf16)
    (w : Vec Ideal S384x2048 .bf16) (x6 : Vec Ideal S3x512 .f32) (x7 : Vec Ideal S1x512 .f32) (x8 x9 : Vec Ideal S1x2048 .f32) (o : Vec Ideal S1024x2048 .f32)
    (q : Fin 1024) (n : Fin 2048) :
    resC (F := Ideal) s x0 x3 x4 w x6 x7 x8 x9 o (ix2 q n)
      = Spec.norm (fun k => Ideal.ofBits .f32 0x3F9837F0#32 * x0 (ix2 q k) + (o (ix2 q k) + ∑ f : Fin 384, hid s x3 x4 x6 x7 q (wide f) * w (ix2 f k)))
          (fun k => x8 (ix2 0 k)) (fun k => x9 (ix2 0 k)) n := by
  unfold resC
  rw [pay25_eq, pay26_eq, pay27_eq, pay3_eq]
  refine quarters _ _ _ _ (fun q n => Spec.norm (fun k => Ideal.ofBits .f32 0x3F9837F0#32 * x0 (ix2 q k) + (o (ix2 q k) + ∑ f : Fin 384, hid s x3 x4 x6 x7 q (wide f) * w (ix2 f k)))
    (fun k => x8 (ix2 0 k)) (fun k => x9 (ix2 0 k)) n) (fun p q e n => ?_) (fun p q e n => ?_) (fun p q e n => ?_) (fun p q e n => ?_) q n
  · exact group_apply 768 _ s x0 x3 x4 w x6 x7 x8 x9 o (row3 x0) (row3 o) p q e
      (fun k => ld_at x0 768 0 _ p k q k e (Nat.zero_add _).symm) (fun k => ld_at o 768 0 _ p k q k e (Nat.zero_add _).symm) n
  · exact group_apply 512 _ s x0 x3 x4 w x6 x7 x8 x9 o (row2 x0) (row2 o) p q e
      (fun k => ld_at x0 512 0 _ p k q k e (Nat.zero_add _).symm) (fun k => ld_at o 512 0 _ p k q k e (Nat.zero_add _).symm) n
  · exact group_apply 256 _ s x0 x3 x4 w x6 x7 x8 x9 o (row1 x0) (row1 o) p q e
      (fun k => ld_at x0 256 0 _ p k q k e (Nat.zero_add _).symm) (fun k => ld_at o 256 0 _ p k q k e (Nat.zero_add _).symm) n
  · exact group_apply 0 _ s x0 x3 x4 w x6 x7 x8 x9 o (row0 x0) (row0 o) p q e
      (fun k => ld_at x0 0 0 _ p k q k e (Nat.zero_add _).symm) (fun k => ld_at o 0 0 _ p k q k e (Nat.zero_add _).symm) n

end Cert.Ffn

end
-- ==== Proof.FfnValue.lean ====
/- The feed-forward kernel's result array: the sums over the hidden blocks point by point, then the normalised rows, block by
   block, are the rows of `Cert.Ffn.Spec`. -/
module

public import proofs.«01_k».proof.Proof.FfnInv
public import proofs.«01_k».proof.Proof.FfnHost
public import proofs.«01_k».proof.Proof.FfnNorm

@[expose] public section

set_option maxRecDepth 16384

noncomputable section

namespace Cert.Ffn

open Cert.Kernel2Ideal Cert.Kernel2Ideal.Gen Idealize.ShloMosaic Idealize.ShloMosaic.TcCoe Idealize.ShloMosaic.ValueIdx
open Idealize.ShloMosaic.Pipeline (Dat Cfg Window)

attribute [local irreducible] outsAt resA resB resC scr hid wdB

/-- Scratch rows that hold row block `i`: their products with any column are the rows' products, zero past a sequence's ends. -/
def Holds (I : Spec.In) (i : ℕ) (s : Vec Ideal S1056x2048 .bf16) : Prop :=
  ∀ (w : Fin 2048 → EReal) (p : Fin 1024),
    (∑ k : Fin 2048, s (ix2 ⟨15 + p.val, by omega⟩ k) * w k = if (1024 * i + p.val) % 4096 = 0 then 0 else ∑ k : Fin 2048, Spec.row I (1024 * i + p.val - 1) k * w k) ∧
    (∑ k : Fin 2048, s (ix2 ⟨16 + p.val, by omega⟩ k) * w k = ∑ k : Fin 2048, Spec.row I (1024 * i + p.val) k * w k) ∧
    (∑ k : Fin 2048, s (ix2 ⟨17 + p.val, by omega⟩ k) * w k = if (1024 * i + p.val + 1) % 4096 = 0 then 0 else ∑ k : Fin 2048, Spec.row I (1024 * i + p.val + 1) k * w k)

variable (m : (ℓ : Loc nD τ sig) → Buf (Elt Ideal) ℓ) (c : Dev nD)

/-- The row block of a grid point. -/
theorem coord0 : ∀ t : Fin grid0.N, (grid0.coords t 0).val = t.val / 11 := by decide +kernel

/-- The scratch that a point writes holds its row block. -/
theorem holds_scr (t : Fin cfg0.N) : Holds (inp m c) (t.val / 11) (scr (grid0.coords t) (iblk m c 0 t) (iblk m c 1 t) (iblk m c 2 t)) := by
  intro w p
  have ht : t.val < 352 := t.isLt
  have hp := p.isLt
  have hc : (grid0.coords t 0).val = (⟨t.val / 11, by omega⟩ : Fin 32).val := coord0 t
  have same : ∀ (r : Fin 1056) (q : Fin 1024), r.val = 16 + q.val → ∀ k, scr (F := Ideal) (grid0.coords t) (iblk m c 0 t) (iblk m c 1 t) (iblk m c 2 t) (ix2 r k)
      = Spec.row (inp m c) (1024 * (t.val / 11) + q.val) k := fun r q h k => (scr_same _ _ _ _ r q h k).trans (blk0 m c t q k)
  refine ⟨?_, ?_, ?_⟩
  · by_cases h0 : p.val = 0
    · have e : ∀ k, scr (F := Ideal) (grid0.coords t) (iblk m c 0 t) (iblk m c 1 t) (iblk m c 2 t) (ix2 ⟨15 + p.val, by omega⟩ k)
          = Spec.row (inp m c) (16 * (64 * (t.val / 11) - 1) + 15) k * (if t.val / 11 % 4 = 0 then 0 else 1) := fun k =>
        (scr_prev _ ⟨t.val / 11, by omega⟩ hc _ _ _ ⟨15 + p.val, by omega⟩ (by show 15 + p.val = 15; omega) k).trans (congrArg (· * _) (blk1 m c t 15 k))
      rw [Finset.sum_congr rfl fun k _ => congrArg (· * w k) (e k)]
      by_cases h4 : t.val / 11 % 4 = 0
      · rw [if_pos (show (1024 * (t.val / 11) + p.val) % 4096 = 0 by omega)]
        refine Finset.sum_eq_zero fun k _ => ?_
        rw [if_pos h4, mul_zero, zero_mul]
      · rw [if_neg (show ¬(1024 * (t.val / 11) + p.val) % 4096 = 0 by omega)]
        refine Finset.sum_congr rfl fun k _ => ?_
        rw [if_neg h4, mul_one]
        exact congrArg (fun r => Spec.row (inp m c) r k * w k) (by omega)
    · rw [if_neg (by omega)]
      refine Finset.sum_congr rfl fun k _ => ?_
      rw [same ⟨15 + p.val, by omega⟩ ⟨p.val - 1, by omega⟩ (by show 15 + p.val = 16 + (p.val - 1); omega) k]
      exact congrArg (fun r => Spec.row (inp m c) r k * w k) (by show 1024 * (t.val / 11) + (p.val - 1) = _; omega)
  · exact Finset.sum_congr rfl fun k _ => congrArg (· * w k) (same _ p rfl k)
  · by_cases h0 : p.val = 1023
    · have e : ∀ k, scr (F := Ideal) (grid0.coords t) (iblk m c 0 t) (iblk m c 1 t) (iblk m c 2 t) (ix2 ⟨17 + p.val, by omega⟩ k)
          = Spec.row (inp m c) (16 * min (64 * (t.val / 11 + 1)) 2047 + 0) k * (if (t.val / 11 + 1) % 4 = 0 then 0 else 1) := fun k =>
        (scr_next _ ⟨t.val / 11, by omega⟩ hc _ _ _ ⟨17 + p.val, by omega⟩ (by show 17 + p.val = 1040; omega) k).trans (congrArg (· * _) (blk2 m c t 0 k))
      rw [Finset.sum_congr rfl fun k _ => congrArg (· * w k) (e k)]
      by_cases h4 : (t.val / 11 + 1) % 4 = 0
      · rw [if_pos (show (1024 * (t.val / 11) + p.val + 1) % 4096 = 0 by omega)]
        refine Finset.sum_eq_zero fun k _ => ?_
        rw [if_pos h4, mul_zero, zero_mul]
      · rw [if_neg (show ¬(1024 * (t.val / 11) + p.val + 1) % 4096 = 0 by omega)]
        refine Finset.sum_congr rfl fun k _ => ?_
        rw [if_neg h4, mul_one]
        exact congrArg (fun r => Spec.row (inp m c) r k * w k) (by omega)
    · rw [if_neg (by omega)]
      refine Finset.sum_congr rfl fun k _ => ?_
      rw [same ⟨17 + p.val, by omega⟩ ⟨p.val + 1, by omega⟩ (by show 17 + p.val = 16 + (p.val + 1); omega) k]
      exact congrArg (fun r => Spec.row (inp m c) r k * w k) (by show 1024 * (t.val / 11) + (p.val + 1) = _; omega)

/-- A hidden entry of a point's block. -/
theorem hid_eq (t : Fin cfg0.N) (s : Vec Ideal S1056x2048 .bf16) (hs : Holds (inp m c) (t.val / 11) s) (p : Fin 1024) (f : Fin 512) (h : 512 * (t.val % 11) + f.val < 5504) :
    hid s (iblk m c 3 t) (iblk m c 4 t) (iblk m c 6 t) (iblk m c 7 t) p f
      = Spec.act (Spec.conv (inp m c) (1024 * (t.val / 11) + p.val) (512 * (t.val % 11) + f.val)) (Spec.up (inp m c) (1024 * (t.val / 11) + p.val) (5504 + (512 * (t.val % 11) + f.val))) := by
  unfold hid Spec.conv Spec.before Spec.after Spec.up
  have e3 : ∀ k, (iblk m c 3 t : Vec Ideal S2048x512 .bf16) (ix2 k f) = _ := fun k => blk3 m c t k f h
  have e4 : ∀ k, (iblk m c 4 t : Vec Ideal S2048x512 .bf16) (ix2 k f) = _ := fun k => blk4 m c t k f h
  have h3 := hs (fun k => (inp m c).w (ix2 k (Fin.ofNat 11008 (512 * (t.val % 11) + f.val)))) p
  have h4 := hs (fun k => (inp m c).w (ix2 k (Fin.ofNat 11008 (5504 + (512 * (t.val % 11) + f.val))))) p
  rw [← h3.1, ← h3.2.1, ← h3.2.2, ← h4.2.1, blk6 m c t 0 f h, blk6 m c t 1 f h, blk6 m c t 2 f h, blk7 m c t f h]
  refine congrArg₂ Spec.act ?_ ?_
  · have g : ∀ r : Fin 1056, ∑ k : Fin 2048, s (ix2 r k) * (iblk m c 3 t : Vec Ideal S2048x512 .bf16) (ix2 k f)
        = ∑ k : Fin 2048, s (ix2 r k) * (inp m c).w (ix2 k (Fin.ofNat 11008 (512 * (t.val % 11) + f.val))) := fun r =>
      Finset.sum_congr rfl fun k _ => congrArg (s (ix2 r k) * ·) (e3 k)
    rw [g, g, g]
  · exact Finset.sum_congr rfl fun k _ => congrArg (_ * ·) (e4 k)

/-- A point's product, before the last hidden block. -/
theorem block_sum (t : Fin cfg0.N) (s : Vec Ideal S1056x2048 .bf16) (hs : Holds (inp m c) (t.val / 11) s) (hj : t.val % 11 ≤ 9) (p : Fin 1024) (n : Fin 2048) :
    ∑ f : Fin 512, hid s (iblk m c 3 t) (iblk m c 4 t) (iblk m c 6 t) (iblk m c 7 t) p f * wdB m c t (ix2 f n)
      = ∑ f : Fin 512, Spec.term (inp m c) (1024 * (t.val / 11) + p.val) n (512 * (t.val % 11) + f.val) := by
  refine Finset.sum_congr rfl fun f _ => ?_
  have h : 512 * (t.val % 11) + f.val < 5504 := by have := f.isLt; omega
  unfold Spec.term
  rw [hid_eq m c t s hs p f h, blk5 m c t f n h]

/-- The last one's. -/
theorem last_sum (t : Fin cfg0.N) (s : Vec Ideal S1056x2048 .bf16) (hs : Holds (inp m c) (t.val / 11) s) (hj : t.val % 11 = 10) (p : Fin 1024) (n : Fin 2048) :
    ∑ f : Fin 384, hid s (iblk m c 3 t) (iblk m c 4 t) (iblk m c 6 t) (iblk m c 7 t) p (wide f) * top (wdB m c t) (ix2 f n)
      = ∑ f : Fin 384, Spec.term (inp m c) (1024 * (t.val / 11) + p.val) n (5120 + f.val) := by
  refine Finset.sum_congr rfl fun f _ => ?_
  have h : 512 * (t.val % 11) + (wide f).val < 5504 := by have : (wide f).val < 384 := f.isLt; omega
  have e : top (wdB m c t) (ix2 f n) = wdB m c t (ix2 (wide f) n) := ld_at _ 0 0 _ f n _ _ (Nat.zero_add _).symm (Nat.zero_add _).symm
  rw [e, hid_eq m c t s hs p (wide f) h, blk5 m c t (wide f) n h]
  exact congrArg (Spec.term (inp m c) (1024 * (t.val / 11) + p.val) n) (by show 512 * (t.val % 11) + f.val = 5120 + f.val; omega)

/-- After a first point the scratch holds the row block, and the output block the first sum. -/
theorem first_point (t : Fin cfg0.N) (h : t.val % 11 = 0) : Holds (inp m c) (t.val / 11) (outsAt m c t.val t.isLt).2 ∧ ∀ (p : Fin 1024) (n : Fin 2048),
    (outsAt m c t.val t.isLt).1 (ix2 p n) = ∑ f : Fin 512, Spec.term (inp m c) (1024 * (t.val / 11) + p.val) n (512 * (t.val % 11) + f.val) := by
  have hs := holds_scr m c t
  rw [outsAt_A m c t h]
  exact ⟨hs, fun p n => (resA_apply _ _ _ _ _ _ p n).trans (block_sum m c t _ hs (by omega) p n)⟩

/-- A middle point keeps the scratch, and adds its sum. -/
theorem middle_point (t : Fin cfg0.N) (h : t.val % 11 ≠ 0) (h' : t.val % 11 ≠ 10) (q : Vec Ideal S1024x2048 .f32 × Vec Ideal S1056x2048 .bf16)
    (e : outsAt m c (t.val - 1) (Nat.lt_of_le_of_lt (Nat.sub_le _ _) t.isLt) = q) (hs : Holds (inp m c) (t.val / 11) q.2) :
    Holds (inp m c) (t.val / 11) (outsAt m c t.val t.isLt).2 ∧ ∀ (p : Fin 1024) (n : Fin 2048),
      (outsAt m c t.val t.isLt).1 (ix2 p n) = q.1 (ix2 p n) + ∑ f : Fin 512, Spec.term (inp m c) (1024 * (t.val / 11) + p.val) n (512 * (t.val % 11) + f.val) := by
  rw [outsAt_B m c t h h', e]
  exact ⟨hs, fun p n => (resB_apply _ _ _ _ _ _ _ p n).trans (congrArg (q.1 (ix2 p n) + ·) (block_sum m c t _ hs (by omega) p n))⟩

/-- Up to a middle point: the scratch holds the row block, and the output block the sums so far. -/
theorem partial_sums (j : ℕ) (hj : j ≤ 9) : ∀ t : Fin cfg0.N, t.val % 11 = j →
    Holds (inp m c) (t.val / 11) (outsAt m c t.val t.isLt).2 ∧ ∀ (p : Fin 1024) (n : Fin 2048),
      (outsAt m c t.val t.isLt).1 (ix2 p n) = ∑ j' ∈ Finset.range (j + 1), ∑ f : Fin 512, Spec.term (inp m c) (1024 * (t.val / 11) + p.val) n (512 * j' + f.val) := by
  induction j with
  | zero =>
    intro t h
    obtain ⟨hs, ho⟩ := first_point m c t h
    refine ⟨hs, fun p n => (ho p n).trans ?_⟩
    rw [Finset.sum_range_one, h]
  | succ j ih =>
    intro t h
    have hlt : t.val - 1 < cfg0.N := Nat.lt_of_le_of_lt (Nat.sub_le _ _) t.isLt
    have hd : (t.val - 1) / 11 = t.val / 11 := by omega
    obtain ⟨hs, ho⟩ := ih (by omega) ⟨t.val - 1, hlt⟩ (by show (t.val - 1) % 11 = j; omega)
    dsimp only at hs ho
    rw [hd] at hs ho
    obtain ⟨hs', ho'⟩ := middle_point m c t (by omega) (by omega) _ rfl hs
    refine ⟨hs', fun p n => (ho' p n).trans ?_⟩
    rw [ho p n, h, Finset.sum_range_succ _ (j + 1)]

/-- A last point leaves the finished rows of its block. -/
theorem finished (t : Fin cfg0.N) (h : t.val % 11 = 10) (p : Fin 1024) (n : Fin 2048) :
    (outsAt m c t.val t.isLt).1 (ix2 p n) = Spec.out (inp m c) (1024 * (t.val / 11) + p.val) n := by
  have hlt : t.val - 1 < cfg0.N := Nat.lt_of_le_of_lt (Nat.sub_le _ _) t.isLt
  have hd : (t.val - 1) / 11 = t.val / 11 := by omega
  obtain ⟨hs, ho⟩ := partial_sums m c 9 (Nat.le_refl _) ⟨t.val - 1, hlt⟩ (by show (t.val - 1) % 11 = 9; omega)
  dsimp only at hs ho
  rw [hd] at hs ho
  rw [outsAt_C m c t h]
  generalize outsAt m c (t.val - 1) (Nat.lt_of_le_of_lt (Nat.sub_le _ _) t.isLt) = q at hs ho ⊢
  refine (resC_apply _ _ _ _ _ _ _ _ _ _ p n).trans ?_
  unfold Spec.out
  have eg : (fun k => (iblk m c 8 t : Vec Ideal S1x2048 .f32) (ix2 0 k)) = fun k => (inp m c).g (ix1 k) := funext fun k => blk8 m c t k
  have eb : (fun k => (iblk m c 9 t : Vec Ideal S1x2048 .f32) (ix2 0 k)) = fun k => (inp m c).b (ix1 k) := funext fun k => blk9 m c t k
  rw [eg, eb]
  refine congrArg (fun z => Spec.norm z _ _ n) (funext fun k => ?_)
  rw [blk0 m c t p k, ho p k, last_sum m c t _ hs h p k, Spec.sum_blocks (Spec.term (inp m c) (1024 * (t.val / 11) + p.val) k)]
  rfl

/-- The normalised rows, as an array. -/
def spec (I : Spec.In) : FVec Ideal S32768x2048 .f32 := fun y => Spec.out I (y 0).val (y 1)

/-- The output block leaves the chip after a row block's last point. -/
theorem flushes : ∀ t : Fin grid0.N, (cfg0.win 10).flush t = true → t.val % 11 = 10 := by decide +kernel

/-- THE RESULT ARRAY of the feed-forward kernel. -/
theorem result : (dats m 0 c).arrAt 10 cfg0.N = spec (inp m c) := by
  refine (dats m 0 c).arrAt_eq_of_covers 10 _ (by decide +kernel) fun t hf y => ?_
  have hm : t.val % 11 = 10 := flushes t hf
  blk_simp
  rw [after_10]
  refine (congrArg (outsAt m c t.val t.isLt).1 (eq_ix2 y)).trans ((finished m c t hm (y 0) (y 1)).trans ?_)
  unfold spec
  refine congrArg₂ (Spec.out (inp m c)) ?_ (Fin.ext ?_)
  · blk_simp [index10]
    show 1024 * (t.val / 11) + (y 0).val = t.val / 11 * 1024 + (y 0).val
    omega
  · blk_simp [index10]

end Cert.Ffn

end
-- ==== Proof.FfnRef.lean ====
/- The feed-forward reference's result at an index: the normalised row of `Cert.Ffn.Spec`. -/
module

public import proofs.«01_k».proof.Proof.Gen.Reference2Ideal.Read
public import proofs.«01_k».proof.Proof.FfnSpec
public import Idealize.ShloMosaic.Lib.KernelVsHost

@[expose] public section

noncomputable section

namespace Cert.Ffn.RefValue

open Cert.Reference2Ideal Cert.Reference2Ideal.Gen Cert.Reference2Ideal.Read Idealize.ShloMosaic Idealize.ShloMosaic.TcCoe Idealize.ShloMosaic.ValueIdx

variable (I : Spec.In)

/-- The row of a batch and a token. -/
abbrev place (b : Fin 8) (i : Fin 4096) : ℕ := 4096 * b.val + i.val

theorem row_place (b : Fin 8) (i : Fin 4096) (k : Fin 2048) : Spec.row I (place b i) k = I.x (ix3 b i k) := by
  have hb := b.isLt
  have hi := i.isLt
  unfold Spec.row place
  congr 2
  · exact Fin.ext (by show (4096 * b.val + i.val) / 4096 % 8 = b.val; omega)
  · exact Fin.ext (by show (4096 * b.val + i.val) % 4096 = i.val; omega)

/-- The up projection. -/
theorem up_apply (b : Fin 8) (i : Fin 4096) (n : Fin 11008) : val_main_v0 (F := Ideal) I.x I.w (ix3 b i n) = Spec.up I (place b i) n.val := by
  have hn := n.isLt
  rw [val_main_v0_apply]
  unfold Spec.up
  refine Finset.sum_congr rfl fun k _ => congrArg₂ (· * ·) ((congrArg I.x (eq_ix3 _)).trans (row_place I b i k).symm) ?_
  refine congrArg I.w ((eq_ix2 _).trans (congrArg (ix2 k) (Fin.ext ?_)))
  show n.val = n.val % 11008
  omega

/-- The padded gates inside the sequence. -/
theorem pad_in (b : Fin 8) (j : Fin 4098) (i : Fin 4096) (hj : j.val = i.val + 1) (f : Fin 5504) :
    val_main_v3 (F := Ideal) I.x I.w (ix3 b j f) = Spec.up I (place b i) f.val := by
  unfold val_main_v3
  refine (pad_apply_of_inside ![0, 1, 0] ![0, 1, 0] ![0, 0, 0] _ _ pads_S8x4096x5504_S8x4098x5504_000_110_000 h_S_ (ix3 b j f) (ix3 b i f) fun a => ?_).trans ?_
  · match a with
    | ⟨0, _⟩ => show b.val = 0 + b.val * (0 + 1); omega
    | ⟨1, _⟩ => show j.val = 1 + i.val * (0 + 1); omega
    | ⟨2, _⟩ => show f.val = 0 + f.val * (0 + 1); omega
  · rw [val_main_v1_apply]
    refine (congrArg (val_main_v0 (F := Ideal) I.x I.w) (eq_ix3 _)).trans (up_apply I b i ⟨f.val, by omega⟩)

/-- The padding value. -/
theorem pad_val : val_main_call0_v0 (F := Ideal) (Shape.Idx.first h_S_) = (0 : EReal) := by
  rw [val_main_call0_v0_apply, val_main_c_apply]
  show ((((0#32 : BitVec 32).toInt : ℤ) : ℝ) : EReal) = 0
  simp

/-- The padded gates outside it. -/
theorem pad_out (b : Fin 8) (j : Fin 4098) (hj : j.val = 0 ∨ j.val = 4097) (f : Fin 5504) :
    val_main_v3 (F := Ideal) I.x I.w (ix3 b j f) = 0 := by
  unfold val_main_v3
  refine (pad_apply_of_not_inside (s := S8x4096x5504) (t := S8x4098x5504) ![0, 1, 0] ![0, 1, 0] ![0, 0, 0] _ _ pads_S8x4096x5504_S8x4098x5504_000_110_000 h_S_ (ix3 b j f) 1 ?_).trans pad_val
  rintro ⟨h1, _, h3⟩
  have h1' : 1 ≤ j.val := h1
  have h3' : (j.val - 1) / (0 + 1) < 4096 := h3
  omega

/-- The first tap's gates. -/
theorem v4_apply (b : Fin 8) (i : Fin 4096) (f : Fin 5504) : val_main_v4 (F := Ideal) I.x I.w (ix3 b i f) = Spec.before I (place b i) f.val := by
  have hi := i.isLt
  rw [val_main_v4_apply]
  unfold Spec.before
  refine (congrArg (val_main_v3 (F := Ideal) I.x I.w) (eq_ix3 _)).trans ?_
  by_cases h : i.val = 0
  · rw [if_pos (by show (4096 * b.val + i.val) % 4096 = 0; omega)]
    exact pad_out I b _ (.inl h) f
  · rw [if_neg (by show ¬(4096 * b.val + i.val) % 4096 = 0; omega)]
    refine (pad_in I b _ ⟨i.val - 1, by omega⟩ (by show i.val = i.val - 1 + 1; omega) f).trans ?_
    exact congrArg (Spec.up I · f.val) (by show 4096 * b.val + (i.val - 1) = 4096 * b.val + i.val - 1; omega)

/-- The second tap's. -/
theorem v10_apply (b : Fin 8) (i : Fin 4096) (f : Fin 5504) : val_main_v10 (F := Ideal) I.x I.w (ix3 b i f) = Spec.up I (place b i) f.val := by
  have hi := i.isLt
  rw [val_main_v10_apply]
  exact (congrArg (val_main_v3 (F := Ideal) I.x I.w) (eq_ix3 _)).trans (pad_in I b _ i (by show 1 + i.val = i.val + 1; omega) f)

/-- The third tap's. -/
theorem v17_apply (b : Fin 8) (i : Fin 4096) (f : Fin 5504) : val_main_v17 (F := Ideal) I.x I.w (ix3 b i f) = Spec.after I (place b i) f.val := by
  have hi := i.isLt
  rw [val_main_v17_apply]
  unfold Spec.after
  refine (congrArg (val_main_v3 (F := Ideal) I.x I.w) (eq_ix3 _)).trans ?_
  by_cases h : i.val = 4095
  · rw [if_pos (by show (4096 * b.val + i.val + 1) % 4096 = 0; omega)]
    exact pad_out I b _ (.inr (by show 2 + i.val = 4097; omega)) f
  · rw [if_neg (by show ¬(4096 * b.val + i.val + 1) % 4096 = 0; omega)]
    refine (pad_in I b _ ⟨i.val + 1, by omega⟩ (by show 2 + i.val = i.val + 1 + 1; omega) f).trans ?_
    exact congrArg (Spec.up I · f.val) (by show 4096 * b.val + (i.val + 1) = 4096 * b.val + i.val + 1; omega)

theorem fin_self (f : Fin 5504) : (Fin.ofNat 5504 f.val) = f := Fin.ext (Nat.mod_eq_of_lt f.isLt)

/-- The taps, spread over the rows. -/
theorem v8_apply (b : Fin 8) (i : Fin 4096) (f : Fin 5504) : val_main_v8 (F := Ideal) I.t (ix3 b i f) = I.t (ix2 0 f) := by
  rw [val_main_v8_apply, val_main_v7_apply, val_main_v6_apply, val_main_v5_apply]
  exact congrArg I.t (funext fun a => Fin.ext (by have := f.isLt; match a with | ⟨0, _⟩ => rfl | ⟨1, _⟩ => (first | rfl | (show f.val % 5504 = f.val; omega))))
theorem v14_apply (b : Fin 8) (i : Fin 4096) (f : Fin 5504) : val_main_v14 (F := Ideal) I.t (ix3 b i f) = I.t (ix2 1 f) := by
  rw [val_main_v14_apply, val_main_v13_apply, val_main_v12_apply, val_main_v11_apply]
  exact congrArg I.t (funext fun a => Fin.ext (by have := f.isLt; match a with | ⟨0, _⟩ => rfl | ⟨1, _⟩ => (first | rfl | (show f.val % 5504 = f.val; omega))))
theorem v21_apply (b : Fin 8) (i : Fin 4096) (f : Fin 5504) : val_main_v21 (F := Ideal) I.t (ix3 b i f) = I.t (ix2 2 f) := by
  rw [val_main_v21_apply, val_main_v20_apply, val_main_v19_apply, val_main_v18_apply]
  exact congrArg I.t (funext fun a => Fin.ext (by have := f.isLt; match a with | ⟨0, _⟩ => rfl | ⟨1, _⟩ => (first | rfl | (show f.val % 5504 = f.val; omega))))
theorem v25_apply (b : Fin 8) (i : Fin 4096) (f : Fin 5504) : val_main_v25 (F := Ideal) I.c (ix3 b i f) = I.c (ix1 f) := by
  rw [val_main_v25_apply, val_main_v24_apply]
  exact congrArg I.c (funext fun a => match a with | ⟨0, _⟩ => rfl)

/-- The convolution. -/
theorem conv_apply (b : Fin 8) (i : Fin 4096) (f : Fin 5504) : val_main_v26 (F := Ideal) I.x I.w I.t I.c (ix3 b i f) = Spec.conv I (place b i) f.val := by
  unfold Spec.conv Spec.tap3
  rw [fin_self, val_main_v26_apply, val_main_v23_apply, val_main_v16_apply, val_main_v9_apply, val_main_v15_apply, val_main_v22_apply,
    v4_apply, v8_apply, v10_apply, v14_apply, v17_apply, v21_apply, v25_apply]
  rfl

theorem ofBits_one : Ideal.ofBits .f32 0x3F800000#32 = 1 := by
  simp [Ideal.ofBits, Ideal.ieee, -EReal.coe_mul]; norm_num

/-- The complementary error function of a negated product. -/
theorem erfc_eq (u c : EReal) : Ideal.erfc (-u * c) = Ideal.ofBits .f32 0x3F800000#32 + Ideal.erf (u * c) := by
  rw [EReal.neg_mul, Ideal.erfc_neg, ofBits_one]

/-- The hidden row. -/
theorem hidden_apply (b : Fin 8) (i : Fin 4096) (f : Fin 5504) :
    val_main_v36 (F := Ideal) I.x I.w I.t I.c (ix3 b i f) = Spec.act (Spec.conv I (place b i) f.val) (Spec.up I (place b i) (5504 + f.val)) := by
  have hv : val_main_v2 (F := Ideal) I.x I.w (ix3 b i f) = Spec.up I (place b i) (5504 + f.val) := by
    rw [val_main_v2_apply]
    exact (congrArg (val_main_v0 (F := Ideal) I.x I.w) (eq_ix3 _)).trans (up_apply I b i ⟨5504 + f.val, by omega⟩)
  unfold Spec.act
  rw [val_main_v36_apply, hv, val_main_v33_apply, val_main_v28_apply, val_main_v27_apply, val_main_v32_apply, val_main_v31_apply, val_main_v29_apply,
    val_main_v30_apply, conv_apply, val_main_cst_apply, val_main_cst_0_apply, ← erfc_eq]
  rfl

/-- The row before normalisation. -/
theorem pre_apply (b : Fin 8) (i : Fin 4096) (n : Fin 2048) :
    val_main_v38 (F := Ideal) I.x I.w I.t I.c I.d (ix3 b i n) = Spec.pre I (place b i) n := by
  unfold Spec.pre
  rw [val_main_v38_apply, val_main_v35_apply, val_main_v34_apply, val_main_cst_1_apply, val_main_v37_apply, row_place]
  refine congrArg (Ideal.ofBits .f32 0x3F9837F0#32 * I.x (ix3 b i n) + ·) (Finset.sum_congr rfl fun f _ => ?_)
  unfold Spec.term
  rw [fin_self]
  exact congrArg₂ (· * ·) ((congrArg _ (eq_ix3 _)).trans (hidden_apply I b i f)) (congrArg I.d (eq_ix2 _))

theorem ofBits_zero : Ideal.ofBits .f32 0x00000000#32 = 0 := by
  simp [Ideal.ofBits, Ideal.ieee]

/-- The row's mean. -/
theorem mean_apply (b : Fin 8) (i : Fin 4096) : val_main_v42 (F := Ideal) I.x I.w I.t I.c I.d (ix3 b i 0) = Spec.mean (Spec.pre I (place b i)) := by
  unfold Spec.mean
  rw [val_main_v42_apply, val_main_v40_apply, val_main_v39_apply, val_main_v41_apply, val_main_cst_2_apply, val_main_cst_3_apply]
  refine congrArg (Ideal.div · (Ideal.ofBits .f32 0x45000000#32)) ?_
  refine (congrArg (· + _) ofBits_zero).trans ((zero_add _).trans (Finset.sum_congr rfl fun k _ => ?_))
  exact (congrArg _ (eq_ix3 _)).trans (pre_apply I b i k)

/-- The row less its mean. -/
theorem dev_apply (b : Fin 8) (i : Fin 4096) (n : Fin 2048) :
    val_main_v44 (F := Ideal) I.x I.w I.t I.c I.d (ix3 b i n) = Spec.pre I (place b i) n - Spec.mean (Spec.pre I (place b i)) := by
  rw [val_main_v44_apply, pre_apply, val_main_v43_apply]
  exact congrArg (Spec.pre I (place b i) n - ·) ((congrArg _ (eq_ix3 _)).trans (mean_apply I b i))
theorem dev_apply' (b : Fin 8) (i : Fin 4096) (n : Fin 2048) :
    val_main_v51 (F := Ideal) I.x I.w I.t I.c I.d (ix3 b i n) = Spec.pre I (place b i) n - Spec.mean (Spec.pre I (place b i)) := by
  rw [val_main_v51_apply, pre_apply, val_main_v50_apply]
  exact congrArg (Spec.pre I (place b i) n - ·) ((congrArg _ (eq_ix3 _)).trans (mean_apply I b i))

/-- The row's variance. -/
theorem var_apply (b : Fin 8) (i : Fin 4096) : val_main_v49 (F := Ideal) I.x I.w I.t I.c I.d (ix3 b i 0)
    = Spec.mean (fun k => (Spec.pre I (place b i) k - Spec.mean (Spec.pre I (place b i))) * (Spec.pre I (place b i) k - Spec.mean (Spec.pre I (place b i)))) := by
  unfold Spec.mean
  rw [val_main_v49_apply, val_main_v47_apply, val_main_v46_apply, val_main_v48_apply, val_main_cst_4_apply, val_main_cst_5_apply]
  refine congrArg (Ideal.div · (Ideal.ofBits .f32 0x45000000#32)) ?_
  refine (congrArg (· + _) ofBits_zero).trans ((zero_add _).trans (Finset.sum_congr rfl fun k _ => ?_))
  rw [val_main_v45_apply]
  exact congrArg₂ (· * ·) ((congrArg _ (eq_ix3 _)).trans (dev_apply I b i k)) ((congrArg _ (eq_ix3 _)).trans (dev_apply I b i k))

/-- THE REFERENCE'S RESULT before the rows are laid end to end. -/
theorem out_apply (b : Fin 8) (i : Fin 4096) (n : Fin 2048) :
    val_main_v62 (F := Ideal) I.x I.w I.t I.c I.d I.g I.b (ix3 b i n) = Spec.out I (place b i) n := by
  have hr : val_main_v55 (F := Ideal) I.x I.w I.t I.c I.d (ix3 b i n)
      = Ideal.rsqrt (Spec.mean (fun k => (Spec.pre I (place b i) k - Spec.mean (Spec.pre I (place b i))) * (Spec.pre I (place b i) k - Spec.mean (Spec.pre I (place b i)))) + Ideal.ofBits .f32 0x3727C5AC#32) := by
    rw [val_main_v55_apply]
    refine (congrArg (val_main_v54 (F := Ideal) I.x I.w I.t I.c I.d) (show idx_main_v55 (ix3 b i n) = ix3 b i 0 from eq_ix3 _)).trans ?_
    rw [val_main_v54_apply, val_main_v53_apply, val_main_v52_apply, val_main_cst_6_apply]
    refine congrArg Ideal.rsqrt (congrArg (· + _) (var_apply I b i))
  have hg : val_main_v58 (F := Ideal) I.g (ix3 b i n) = I.g (ix1 n) := by
    rw [val_main_v58_apply, val_main_v57_apply]
    exact congrArg I.g (funext fun a => match a with | ⟨0, _⟩ => rfl)
  have hb : val_main_v61 (F := Ideal) I.b (ix3 b i n) = I.b (ix1 n) := by
    rw [val_main_v61_apply, val_main_v60_apply]
    exact congrArg I.b (funext fun a => match a with | ⟨0, _⟩ => rfl)
  unfold Spec.out Spec.norm
  rw [val_main_v62_apply, val_main_v59_apply, val_main_v56_apply, dev_apply', hr, hg, hb]
  rfl

/-- THE REFERENCE'S RESULT at a row. -/
theorem result_apply (r : Fin 32768) (n : Fin 2048) :
    val_main_v63 (F := Ideal) I.x I.w I.t I.c I.d I.g I.b (ix2 r n) = Spec.out I r.val n := by
  have hr := r.isLt
  have hn := n.isLt
  rw [val_main_v63_apply]
  have e : idx_main_v63 (ix2 r n) = ix3 (⟨r.val / 4096, by omega⟩ : Fin 8) (⟨r.val % 4096, by omega⟩ : Fin 4096) n := funext fun a => Fin.ext (by
    match a with
    | ⟨0, _⟩ => show (r.val * 2048 + n.val) / 8388608 = r.val / 4096; omega
    | ⟨1, _⟩ => show (r.val * 2048 + n.val) / 2048 % 4096 = r.val % 4096; omega
    | ⟨2, _⟩ => show (r.val * 2048 + n.val) % 2048 = n.val; omega)
  rw [e, out_apply]
  exact congrArg (Spec.out I · n) (by show 4096 * (r.val / 4096) + r.val % 4096 = r.val; omega)

end Cert.Ffn.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Attention
public import proofs.«01_k».proof.Proof.RefValue
public import proofs.«01_k».proof.Proof.Finite
public import proofs.«01_k».proof.Proof.FfnClaims
public import proofs.«01_k».proof.Proof.FfnValue
public import proofs.«01_k».proof.Proof.FfnRef
public import Idealize.ShloMosaic.Adequacy
public import Idealize.ShloMosaic.Init
public import Idealize.ShloMosaic.Lib.Claim

@[expose] public section

noncomputable section

namespace Cert.Proof

open Idealize.ShloMosaic Idealize.ShloMosaic.ValueIdx Idealize.SL.Sem

/-- The kernel's frame. -/
theorem frame_kernel : Cert.quiescent_Kernel (hKernel := Cert.Kernel.Gen.facts) := fun m ρ _ => Cert.Kernel.Gen.frame m ρ

/-- The idealized kernel's frame. -/
theorem frame_ideal : Cert.quiescent_KernelIdeal (hKernelIdeal := Cert.KernelIdeal.Gen.facts) := fun m ρ _ => Cert.KernelIdeal.Gen.frame m ρ

/-- The reference's frame: its run leaves the arguments, and it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's constant stands for −∞. -/
theorem preserved : Cert.preserves_Kernel_KernelIdeal := IdealRules.named_const.statement Cert.KernelIdeal.κ "mask" .f32 0xF149F2CA#32 ⊥ rfl

/-- The reference's result is the attention. -/
theorem reference_result (A : Spec.Qkv) (B : Spec.Rpb) :
    Cert.ReferenceIdeal.Read.val_main_v90 (F := Ideal) A B = Cert.KernelIdeal.Attention.spec A B := by
  funext y
  have h2 : (y 2).val < 1024 := (y 2).isLt
  refine (congrArg (Cert.ReferenceIdeal.Read.val_main_v90 (F := Ideal) A B) (eq_ix3 y)).trans ?_
  exact RefValue.result_apply A B (y 0) (y 1) ⟨(y 2).val / 64, by omega⟩ ⟨(y 2).val % 64, by omega⟩ (y 2) (by show (y 2).val = 64 * ((y 2).val / 64) + (y 2).val % 64; omega)

/-- Kernel and reference give the same attention, for finite queries, keys and biases. -/
theorem attention : Cert.algebraic_KernelIdeal_ReferenceIdeal_pre_finite_scores (hKernelIdeal := Cert.KernelIdeal.Gen.facts)
    (hReferenceIdeal := Cert.ReferenceIdeal.Gen.facts) (hPre_finite_scores := Finite.facts) := by
  intro m g m' g' hpre hargs
  refine ⟨fun c => Cert.KernelIdeal.Attention.spec (Cert.KernelIdeal.Attention.argA m c) (Cert.KernelIdeal.Attention.argB m c), ?_, ?_⟩
  · refine (θ_run Cert.KernelIdeal.defs _ _).mono (fun r h c => ?_) (Cert.KernelIdeal.Value.run_blocks (F := Ideal) m g)
    have hr := Finite.real _ _ (hpre c)
    exact ⟨(h c).1.trans (Cert.KernelIdeal.Attention.result m c hr.1 hr.2), (h c).2⟩
  · refine (θ_run Cert.ReferenceIdeal.defs _ _).mono (fun r h c => ⟨?_, (h c).2⟩) (Cert.ReferenceIdeal.Value.run (F := Ideal) m' g')
    refine ((h c).1.trans (Cert.ReferenceIdeal.Read.val_main_v90_eq m' c)).trans ?_
    rw [(hargs c).1, (hargs c).2]
    exact reference_result _ _

/-- The feed-forward reference's result is the specification's rows. -/
theorem ffn_reference_result (I : Cert.Ffn.Spec.In) :
    Cert.Reference2Ideal.Read.val_main_v63 (F := Ideal) I.x I.w I.t I.c I.d I.g I.b = Cert.Ffn.spec I := by
  funext y
  refine (congrArg (Cert.Reference2Ideal.Read.val_main_v63 (F := Ideal) I.x I.w I.t I.c I.d I.g I.b) (eq_ix2 y)).trans ?_
  exact Cert.Ffn.RefValue.result_apply I (y 0) (y 1)

/-- Kernel and reference give the same rows of the feed-forward part. -/
theorem feed_forward : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Ffn.spec (Cert.Ffn.inp m c), ?_, ?_⟩
  · refine (θ_run Cert.Kernel2Ideal.defs _ _).mono (fun r h c => ?_) (θ_run_and (Cert.Ffn.unchanged (F := Ideal) m g) (Cert.Ffn.run_all (F := Ideal) m g))
    exact ⟨((h.2.1 c).1 10).trans (Cert.Ffn.result m c), h.1 c⟩
  · refine (θ_run Cert.Reference2Ideal.defs _ _).mono (fun r h c => ⟨?_, (h c).2⟩) (Cert.Reference2Ideal.Value.run (F := Ideal) m' g')
    refine ((h c).1.trans (Cert.Reference2Ideal.Read.val_main_v63_eq m' c)).trans ?_
    obtain ⟨h0, h1, h2, h3, h4, h5, h6⟩ := hargs c
    rw [h0, h1, h2, h3, h4, h5, h6]
    exact ffn_reference_result (Cert.Ffn.inp m c)

/-- Everything claimed. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Finite.facts, frame_kernel, frame_ideal,
    fun m ρ _ => Cert.KernelIdeal.Gen.frame m ρ, frame_reference, fun m ρ _ => frame_reference m ρ trivial,
    Cert.Ffn.frame_kernel, Cert.Ffn.frame_ideal, Cert.Ffn.frame_reference, preserved, attention, trivial, feed_forward⟩

end Cert.Proof

end
